-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v38_1)) (v2 : (c : Dev Cert.KernelIdeal.nD) → Buf (Elt Ideal) ((c.tc : Thread Cert.KernelIdeal.nD Cert.KernelIdeal.τ).loc Cert.KernelIdeal.main_v38_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_v38_1) = v1 c
          ∧ r.2.mem ((c.tc : Thread Cert.KernelIdeal.nD Cert.KernelIdeal.τ).loc Cert.KernelIdeal.main_v38_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_v6) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v9) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S4096x2048 : Shape := ⟨2, ![4096, 2048]⟩
abbrev S4096x1024 : Shape := ⟨2, ![4096, 1024]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v16 : IVec S_ 1) (main_v17 : FVec F S4096x1024 .f32) : IVec S_ 1 :=
  let main_v18 : FVec F S4096x1024 .f32 := Host.absf main_v17
  let main_cst_4 : FVec F S_ .f32 := constant S_ .f32 0x7F800000#32
  let main_v19 : FVec F S4096x1024 .f32 := broadcastInDim S4096x1024 ![] bcast_S_S4096x1024 main_cst_4
  let main_v20 : IVec S4096x1024 1 := cmpf .olt main_v18 main_v19
  let main_c_5 : IVec S_ 1 := constantI S_ 1 1#1
  let main_v21 : IVec S_ 1 := (fun x v => Host.reduce IntOp.andi x v reducesTo_S4096x1024_S_d0_1 h_S_) main_v20 main_c_5
  let main_v22 : IVec S_ 1 := andi main_v16 main_v21
  main_v22

def fn {F : FTy → Type} [FloatOps F] (main_arg0 : FVec F S4096x2048 .bf16) (main_arg1 : FVec F S4096x2048 .bf16) (main_arg2 : FVec F S4096x1024 .bf16) (main_arg3 : FVec F S4096x1024 .bf16) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S4096x2048 .f32 := (extf .f32 · bitsLt_bf16_f32) main_arg1
  let main_v6 : FVec F S4096x2048 .f32 := Host.absf main_v5
  let main_cst_0 : FVec F S_ .f32 := constant S_ .f32 0x7F800000#32
  let main_v7 : FVec F S4096x2048 .f32 := broadcastInDim S4096x2048 ![] bcast_S_S4096x2048 main_cst_0
  let main_v8 : IVec S4096x2048 1 := cmpf .olt main_v6 main_v7
  let main_c_1 : IVec S_ 1 := constantI S_ 1 1#1
  let main_v9 : IVec S_ 1 := (fun x v => Host.reduce IntOp.andi x v reducesTo_S4096x2048_S_d0_1 h_S_) main_v8 main_c_1
  let main_v10 : IVec S_ 1 := andi main_v4 main_v9
  let main_v11 : FVec F S4096x1024 .f32 := (extf .f32 · bitsLt_bf16_f32) main_arg2
  let main_v12 : FVec F S4096x1024 .f32 := Host.absf main_v11
  let main_cst_2 : FVec F S_ .f32 := constant S_ .f32 0x7F800000#32
  let main_v13 : FVec F S4096x1024 .f32 := broadcastInDim S4096x1024 ![] bcast_S_S4096x1024 main_cst_2
  let main_v14 : IVec S4096x1024 1 := cmpf .olt main_v12 main_v13
  let main_c_3 : IVec S_ 1 := constantI S_ 1 1#1
  let main_v15 : IVec S_ 1 := (fun x v => Host.reduce IntOp.andi x v reducesTo_S4096x1024_S_d0_1 h_S_) main_v14 main_c_3
  let main_v16 : IVec S_ 1 := andi main_v10 main_v15
  let main_v17 : FVec F S4096x1024 .f32 := (extf .f32 · bitsLt_bf16_f32) main_arg3
  fn_part1 (F := F) main_v16 main_v17
-- ==== Kernel.lean ====
abbrev S4096x2048 : Shape := ⟨2, ![4096, 2048]⟩
abbrev S4096x1024 : Shape := ⟨2, ![4096, 1024]⟩
abbrev S10 : Shape := ⟨1, ![10]⟩
abbrev S4096x8x256 : Shape := ⟨3, ![4096, 8, 256]⟩
abbrev S8x4096x4096 : Shape := ⟨3, ![8, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S8x4096 : Shape := ⟨2, ![8, 4096]⟩
abbrev S8x4096x1 : Shape := ⟨3, ![8, 4096, 1]⟩
abbrev S4096x8x128 : Shape := ⟨3, ![4096, 8, 128]⟩
abbrev S8x128x4096 : Shape := ⟨3, ![8, 128, 4096]⟩
abbrev S8x1x4096 : Shape := ⟨3, ![8, 1, 4096]⟩
abbrev S1024x512 : Shape := ⟨2, ![1024, 512]⟩
abbrev S1 : Shape := ⟨1, ![1]⟩
abbrev S1024x256 : Shape := ⟨2, ![1024, 256]⟩
abbrev S2x1x1024 : Shape := ⟨3, ![2, 1, 1024]⟩
abbrev S4096x512 : Shape := ⟨2, ![4096, 512]⟩
abbrev S1024x128 : Shape := ⟨2, ![1024, 128]⟩
abbrev S128x1024 : Shape := ⟨2, ![128, 1024]⟩
abbrev S1024 : Shape := ⟨1, ![1024]⟩
abbrev S1x1024 : Shape := ⟨2, ![1, 1024]⟩
abbrev S512x256 : Shape := ⟨2, ![512, 256]⟩
abbrev S512x1024 : Shape := ⟨2, ![512, 1024]⟩
abbrev S1x1x1024 : Shape := ⟨3, ![1, 1, 1024]⟩
abbrev S512x128 : Shape := ⟨2, ![512, 128]⟩
abbrev S128x512 : Shape := ⟨2, ![128, 512]⟩
abbrev S512 : Shape := ⟨1, ![512]⟩
abbrev S1x512 : Shape := ⟨2, ![1, 512]⟩
abbrev S512x512 : Shape := ⟨2, ![512, 512]⟩
abbrev S1024x1024 : Shape := ⟨2, ![1024, 1024]⟩

abbrev nBuf : Space → Nat
  | .hbm => 54
  | .vmem => 20
  | .smem => 2
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x1024, .bf16⟩
  | .hbm, ⟨3, _⟩ => ⟨S4096x1024, .bf16⟩
  | .hbm, ⟨4, _⟩ => ⟨S4096x2048, .f32⟩
  | .hbm, ⟨5, _⟩ => ⟨S4096x2048, .f32⟩
  | .hbm, ⟨6, _⟩ => ⟨S4096x8x256, .f32⟩
  | .hbm, ⟨7, _⟩ => ⟨S4096x8x256, .f32⟩
  | .hbm, ⟨8, _⟩ => ⟨S8x4096x4096, .f32⟩
  | .hbm, ⟨9, _⟩ => ⟨S4096, .i32⟩
  | .hbm, ⟨10, _⟩ => ⟨S4096x1, .i32⟩
  | .hbm, ⟨11, _⟩ => ⟨S1x4096, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S_, .f32⟩
  | .hbm, ⟨16, _⟩ => ⟨S_, .f32⟩
  | .hbm, ⟨17, _⟩ => ⟨S8x4096x4096, .i1⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096, .f32⟩
  | .hbm, ⟨22, _⟩ => ⟨S8x4096x1, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S_, .f32⟩
  | .hbm, ⟨27, _⟩ => ⟨S8x4096, .f32⟩
  | .hbm, ⟨28, _⟩ => ⟨S8x4096, .f32⟩
  | .hbm, ⟨29, _⟩ => ⟨S8x4096, .f32⟩
  | .hbm, ⟨30, _⟩ => ⟨S4096x1024, .f32⟩
  | .hbm, ⟨31, _⟩ => ⟨S_, .f32⟩
  | .hbm, ⟨32, _⟩ => ⟨S8x4096, .f32⟩
  | .hbm, ⟨33, _⟩ => ⟨S_, .f32⟩
  | .hbm, ⟨34, _⟩ => ⟨S8x4096, .f32⟩
  | .hbm, ⟨35, _⟩ => ⟨S8x4096, .f32⟩
  | .hbm, ⟨36, _⟩ => ⟨S8x4096x1, .f32⟩
  | .hbm, ⟨37, _⟩ => ⟨S8x4096x4096, .f32⟩
  | .hbm, ⟨38, _⟩ => ⟨S8x4096x4096, .f32⟩
  | .hbm, ⟨39, _⟩ => ⟨S8x4096x4096, .f32⟩
  | .hbm, ⟨40, _⟩ => ⟨S_, .f32⟩
  | .hbm, ⟨41, _⟩ => ⟨S8x4096, .f32⟩
  | .hbm, ⟨42, _⟩ => ⟨S8x4096x1, .f32⟩
  | .hbm, ⟨43, _⟩ => ⟨S8x4096x4096, .f32⟩
  | .hbm, ⟨44, _⟩ => ⟨S8x4096x4096, .f32⟩
  | .hbm, ⟨45, _⟩ => ⟨S4096x8x128, .f32⟩
  | .hbm, ⟨46, _⟩ => ⟨S8x128x4096, .f32⟩
  | .hbm, ⟨47, _⟩ => ⟨S4096x8x128, .f32⟩
  | .hbm, ⟨48, _⟩ => ⟨S4096x1024, .f32⟩
  | .hbm, ⟨49, _⟩ => ⟨S4096x1024, .bf16⟩
  | .hbm, ⟨50, _⟩ => ⟨S8x1x4096, .f32⟩
  | .hbm, ⟨51, _⟩ => ⟨S4096x2048, .f32⟩
  | .hbm, ⟨52, _⟩ => ⟨S4096x2048, .f32⟩
  | .hbm, ⟨53, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S2x1x1024, .f32⟩
  | .local _ .vmem, ⟨11, _⟩ => ⟨S2x1x1024, .f32⟩
  | .local _ .vmem, ⟨12, _⟩ => ⟨S4096x512, .f32⟩
  | .local _ .vmem, ⟨13, _⟩ => ⟨S4096x512, .f32⟩
  | .local _ .vmem, ⟨14, _⟩ => ⟨S1024x512, .f32⟩
  | .local _ .vmem, ⟨15, _⟩ => ⟨S1024x512, .f32⟩
  | .local _ .vmem, ⟨16, _⟩ => ⟨S1024x256, .f32⟩
  | .local _ .vmem, ⟨17, _⟩ => ⟨S1024x256, .f32⟩
  | .local _ .vmem, ⟨18, _⟩ => ⟨S1024x512, .f32⟩
  | .local _ .vmem, ⟨19, _⟩ => ⟨S1024x256, .f32⟩
  | .local _ .smem, ⟨0, _⟩ => ⟨S10, .i32⟩
  | .local _ .smem, ⟨1, _⟩ => ⟨S10, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38_0 : Ref sig .tc := ⟨.hbm, 51, rfl⟩
abbrev main_v38_1 : Ref sig .tc := ⟨.hbm, 52, rfl⟩
abbrev main_v38_2 : Ref sig .tc := ⟨.hbm, 53, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 10], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c1024_i32 : BitVec 32 := 1024#32
  let v19 : BitVec 32 := Scalar.muli v1 c1024_i32
  let c0_i32_5 : BitVec 32 := 0#32
  let v20 : BitVec 32 := Scalar.addi v19 c0_i32_5
  v20
def k0_cond3 (v1 : BitVec 32) (v3 : BitVec 32) : BitVec 1 :=
  let v10 : BitVec 1 := Scalar.cmpi .eq v1 v3
  let v11 : BitVec 32 := Scalar.extui v10
  let c0_i32_2 : BitVec 32 := 0#32
  let v12 : BitVec 1 := Scalar.cmpi .ne v11 c0_i32_2
  v12

def k0_off2 (v1 : BitVec 32) : Fin 2 → Nat :=
  let c1024_i32 : BitVec 32 := 1024#32
  let v19 : BitVec 32 := Scalar.muli v1 c1024_i32
  let c0_i32_5 : BitVec 32 := 0#32
  let v20 : BitVec 32 := Scalar.addi v19 c0_i32_5
  let v21 : BitVec 32 := v20
  let v68 : Index := Scalar.indexCast v21
  let c0_35 : Index := 0#32
  ![v68.toNat, 0]
def k0_off3 (v1 : BitVec 32) : Fin 2 → Nat :=
  let c1024_i32 : BitVec 32 := 1024#32
  let v19 : BitVec 32 := Scalar.muli v1 c1024_i32
  let c0_i32_5 : BitVec 32 := 0#32
  let v20 : BitVec 32 := Scalar.addi v19 c0_i32_5
  let v21 : BitVec 32 := v20
  let v122 : Index := Scalar.indexCast v21
  let c256_68 : Index := 256#32
  ![v122.toNat, 256]
def k0_mult2 (v1 : BitVec 32) : BitVec 32 :=
  let c1024_i32_73 : BitVec 32 := 1024#32
  let v130 : BitVec 32 := Scalar.muli v1 c1024_i32_73
  let c512_i32 : BitVec 32 := 512#32
  let v131 : BitVec 32 := Scalar.addi v130 c512_i32
  v131
def k0_off4 (v1 : BitVec 32) : Fin 2 → Nat :=
  let c1024_i32_73 : BitVec 32 := 1024#32
  let v130 : BitVec 32 := Scalar.muli v1 c1024_i32_73
  let c512_i32 : BitVec 32 := 512#32
  let v131 : BitVec 32 := Scalar.addi v130 c512_i32
  let v132 : BitVec 32 := v131
  let v180 : Index := Scalar.indexCast v132
  let c0_104 : Index := 0#32
  ![v180.toNat, 0]
def k0_off5 (v1 : BitVec 32) : Fin 2 → Nat :=
  let c1024_i32_73 : BitVec 32 := 1024#32
  let v130 : BitVec 32 := Scalar.muli v1 c1024_i32_73
  let c512_i32 : BitVec 32 := 512#32
  let v131 : BitVec 32 := Scalar.addi v130 c512_i32
  let v132 : BitVec 32 := v131
  let v235 : Index := Scalar.indexCast v132
  let c256_140 : Index := 256#32
  ![v235.toNat, 256]
def k0_mult3 (v1 : BitVec 32) : BitVec 32 :=
  let c1024_i32 : BitVec 32 := 1024#32
  let v19 : BitVec 32 := Scalar.muli v1 c1024_i32
  let c0_i32_5 : BitVec 32 := 0#32
  let v20 : BitVec 32 := Scalar.addi v19 c0_i32_5
  v20
def k0_cond4 (v1 : BitVec 32) (v3 : BitVec 32) : BitVec 1 :=
  let v13 : BitVec 1 := Scalar.cmpi .sgt v1 v3
  let v14 : BitVec 32 := Scalar.extui v13
  let c0_i32_3 : BitVec 32 := 0#32
  let v15 : BitVec 1 := Scalar.cmpi .ne v14 c0_i32_3
  v15

def k0_off6 (v1 : BitVec 32) : Fin 2 → Nat :=
  let c1024_i32 : BitVec 32 := 1024#32
  let v19 : BitVec 32 := Scalar.muli v1 c1024_i32
  let c0_i32_5 : BitVec 32 := 0#32
  let v20 : BitVec 32 := Scalar.addi v19 c0_i32_5
  let v21 : BitVec 32 := v20
  let v59 : Index := Scalar.indexCast v21
  let c0_32 : Index := 0#32
  ![v59.toNat, 0]
def k0_off7 (v1 : BitVec 32) : Fin 2 → Nat :=
  let c1024_i32 : BitVec 32 := 1024#32
  let v19 : BitVec 32 := Scalar.muli v1 c1024_i32
  let c0_i32_5 : BitVec 32 := 0#32
  let v20 : BitVec 32 := Scalar.addi v19 c0_i32_5
  let v21 : BitVec 32 := v20
  let v104 : Index := Scalar.indexCast v21
  let c256_62 : Index := 256#32
  ![v104.toNat, 256]

def k0_chk1 (v1 : BitVec 32) (v3 : BitVec 32) : Prop :=
  (∀ (k0_h3 : k0_cond3 v1 v3 = 1#1), 1024 ∣ (k0_mult1 v1).toNat) ∧
  (∀ (k0_h3 : k0_cond3 v1 v3 = 1#1), ∀ a, (k0_off2 v1) a + S1024x256.size a ≤ S4096x512.size a) ∧
  (∀ (k0_h3 : k0_cond3 v1 v3 = 1#1), ∀ a, (k0_off3 v1) a + S1024x256.size a ≤ S4096x512.size a) ∧
  (∀ (k0_h3 : k0_cond3 v1 v3 = 1#1), 512 ∣ (k0_mult2 v1).toNat) ∧
  (∀ (k0_h3 : k0_cond3 v1 v3 = 1#1), ∀ a, (k0_off4 v1) a + S512x256.size a ≤ S4096x512.size a) ∧
  (∀ (k0_h3 : k0_cond3 v1 v3 = 1#1), ∀ a, (k0_off5 v1) a + S512x256.size a ≤ S4096x512.size a) ∧
  (∀ (k0_h4 : k0_cond4 v1 v3 = 1#1), 1024 ∣ (k0_mult3 v1).toNat) ∧
  (∀ (k0_h4 : k0_cond4 v1 v3 = 1#1), ∀ a, (k0_off6 v1) a + S1024x256.size a ≤ S4096x512.size a) ∧
  (∀ (k0_h4 : k0_cond4 v1 v3 = 1#1), ∀ a, (k0_off7 v1) a + S1024x256.size a ≤ S4096x512.size a)
theorem k0_mult1_dvd : ∀ (v1 : BitVec 32) (v3 : BitVec 32) (k0_hw1 : k0_chk1 v1 v3), ∀ (k0_h3 : k0_cond3 v1 v3 = 1#1), 1024 ∣ (k0_mult1 v1).toNat := fun v1 v3 k0_hw1 k0_h3 => k0_hw1.1 k0_h3
theorem k0_off2_inb : ∀ (v1 : BitVec 32) (v3 : BitVec 32) (k0_hw1 : k0_chk1 v1 v3), ∀ (k0_h3 : k0_cond3 v1 v3 = 1#1), ∀ a, (k0_off2 v1) a + S1024x256.size a ≤ S4096x512.size a := fun v1 v3 k0_hw1 k0_h3 => k0_hw1.2.1 k0_h3
theorem k0_off3_inb : ∀ (v1 : BitVec 32) (v3 : BitVec 32) (k0_hw1 : k0_chk1 v1 v3), ∀ (k0_h3 : k0_cond3 v1 v3 = 1#1), ∀ a, (k0_off3 v1) a + S1024x256.size a ≤ S4096x512.size a := fun v1 v3 k0_hw1 k0_h3 => k0_hw1.2.2.1 k0_h3
theorem k0_mult2_dvd : ∀ (v1 : BitVec 32) (v3 : BitVec 32) (k0_hw1 : k0_chk1 v1 v3), ∀ (k0_h3 : k0_cond3 v1 v3 = 1#1), 512 ∣ (k0_mult2 v1).toNat := fun v1 v3 k0_hw1 k0_h3 => k0_hw1.2.2.2.1 k0_h3
theorem k0_off4_inb : ∀ (v1 : BitVec 32) (v3 : BitVec 32) (k0_hw1 : k0_chk1 v1 v3), ∀ (k0_h3 : k0_cond3 v1 v3 = 1#1), ∀ a, (k0_off4 v1) a + S512x256.size a ≤ S4096x512.size a := fun v1 v3 k0_hw1 k0_h3 => k0_hw1.2.2.2.2.1 k0_h3
theorem k0_off5_inb : ∀ (v1 : BitVec 32) (v3 : BitVec 32) (k0_hw1 : k0_chk1 v1 v3), ∀ (k0_h3 : k0_cond3 v1 v3 = 1#1), ∀ a, (k0_off5 v1) a + S512x256.size a ≤ S4096x512.size a := fun v1 v3 k0_hw1 k0_h3 => k0_hw1.2.2.2.2.2.1 k0_h3
theorem k0_mult3_dvd : ∀ (v1 : BitVec 32) (v3 : BitVec 32) (k0_hw1 : k0_chk1 v1 v3), ∀ (k0_h4 : k0_cond4 v1 v3 = 1#1), 1024 ∣ (k0_mult3 v1).toNat := fun v1 v3 k0_hw1 k0_h4 => k0_hw1.2.2.2.2.2.2.1 k0_h4
theorem k0_off6_inb : ∀ (v1 : BitVec 32) (v3 : BitVec 32) (k0_hw1 : k0_chk1 v1 v3), ∀ (k0_h4 : k0_cond4 v1 v3 = 1#1), ∀ a, (k0_off6 v1) a + S1024x256.size a ≤ S4096x512.size a := fun v1 v3 k0_hw1 k0_h4 => k0_hw1.2.2.2.2.2.2.2.1 k0_h4
theorem k0_off7_inb : ∀ (v1 : BitVec 32) (v3 : BitVec 32) (k0_hw1 : k0_chk1 v1 v3), ∀ (k0_h4 : k0_cond4 v1 v3 = 1#1), ∀ a, (k0_off7 v1) a + S1024x256.size a ≤ S4096x512.size a := fun v1 v3 k0_hw1 k0_h4 => k0_hw1.2.2.2.2.2.2.2.2 k0_h4

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_0 : BitVec 32 := 0#32
  let v6 : BitVec 1 := Scalar.cmpi .ne v5 c0_i32_0
  v6

def k0_cond5 (v1 : BitVec 32) : BitVec 1 :=
  let c3_i32 : BitVec 32 := 3#32
  let v16 : BitVec 1 := Scalar.cmpi .eq v1 c3_i32
  let v17 : BitVec 32 := Scalar.extui v16
  let c0_i32_4 : BitVec 32 := 0#32
  let v18 : BitVec 1 := Scalar.cmpi .ne v17 c0_i32_4
  v18

def cc0_transform_0 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  ![v1.toNat, arg0.toNat]

def cc0_transform_5 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  let c0_i32_0 : BitVec 32 := 0#32
  ![arg0.toNat, c0_i32.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  ![v1.toNat, arg0.toNat]

def cc0_transform_8 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  ![v1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S4096x2048 : Shape := ⟨2, ![4096, 2048]⟩
abbrev S4096x1024 : Shape := ⟨2, ![4096, 1024]⟩
abbrev S4096x8x256 : Shape := ⟨3, ![4096, 8, 256]⟩
abbrev S8x4096x4096 : Shape := ⟨3, ![8, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S8x4096 : Shape := ⟨2, ![8, 4096]⟩
abbrev S8x4096x1 : Shape := ⟨3, ![8, 4096, 1]⟩
abbrev S4096x8x128 : Shape := ⟨3, ![4096, 8, 128]⟩
abbrev S8x128x4096 : Shape := ⟨3, ![8, 128, 4096]⟩
abbrev S8x4096x256 : Shape := ⟨3, ![8, 4096, 256]⟩

abbrev nBuf : Space → Nat
  | .hbm => 95
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x1024, .bf16⟩
  | .hbm, ⟨3, _⟩ => ⟨S4096x1024, .bf16⟩
  | .hbm, ⟨4, _⟩ => ⟨S4096x2048, .f32⟩
  | .hbm, ⟨5, _⟩ => ⟨S4096x2048, .f32⟩
  | .hbm, ⟨6, _⟩ => ⟨S4096x1024, .f32⟩
  | .hbm, ⟨7, _⟩ => ⟨S4096x8x256, .f32⟩
  | .hbm, ⟨8, _⟩ => ⟨S4096x8x256, .f32⟩
  | .hbm, ⟨9, _⟩ => ⟨S8x4096x4096, .f32⟩
  | .hbm, ⟨10, _⟩ => ⟨S4096, .i32⟩
  | .hbm, ⟨11, _⟩ => ⟨S4096x1, .i32⟩
  | .hbm, ⟨12, _⟩ => ⟨S1x4096, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S_, .f32⟩
  | .hbm, ⟨17, _⟩ => ⟨S_, .f32⟩
  | .hbm, ⟨18, _⟩ => ⟨S8x4096x4096, .i1⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096x4096, .f32⟩
  | .hbm, ⟨23, _⟩ => ⟨S_, .f32⟩
  | .hbm, ⟨24, _⟩ => ⟨S8x4096, .f32⟩
  | .hbm, ⟨25, _⟩ => ⟨S8x4096x1, .f32⟩
  | .hbm, ⟨26, _⟩ => ⟨S8x4096x4096, .f32⟩
  | .hbm, ⟨27, _⟩ => ⟨S8x4096x4096, .i1⟩
  | .hbm, ⟨28, _⟩ => ⟨S8x4096x4096, .f32⟩
  | .hbm, ⟨29, _⟩ => ⟨S_, .f32⟩
  | .hbm, ⟨30, _⟩ => ⟨S8x4096, .f32⟩
  | .hbm, ⟨31, _⟩ => ⟨S_, .f32⟩
  | .hbm, ⟨32, _⟩ => ⟨S8x4096, .f32⟩
  | .hbm, ⟨33, _⟩ => ⟨S8x4096, .f32⟩
  | .hbm, ⟨34, _⟩ => ⟨S_, .f32⟩
  | .hbm, ⟨35, _⟩ => ⟨S8x4096, .f32⟩
  | .hbm, ⟨36, _⟩ => ⟨S8x4096, .i1⟩
  | .hbm, ⟨37, _⟩ => ⟨S_, .f32⟩
  | .hbm, ⟨38, _⟩ => ⟨S8x4096, .f32⟩
  | .hbm, ⟨39, _⟩ => ⟨S8x4096, .i1⟩
  | .hbm, ⟨40, _⟩ => ⟨S_, .f32⟩
  | .hbm, ⟨41, _⟩ => ⟨S8x4096, .f32⟩
  | .hbm, ⟨42, _⟩ => ⟨S_, .f32⟩
  | .hbm, ⟨43, _⟩ => ⟨S8x4096, .f32⟩
  | .hbm, ⟨44, _⟩ => ⟨S_, .f32⟩
  | .hbm, ⟨45, _⟩ => ⟨S8x4096, .f32⟩
  | .hbm, ⟨46, _⟩ => ⟨S8x4096, .f32⟩
  | .hbm, ⟨47, _⟩ => ⟨S8x4096, .f32⟩
  | .hbm, ⟨48, _⟩ => ⟨S8x4096x1, .f32⟩
  | .hbm, ⟨49, _⟩ => ⟨S8x4096x4096, .f32⟩
  | .hbm, ⟨50, _⟩ => ⟨S8x4096x4096, .f32⟩
  | .hbm, ⟨51, _⟩ => ⟨S8x4096x4096, .f32⟩
  | .hbm, ⟨52, _⟩ => ⟨S_, .f32⟩
  | .hbm, ⟨53, _⟩ => ⟨S8x4096, .f32⟩
  | .hbm, ⟨54, _⟩ => ⟨S8x4096x1, .f32⟩
  | .hbm, ⟨55, _⟩ => ⟨S8x4096x4096, .f32⟩
  | .hbm, ⟨56, _⟩ => ⟨S8x4096x4096, .f32⟩
  | .hbm, ⟨57, _⟩ => ⟨S8x4096x1, .f32⟩
  | .hbm, ⟨58, _⟩ => ⟨S_, .f32⟩
  | .hbm, ⟨59, _⟩ => ⟨S8x4096x1, .f32⟩
  | .hbm, ⟨60, _⟩ => ⟨S8x4096x1, .f32⟩
  | .hbm, ⟨61, _⟩ => ⟨S4096x8x128, .f32⟩
  | .hbm, ⟨62, _⟩ => ⟨S8x128x4096, .f32⟩
  | .hbm, ⟨63, _⟩ => ⟨S4096x8x128, .f32⟩
  | .hbm, ⟨64, _⟩ => ⟨S4096x1024, .f32⟩
  | .hbm, ⟨65, _⟩ => ⟨S4096x1024, .f32⟩
  | .hbm, ⟨66, _⟩ => ⟨S4096x8x128, .f32⟩
  | .hbm, ⟨67, _⟩ => ⟨S8x128x4096, .f32⟩
  | .hbm, ⟨68, _⟩ => ⟨S8x4096x4096, .f32⟩
  | .hbm, ⟨69, _⟩ => ⟨S8x128x4096, .f32⟩
  | .hbm, ⟨70, _⟩ => ⟨S4096x8x128, .f32⟩
  | .hbm, ⟨71, _⟩ => ⟨S4096x1024, .f32⟩
  | .hbm, ⟨72, _⟩ => ⟨S8x4096x4096, .f32⟩
  | .hbm, ⟨73, _⟩ => ⟨S8x4096x4096, .f32⟩
  | .hbm, ⟨74, _⟩ => ⟨S8x4096x4096, .f32⟩
  | .hbm, ⟨75, _⟩ => ⟨S_, .f32⟩
  | .hbm, ⟨76, _⟩ => ⟨S8x4096, .f32⟩
  | .hbm, ⟨77, _⟩ => ⟨S8x4096x1, .f32⟩
  | .hbm, ⟨78, _⟩ => ⟨S8x4096x1, .f32⟩
  | .hbm, ⟨79, _⟩ => ⟨S8x4096x4096, .f32⟩
  | .hbm, ⟨80, _⟩ => ⟨S8x4096x4096, .f32⟩
  | .hbm, ⟨81, _⟩ => ⟨S_, .f32⟩
  | .hbm, ⟨82, _⟩ => ⟨S8x4096, .f32⟩
  | .hbm, ⟨83, _⟩ => ⟨S8x4096x4096, .f32⟩
  | .hbm, ⟨84, _⟩ => ⟨S8x4096x4096, .f32⟩
  | .hbm, ⟨85, _⟩ => ⟨S8x4096x4096, .f32⟩
  | .hbm, ⟨86, _⟩ => ⟨S_, .f32⟩
  | .hbm, ⟨87, _⟩ => ⟨S8x4096x4096, .f32⟩
  | .hbm, ⟨88, _⟩ => ⟨S8x4096x4096, .f32⟩
  | .hbm, ⟨89, _⟩ => ⟨S8x4096x256, .f32⟩
  | .hbm, ⟨90, _⟩ => ⟨S4096x8x256, .f32⟩
  | .hbm, ⟨91, _⟩ => ⟨S8x4096x256, .f32⟩
  | .hbm, ⟨92, _⟩ => ⟨S4096x8x256, .f32⟩
  | .hbm, ⟨93, _⟩ => ⟨S4096x2048, .f32⟩
  | .hbm, ⟨94, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_call0_v0 : Ref sig .tc := ⟨.hbm, 17, rfl⟩
abbrev main_v12_1 : Ref sig .tc := ⟨.hbm, 18, rfl⟩
abbrev main_call0_v2 : Ref sig .tc := ⟨.hbm, 19, rfl⟩
abbrev main_v12_0 : Ref sig .tc := ⟨.hbm, 20, rfl⟩
abbrev main_call0_cst : Ref sig .tc := ⟨.hbm, 21, rfl⟩
abbrev main_v12_2 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_call1_cst : Ref sig .tc := ⟨.hbm, 86, rfl⟩
abbrev main_call1_v0 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩

abbrev nD : Nat := 1
abbrev τ : Topo := Topo.v7x

variable {F : FTy → Type} [FloatOps F]
-- ==== Kernel2.lean ====
abbrev S4096x4096 : Shape := ⟨2, ![4096, 4096]⟩
abbrev S4096x1024 : Shape := ⟨2, ![4096, 1024]⟩
abbrev S_ : Shape := ⟨0, ![]⟩
abbrev S2048x1024 : Shape := ⟨2, ![2048, 1024]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .hbm, ⟨3, _⟩ => ⟨S4096x4096, .f32⟩
  | .hbm, ⟨4, _⟩ => ⟨S4096x1024, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x1024, .f32⟩
  | .hbm, ⟨15, _⟩ => ⟨S4096x1024, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Kernel3.lean ====
abbrev S4096x4096 : Shape := ⟨2, ![4096, 4096]⟩
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | .hbm, ⟨9, _⟩ => ⟨S4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference3Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .hbm, ⟨3, _⟩ => ⟨S_, .f32⟩
  | .hbm, ⟨4, _⟩ => ⟨S4096x1024, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x1024, .f32⟩
  | .hbm, ⟨11, _⟩ => ⟨S4096x1024, .f32⟩
  | .hbm, ⟨12, _⟩ => ⟨S1024x4096, .f32⟩
  | .hbm, ⟨13, _⟩ => ⟨S4096x1024, .f32⟩
  | .hbm, ⟨14, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel4.lean ====
abbrev S4096x1024 : Shape := ⟨2, ![4096, 1024]⟩
abbrev S4096x4096 : Shape := ⟨2, ![4096, 4096]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .bf16⟩
  | .hbm, ⟨3, _⟩ => ⟨S4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference4Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .bf16⟩
  | .hbm, ⟨3, _⟩ => ⟨S_, .f32⟩
  | .hbm, ⟨4, _⟩ => ⟨S1024x4096, .f32⟩
  | .hbm, ⟨5, _⟩ => ⟨S4096x1024, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S1024x4096, .bf16⟩
  | .hbm, ⟨11, _⟩ => ⟨S1024x4x1024, .bf16⟩
  | .hbm, ⟨12, _⟩ => ⟨S4x1024x1024, .bf16⟩
  | .hbm, ⟨13, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel5.lean ====
abbrev S4096x4096 : Shape := ⟨2, ![4096, 4096]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S1024x4x1024, .bf16⟩
  | .hbm, ⟨3, _⟩ => ⟨S4x1024x1024, .bf16⟩
  | .hbm, ⟨4, _⟩ => ⟨S4096x1024, .bf16⟩
  | .hbm, ⟨5, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x4096 : Shape := ⟨2, ![4096, 4096]⟩
abbrev S1024x4096 : Shape := ⟨2, ![1024, 4096]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S_, .f32⟩
  | .hbm, ⟨3, _⟩ => ⟨S4096x1024, .f32⟩
  | .hbm, ⟨4, _⟩ => ⟨S1024x4096, .f32⟩
  | .hbm, ⟨5, _⟩ => ⟨S4096x4096, .f32⟩
  | .hbm, ⟨6, _⟩ => ⟨S4096x4096, .f32⟩
  | .hbm, ⟨7, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4096x1024 : Shape := ⟨2, ![4096, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S2048x1024 : Shape := ⟨2, ![2048, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S1024x4x1024, .bf16⟩
  | .hbm, ⟨3, _⟩ => ⟨S4x1024x1024, .bf16⟩
  | .hbm, ⟨4, _⟩ => ⟨S4096x1024, .bf16⟩
  | .hbm, ⟨5, _⟩ => ⟨S4096x4096, .bf16⟩
  | .hbm, ⟨6, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .f32⟩
  | .hbm, ⟨3, _⟩ => ⟨S1024x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | .hbm, ⟨10, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel7.lean ====
abbrev S4096x1024 : Shape := ⟨2, ![4096, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S1024x4x1024, .bf16⟩
  | .hbm, ⟨3, _⟩ => ⟨S4x1024x1024, .bf16⟩
  | .hbm, ⟨4, _⟩ => ⟨S4096x1024, .bf16⟩
  | .hbm, ⟨5, _⟩ => ⟨S4096x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .f32⟩
  | .hbm, ⟨3, _⟩ => ⟨S1024x4096, .f32⟩
  | .hbm, ⟨4, _⟩ => ⟨S4096x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S4096x1024 : Shape := ⟨2, ![4096, 1024]⟩
abbrev S4096x4096 : Shape := ⟨2, ![4096, 4096]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .bf16⟩
  | .hbm, ⟨3, _⟩ => ⟨S4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference8Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .bf16⟩
  | .hbm, ⟨3, _⟩ => ⟨S_, .f32⟩
  | .hbm, ⟨4, _⟩ => ⟨S1024x4096, .f32⟩
  | .hbm, ⟨5, _⟩ => ⟨S4096x1024, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S1024x4096, .bf16⟩
  | .hbm, ⟨11, _⟩ => ⟨S1024x4x1024, .bf16⟩
  | .hbm, ⟨12, _⟩ => ⟨S4x1024x1024, .bf16⟩
  | .hbm, ⟨13, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel9.lean ====
abbrev S4096x4096 : Shape := ⟨2, ![4096, 4096]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S1024x4x1024, .bf16⟩
  | .hbm, ⟨3, _⟩ => ⟨S4x1024x1024, .bf16⟩
  | .hbm, ⟨4, _⟩ => ⟨S4096x1024, .bf16⟩
  | .hbm, ⟨5, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x4096 : Shape := ⟨2, ![4096, 4096]⟩
abbrev S1024x4096 : Shape := ⟨2, ![1024, 4096]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S_, .f32⟩
  | .hbm, ⟨3, _⟩ => ⟨S4096x1024, .f32⟩
  | .hbm, ⟨4, _⟩ => ⟨S1024x4096, .f32⟩
  | .hbm, ⟨5, _⟩ => ⟨S4096x4096, .f32⟩
  | .hbm, ⟨6, _⟩ => ⟨S4096x4096, .f32⟩
  | .hbm, ⟨7, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Attn.Base.lean ====
/- The tables and scratch buffers the attention backward kernel is handed, and the words its body reads from the tables. -/
module

public import proofs.«01_k».proof.Proof.Gen.KernelIdeal.Skeleton
public import proofs.«01_k».proof.Proof.Gen.KernelIdeal.Launch
public import Idealize.ShloMosaic.Lib.Tactic
public import Idealize.ShloMosaic.Lib.VecWindow
public import Idealize.ShloMosaic.Lib.Pipeline.FrameBody
public import Idealize.ShloMosaic.Lib.Pipeline.Frame

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

/-- The two prefetched tables and the two scratch accumulators, whole. -/
abbrev qtab : Memref sig .tc .smem S10 .i32 := Memref.whole main_c
abbrev ktab : Memref sig .tc .smem S10 .i32 := Memref.whole main_c_0
abbrev dkAcc : Memref sig .tc .vmem S1024x512 .f32 := Memref.whole cc0_scratch0
abbrev dvAcc : Memref sig .tc .vmem S1024x256 .f32 := Memref.whole cc0_scratch1

/-- The query-tile word the body reads from the first table at grid coordinates `i`. -/
abbrev qw (i : grid0.Coords) (T : S10.Idx → Elt F .i32) : BitVec 32 :=
  View.readAt (Elt F) qtab.view (Rect.unit (s := S10) (k0_off1 i) S1.size (k0_off1_inb i)).toLoadRect T (Shape.Idx.first (numel1_S1.symm ▸ Nat.one_pos))
/-- The key-tile word the body reads from the second table at grid coordinates `i`. -/
abbrev kw (i : grid0.Coords) (T : S10.Idx → Elt F .i32) : BitVec 32 :=
  View.readAt (Elt F) ktab.view (Rect.unit (s := S10) (k0_off1 i) S1.size (k0_off1_inb i)).toLoadRect T (Shape.Idx.first (numel1_S1.symm ▸ Nat.one_pos))

/-- The test of the accumulators' zeroing: the query tile is the key tile. -/
abbrev isDiag (v1 v3 : BitVec 32) : Prop := Scalar.cmpi .ne (Scalar.extui (Scalar.cmpi .eq v1 v3) : BitVec 32) 0#32 = 1#1
/-- The test of the accumulators' write-out: the query tile is the last one. -/
abbrev isLast (v1 : BitVec 32) : Prop := Scalar.cmpi .ne (Scalar.extui (Scalar.cmpi .eq v1 3#32) : BitVec 32) 0#32 = 1#1

end Cert.KernelIdeal.Attn

end
-- ==== Proof.Attn.Cfg.lean ====
/- The prefetched tables, the pipeline at them, and what a grid point does. -/
module

public import proofs.«01_k».proof.Proof.Attn.Base
public import Idealize.ShloMosaic.Lib.Pipeline.Kit
public import Idealize.ShloMosaic.Lib.Pipeline.TableIdle
public import Idealize.ShloMosaic.Lib.Affine
public import Idealize.ShloMosaic.PureOps.Ideal

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The first table: the query tile of each pair. -/
def tq : S10.Idx → Elt F .i32 := fun i => lit0 (S10.rowMajor i)
/-- The second table: the key tile of each pair. -/
def tk : S10.Idx → Elt F .i32 := fun i => lit1 (S10.rowMajor i)

set_option backward.proofsInPublic true in
/-- The two tables as the pipeline takes them. -/
def tabs : pre0.Contents (Elt F) := fun | ⟨0, _⟩ => tq | ⟨1, _⟩ => tk | ⟨_ + 2, h⟩ => absurd h (by simp)

/-- Every block of window 0 lies inside its array. -/
theorem inside0 : ∀ i : grid0.Coords, ∀ a, (cc0_transform_0 k0_off1_inb numel1_S1 (tabs (F := Ideal)) i a + 1) * S1024x512.size a ≤ S4096x2048.size a := by decide +kernel
/-- Every block of window 1 lies inside its array. -/
theorem inside1 : ∀ i : grid0.Coords, ∀ a, (cc0_transform_1 k0_off1_inb numel1_S1 (tabs (F := Ideal)) i a + 1) * S1024x512.size a ≤ S4096x2048.size a := by decide +kernel
/-- Every block of window 2 lies inside its array. -/
theorem inside2 : ∀ i : grid0.Coords, ∀ a, (cc0_transform_2 k0_off1_inb numel1_S1 (tabs (F := Ideal)) i a + 1) * S1024x256.size a ≤ S4096x1024.size a := by decide +kernel
/-- Every block of window 3 lies inside its array. -/
theorem inside3 : ∀ i : grid0.Coords, ∀ a, (cc0_transform_3 k0_off1_inb numel1_S1 (tabs (F := Ideal)) i a + 1) * S1024x256.size a ≤ S4096x1024.size a := by decide +kernel
/-- Every block of window 4 lies inside its array. -/
theorem inside4 : ∀ i : grid0.Coords, ∀ a, (cc0_transform_4 k0_off1_inb numel1_S1 (tabs (F := Ideal)) i a + 1) * S1024x256.size a ≤ S4096x1024.size a := by decide +kernel
/-- Every block of window 5 lies inside its array. -/
theorem inside5 : ∀ i : grid0.Coords, ∀ a, (cc0_transform_5 k0_off1_inb numel1_S1 (tabs (F := Ideal)) i a + 1) * S2x1x1024.size a ≤ S8x1x4096.size a := by decide +kernel
/-- Every block of window 7 lies inside its array. -/
theorem inside7 : ∀ i : grid0.Coords, ∀ a, (cc0_transform_7 k0_off1_inb numel1_S1 (tabs (F := Ideal)) i a + 1) * S1024x512.size a ≤ S4096x2048.size a := by decide +kernel
/-- Every block of window 8 lies inside its array. -/
theorem inside8 : ∀ i : grid0.Coords, ∀ a, (cc0_transform_8 k0_off1_inb numel1_S1 (tabs (F := Ideal)) i a + 1) * S1024x256.size a ≤ S4096x1024.size a := by decide +kernel

/-- The pipeline's side condition of the tables: every block lies inside its array, in whole words. -/
theorem ok_tabs : ok0 (F := F) tabs :=
  ⟨fun i => ⟨inside0 i, .inr (Affine.block_words_dvd (s := S4096x2048) (p := EltTy.packing .bf16) (by decide) (by decide))⟩,
    fun i => ⟨inside1 i, .inr (Affine.block_words_dvd (s := S4096x2048) (p := EltTy.packing .bf16) (by decide) (by decide))⟩,
    fun i => ⟨inside2 i, .inr (Affine.block_words_dvd (s := S4096x1024) (p := EltTy.packing .bf16) (by decide) (by decide))⟩,
    fun i => ⟨inside3 i, .inr (Affine.block_words_dvd (s := S4096x1024) (p := EltTy.packing .bf16) (by decide) (by decide))⟩,
    fun i => ⟨inside4 i, .inr (Affine.block_words_dvd (s := S4096x1024) (p := EltTy.packing .bf16) (by decide) (by decide))⟩,
    fun i => ⟨inside5 i, .inl rfl⟩,
    fun i => ⟨inside7 i, .inl rfl⟩,
    fun i => ⟨inside8 i, .inl rfl⟩⟩

/-- The tables with their side condition, and the pipeline at them. -/
def adm : (pcfg0 (F := F)).Adm := ⟨tabs, ok_tabs⟩
abbrev cfgA (F : FTy → Type) [FloatOps F] : Pipeline.Cfg sig Λ₀ := cfg0 (F := F) adm
abbrev pcs (F : FTy → Type) [FloatOps F] : Fin 1 → Pipeline.Cfg sig Λ₀ := Pipeline.pin (pcfgs (F := F)) fun _ => adm

/-- The coordinates of point `t`. -/
abbrev crd (t : Fin (cfgA F).N) : (cfgA F).grid.Coords := (cfgA F).grid.coords t

/-- The staging buffer of each window at point `t`, and that it is a whole buffer. -/
abbrev st0 (t : Fin (cfgA F).N) : Memref sig .tc .vmem S1024x512 .bf16 := spec0_0.stage ((cfgA F).slots t (0 : Fin 9))
abbrev sw0 (t : Fin (cfgA F).N) : (st0 t).IsWhole := hstage0_0 (((cfgA F).slots t (0 : Fin 9)).cast nbuf0_0)
abbrev st1 (t : Fin (cfgA F).N) : Memref sig .tc .vmem S1024x512 .bf16 := spec0_1.stage ((cfgA F).slots t (1 : Fin 9))
abbrev sw1 (t : Fin (cfgA F).N) : (st1 t).IsWhole := hstage0_1 (((cfgA F).slots t (1 : Fin 9)).cast nbuf0_1)
abbrev st2 (t : Fin (cfgA F).N) : Memref sig .tc .vmem S1024x256 .bf16 := spec0_2.stage ((cfgA F).slots t (2 : Fin 9))
abbrev sw2 (t : Fin (cfgA F).N) : (st2 t).IsWhole := hstage0_2 (((cfgA F).slots t (2 : Fin 9)).cast nbuf0_2)
abbrev st3 (t : Fin (cfgA F).N) : Memref sig .tc .vmem S1024x256 .bf16 := spec0_3.stage ((cfgA F).slots t (3 : Fin 9))
abbrev sw3 (t : Fin (cfgA F).N) : (st3 t).IsWhole := hstage0_3 (((cfgA F).slots t (3 : Fin 9)).cast nbuf0_3)
abbrev st4 (t : Fin (cfgA F).N) : Memref sig .tc .vmem S1024x256 .bf16 := spec0_4.stage ((cfgA F).slots t (4 : Fin 9))
abbrev sw4 (t : Fin (cfgA F).N) : (st4 t).IsWhole := hstage0_4 (((cfgA F).slots t (4 : Fin 9)).cast nbuf0_4)
abbrev st5 (t : Fin (cfgA F).N) : Memref sig .tc .vmem S2x1x1024 .f32 := spec0_5.stage ((cfgA F).slots t (5 : Fin 9))
abbrev sw5 (t : Fin (cfgA F).N) : (st5 t).IsWhole := hstage0_5 (((cfgA F).slots t (5 : Fin 9)).cast nbuf0_5)
abbrev st6 (t : Fin (cfgA F).N) : Memref sig .tc .vmem S4096x512 .f32 := spec0_6.stage ((cfgA F).slots t (6 : Fin 9))
abbrev sw6 (t : Fin (cfgA F).N) : (st6 t).IsWhole := hstage0_6 (((cfgA F).slots t (6 : Fin 9)).cast nbuf0_6)
abbrev st7 (t : Fin (cfgA F).N) : Memref sig .tc .vmem S1024x512 .f32 := spec0_7.stage ((cfgA F).slots t (7 : Fin 9))
abbrev sw7 (t : Fin (cfgA F).N) : (st7 t).IsWhole := hstage0_7 (((cfgA F).slots t (7 : Fin 9)).cast nbuf0_7)
abbrev st8 (t : Fin (cfgA F).N) : Memref sig .tc .vmem S1024x256 .f32 := spec0_8.stage ((cfgA F).slots t (8 : Fin 9))
abbrev sw8 (t : Fin (cfgA F).N) : (st8 t).IsWhole := hstage0_8 (((cfgA F).slots t (8 : Fin 9)).cast nbuf0_8)

/-- The query tile of the pair numbered `p`. -/
def qn : ℕ → Fin 4 := fun p => (![0, 1, 2, 3, 1, 2, 3, 2, 3, 3] : Fin 10 → Fin 4) (Fin.ofNat 10 p)

/-- What the words at point `t` decide, in a form that a table of points can be checked against. -/
abbrev wordsAt (t : Fin (cfgA Ideal).N) : Prop :=
  qw (crd t) (tq (F := Ideal)) = BitVec.ofNat 32 (qn t.val).val
  ∧ k0_chk1 (qw (crd t) (tq (F := Ideal))) (kw (crd t) (tk (F := Ideal)))
  ∧ ((k0_cond1 (crd t) == 1#1) = decide (t.val % 10 = 0))
  ∧ (decide (isDiag (qw (crd t) (tq (F := Ideal))) (kw (crd t) (tk (F := Ideal)))) = decide (t.val % 10 = 0 ∨ t.val % 10 = 4 ∨ t.val % 10 = 7 ∨ t.val % 10 = 9))
  ∧ ((k0_cond3 (qw (crd t) (tq (F := Ideal))) (kw (crd t) (tk (F := Ideal))) == 1#1) = decide (t.val % 10 = 0 ∨ t.val % 10 = 4 ∨ t.val % 10 = 7 ∨ t.val % 10 = 9))
  ∧ ((k0_cond4 (qw (crd t) (tq (F := Ideal))) (kw (crd t) (tk (F := Ideal))) == 1#1) = !decide (t.val % 10 = 0 ∨ t.val % 10 = 4 ∨ t.val % 10 = 7 ∨ t.val % 10 = 9))
  ∧ (decide (isLast (qw (crd t) (tq (F := Ideal)))) = decide (t.val % 10 = 3 ∨ t.val % 10 = 6 ∨ t.val % 10 = 8 ∨ t.val % 10 = 9))

/-- Which windows a point leaves alone and which it writes back. -/
abbrev schedAt (t : Fin (cfgA Ideal).N) : Prop :=
  (cfgA Ideal).idle (6 : Fin 9) (crd t) = false
  ∧ ((cfgA Ideal).win (6 : Fin 9)).flush t = decide (t.val % 10 = 9)
  ∧ (cfgA Ideal).idle (7 : Fin 9) (crd t) = !decide (t.val % 10 = 3 ∨ t.val % 10 = 6 ∨ t.val % 10 = 8 ∨ t.val % 10 = 9)
  ∧ ((cfgA Ideal).win (7 : Fin 9)).flush t = decide (t.val % 10 = 3 ∨ t.val % 10 = 6 ∨ t.val % 10 = 8 ∨ t.val % 10 = 9)
  ∧ (cfgA Ideal).idle (8 : Fin 9) (crd t) = !decide (t.val % 10 = 3 ∨ t.val % 10 = 6 ∨ t.val % 10 = 8 ∨ t.val % 10 = 9)
  ∧ ((cfgA Ideal).win (8 : Fin 9)).flush t = decide (t.val % 10 = 3 ∨ t.val % 10 = 6 ∨ t.val % 10 = 8 ∨ t.val % 10 = 9)

/-- The words of every point. -/
theorem words_all : ∀ t : Fin (cfgA Ideal).N, wordsAt t := by decide +kernel
/-- The schedule of every point. -/
theorem sched_all : ∀ t : Fin (cfgA Ideal).N, schedAt t := by decide +kernel

end Cert.KernelIdeal.Attn

end
-- ==== Proof.Attn.Tile.lean ====
/- The attention backward kernel, one tile at a time: what a tile of queries against a tile of keys adds to the three gradients. -/
module

public import proofs.«01_k».proof.Proof.Attn.Base

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

open VecWindow

/-- The window of `x` at row `r` and column `c`. -/
abbrev win {R C R' C' : ℕ} {α : Type} (x : Shape.Idx ⟨2, ![R, C]⟩ → α) (r c : ℕ) (h : r + R' ≤ R ∧ c + C' ≤ C) :
    Shape.Idx ⟨2, ![R', C']⟩ → α :=
  window (s := ⟨2, ![R, C]⟩) x ![r, c] ![R', C'] (by intro a; fin_cases a; exacts [h.1, h.2])

/-- The row of head `g` of the log-sum-exp block. -/
abbrev winL {α : Type} (x : S2x1x1024.Idx → α) (g : Fin 2) : S1x1x1024.Idx → α :=
  window x ![g.val, 0, 0] S1x1x1024.size (by revert g; decide)

/-- `x` with `w` put at row `r` and column `c`. -/
abbrev putAt {R C R' C' : ℕ} {α : Type} (x : Shape.Idx ⟨2, ![R, C]⟩ → α) (r c : ℕ) (w : Shape.Idx ⟨2, ![R', C']⟩ → α) :
    Shape.Idx ⟨2, ![R, C]⟩ → α :=
  put (s := ⟨2, ![R, C]⟩) x ![r, c] ![R', C'] w

/-- The six blocks a grid point reads: queries, keys, values, outputs, output gradients, log-sum-exp. -/
structure Blocks (F : FTy → Type) where
  q : S1024x512.Idx → Elt F .bf16
  k : S1024x512.Idx → Elt F .bf16
  v : S1024x256.Idx → Elt F .bf16
  o : S1024x256.Idx → Elt F .bf16
  d : S1024x256.Idx → Elt F .bf16
  l : S2x1x1024.Idx → Elt F .f32

/-- The three running gradients: of the queries of a pair of heads, of a tile of keys, of a tile of values. -/
structure Grads (F : FTy → Type) where
  dq : S4096x512.Idx → Elt F .f32
  dk : S1024x512.Idx → Elt F .f32
  dv : S1024x256.Idx → Elt F .f32

/-- The first half of the keys of a diagonal tile against all of its queries: the score gradients of head `g`. -/
def dsA (g : Fin 2) (b : Blocks F) : S512x1024.Idx → Elt F .bf16 :=
  k0_pay11 (win b.d 0 (128 * g.val) (R' := 1024) (C' := 128) (by revert g; decide)) (win b.o 0 (128 * g.val) (R' := 1024) (C' := 128) (by revert g; decide)) (win b.k 0 (256 * g.val) (R' := 512) (C' := 256) (by revert g; decide)) (win b.q 0 (256 * g.val) (R' := 1024) (C' := 256) (by revert g; decide)) (winL b.l g) (win b.v 0 (128 * g.val) (R' := 512) (C' := 128) (by revert g; decide))
/-- The first half of the keys of a diagonal tile against all of its queries: what head `g` adds to the values' gradient. -/
def dvA (g : Fin 2) (b : Blocks F) (acc : S1024x256.Idx → Elt F .f32) : S1024x256.Idx → Elt F .f32 :=
  putAt acc 0 (128 * g.val) (R' := 512) (C' := 128) (k0_pay13 (win b.d 0 (128 * g.val) (R' := 1024) (C' := 128) (by revert g; decide)) (win acc 0 (128 * g.val) (R' := 512) (C' := 128) (by revert g; decide)) (k0_pay12 (win b.k 0 (256 * g.val) (R' := 512) (C' := 256) (by revert g; decide)) (win b.q 0 (256 * g.val) (R' := 1024) (C' := 256) (by revert g; decide)) (winL b.l g)))
/-- The first half of the keys of a diagonal tile against all of its queries: what head `g` adds to the keys' gradient. -/
def dkA (g : Fin 2) (b : Blocks F) (acc : S1024x512.Idx → Elt F .f32) : S1024x512.Idx → Elt F .f32 :=
  putAt acc 0 (256 * g.val) (R' := 512) (C' := 256) (k0_pay14 (dsA g b) (win acc 0 (256 * g.val) (R' := 512) (C' := 256) (by revert g; decide)) (win b.q 0 (256 * g.val) (R' := 1024) (C' := 256) (by revert g; decide)))
/-- The first half of the keys of a diagonal tile against all of its queries: what head `g` adds to the queries' gradient, the queries being those of tile `n`. -/
def dqA (n : Fin 4) (g : Fin 2) (b : Blocks F) (acc : S4096x512.Idx → Elt F .f32) : S4096x512.Idx → Elt F .f32 :=
  putAt acc (1024 * n.val + 0) (256 * g.val) (R' := 1024) (C' := 256) (k0_pay15 (dsA g b) (win acc (1024 * n.val + 0) (256 * g.val) (R' := 1024) (C' := 256) (by revert n g; decide)) (win b.k 0 (256 * g.val) (R' := 512) (C' := 256) (by revert g; decide)))

/-- The second half of the keys of a diagonal tile against the second half of its queries: the score gradients of head `g`. -/
def dsB (g : Fin 2) (b : Blocks F) : S512x512.Idx → Elt F .bf16 :=
  k0_pay25 (win b.d 512 (128 * g.val) (R' := 512) (C' := 128) (by revert g; decide)) (k0_pay23 (win b.d 512 (128 * g.val) (R' := 512) (C' := 128) (by revert g; decide)) (win b.o 512 (128 * g.val) (R' := 512) (C' := 128) (by revert g; decide))) (k0_pay24 (win b.k 512 (256 * g.val) (R' := 512) (C' := 256) (by revert g; decide)) (win b.q 512 (256 * g.val) (R' := 512) (C' := 256) (by revert g; decide)) (winL b.l g)) (win b.v 512 (128 * g.val) (R' := 512) (C' := 128) (by revert g; decide))
/-- The second half of the keys of a diagonal tile against the second half of its queries: what head `g` adds to the values' gradient. -/
def dvB (g : Fin 2) (b : Blocks F) (acc : S1024x256.Idx → Elt F .f32) : S1024x256.Idx → Elt F .f32 :=
  putAt acc 512 (128 * g.val) (R' := 512) (C' := 128) (k0_pay26 (win b.d 512 (128 * g.val) (R' := 512) (C' := 128) (by revert g; decide)) (k0_pay24 (win b.k 512 (256 * g.val) (R' := 512) (C' := 256) (by revert g; decide)) (win b.q 512 (256 * g.val) (R' := 512) (C' := 256) (by revert g; decide)) (winL b.l g)) (win acc 512 (128 * g.val) (R' := 512) (C' := 128) (by revert g; decide)))
/-- The second half of the keys of a diagonal tile against the second half of its queries: what head `g` adds to the keys' gradient. -/
def dkB (g : Fin 2) (b : Blocks F) (acc : S1024x512.Idx → Elt F .f32) : S1024x512.Idx → Elt F .f32 :=
  putAt acc 512 (256 * g.val) (R' := 512) (C' := 256) (k0_pay4 (dsB g b) (win acc 512 (256 * g.val) (R' := 512) (C' := 256) (by revert g; decide)) (win b.q 512 (256 * g.val) (R' := 512) (C' := 256) (by revert g; decide)))
/-- The second half of the keys of a diagonal tile against the second half of its queries: what head `g` adds to the queries' gradient, the queries being those of tile `n`. -/
def dqB (n : Fin 4) (g : Fin 2) (b : Blocks F) (acc : S4096x512.Idx → Elt F .f32) : S4096x512.Idx → Elt F .f32 :=
  putAt acc (1024 * n.val + 512) (256 * g.val) (R' := 512) (C' := 256) (k0_pay5 (dsB g b) (win acc (1024 * n.val + 512) (256 * g.val) (R' := 512) (C' := 256) (by revert n g; decide)) (win b.k 512 (256 * g.val) (R' := 512) (C' := 256) (by revert g; decide)))

/-- A tile of keys against a later tile of queries: the score gradients of head `g`. -/
def dsO (g : Fin 2) (b : Blocks F) : S1024x1024.Idx → Elt F .bf16 :=
  k0_pay34 (win b.d 0 (128 * g.val) (R' := 1024) (C' := 128) (by revert g; decide)) (win b.o 0 (128 * g.val) (R' := 1024) (C' := 128) (by revert g; decide)) (win b.k 0 (256 * g.val) (R' := 1024) (C' := 256) (by revert g; decide)) (win b.q 0 (256 * g.val) (R' := 1024) (C' := 256) (by revert g; decide)) (winL b.l g) (win b.v 0 (128 * g.val) (R' := 1024) (C' := 128) (by revert g; decide))
/-- A tile of keys against a later tile of queries: what head `g` adds to the values' gradient. -/
def dvO (g : Fin 2) (b : Blocks F) (acc : S1024x256.Idx → Elt F .f32) : S1024x256.Idx → Elt F .f32 :=
  putAt acc 0 (128 * g.val) (R' := 1024) (C' := 128) (k0_pay35 (win b.d 0 (128 * g.val) (R' := 1024) (C' := 128) (by revert g; decide)) (win b.k 0 (256 * g.val) (R' := 1024) (C' := 256) (by revert g; decide)) (win b.q 0 (256 * g.val) (R' := 1024) (C' := 256) (by revert g; decide)) (winL b.l g) (win acc 0 (128 * g.val) (R' := 1024) (C' := 128) (by revert g; decide)))
/-- A tile of keys against a later tile of queries: what head `g` adds to the keys' gradient. -/
def dkO (g : Fin 2) (b : Blocks F) (acc : S1024x512.Idx → Elt F .f32) : S1024x512.Idx → Elt F .f32 :=
  putAt acc 0 (256 * g.val) (R' := 1024) (C' := 256) (k0_pay36 (dsO g b) (win acc 0 (256 * g.val) (R' := 1024) (C' := 256) (by revert g; decide)) (win b.q 0 (256 * g.val) (R' := 1024) (C' := 256) (by revert g; decide)))
/-- A tile of keys against a later tile of queries: what head `g` adds to the queries' gradient, the queries being those of tile `n`. -/
def dqO (n : Fin 4) (g : Fin 2) (b : Blocks F) (acc : S4096x512.Idx → Elt F .f32) : S4096x512.Idx → Elt F .f32 :=
  putAt acc (1024 * n.val + 0) (256 * g.val) (R' := 1024) (C' := 256) (k0_pay37 (dsO g b) (win acc (1024 * n.val + 0) (256 * g.val) (R' := 1024) (C' := 256) (by revert n g; decide)) (win b.k 0 (256 * g.val) (R' := 1024) (C' := 256) (by revert g; decide)))

/-- A tile below the diagonal, of the queries of tile `n`: both heads add to the three gradients. -/
def below (n : Fin 4) (b : Blocks F) (s : Grads F) : Grads F :=
  ⟨dqO n 1 b (dqO n 0 b s.dq), dkO 1 b (dkO 0 b s.dk), dvO 1 b (dvO 0 b s.dv)⟩

/-- A diagonal tile, of the queries and keys of tile `n`: both heads of its first half of keys, then of its second. -/
def diag (n : Fin 4) (b : Blocks F) (s : Grads F) : Grads F :=
  ⟨dqB n 1 b (dqB n 0 b (dqA n 1 b (dqA n 0 b s.dq))), dkB 1 b (dkB 0 b (dkA 1 b (dkA 0 b s.dk))),
    dvB 1 b (dvB 0 b (dvA 1 b (dvA 0 b s.dv)))⟩

/-- A store over earlier ones: what they left, with the payload put in its place, where the payload may depend on what they left. -/
theorem put_step {sp : Space} {s : Shape} {e : EltTy} (v : View sig .tc sp s e) (f : v.ty.Contents (Elt F)) {off off' size : Fin s.rank → ℕ}
    (inb : ∀ a, off a + size a ≤ s.size a) {w : (Rect.unit off size inb).shape.Idx → Elt F e} (L : List (View.Piece (Elt F) s e))
    (h : off = off') {X : s.Idx → Elt F e} {w' : ((a : Fin s.rank) → Fin (size a)) → Elt F e}
    (hX : v.read (Elt F) (v.writes (Elt F) f L) = X) (hw : v.read (Elt F) (v.writes (Elt F) f L) = X → w = w') :
    v.read (Elt F) (v.writes (Elt F) f (⟨Rect.unit off size inb, w⟩ :: L)) = put X off' size w' := by
  rw [View.read_writes_cons_put v f inb w L h, hX, hw hX]

/-- A load after stores reads a window of what they left. -/
theorem acc_step {sp : Space} {s : Shape} {e : EltTy} (v : View sig .tc sp s e) (f : v.ty.Contents (Elt F)) {off off' size : Fin s.rank → ℕ}
    (inb : ∀ a, off a + size a ≤ s.size a) (inb' : ∀ a, off' a + size a ≤ s.size a) (L : List (View.Piece (Elt F) s e))
    (h : off = off') {X : s.Idx → Elt F e} (hX : v.read (Elt F) (v.writes (Elt F) f L) = X) :
    v.readAt (Elt F) (Rect.unit off size inb).toLoadRect (v.writes (Elt F) f L) = window X off' size inb' := by
  rw [View.readAt_unit v _ inb h inb', hX]

/-- Two puts that lie over the left and the right half of the columns leave nothing of what was there before. -/
theorem put_halves {R C C' : ℕ} {α : Type} (x x' : Shape.Idx ⟨2, ![R, C]⟩ → α) (h : C = C' + C')
    (w w' : Shape.Idx ⟨2, ![R, C']⟩ → α) :
    putAt (putAt x 0 0 w) 0 C' w' = putAt (putAt x' 0 0 w) 0 C' w' := by
  subst h
  funext y
  have h0 : (y 0).val < R := (y 0).isLt
  have h1 : (y 1).val < C' + C' := (y 1).isLt
  unfold putAt put
  split
  · rfl
  · rename_i hn
    split
    · rfl
    · rename_i hm
      exact absurd (show ∀ a, _ from Fin.forall_fin_two.mpr ⟨⟨Nat.zero_le _, by show (y 0).val < 0 + R; omega⟩, Nat.zero_le _, by
        by_contra hc
        exact hn (Fin.forall_fin_two.mpr ⟨⟨Nat.zero_le _, by show (y 0).val < 0 + R; omega⟩, by
          show C' ≤ (y 1).val; change ¬((y 1).val < 0 + C') at hc; omega, h1⟩)⟩) hm

/-- The row and column of a store into the queries' gradient, for the queries of tile `n`. -/
theorem offA0 {w : BitVec 32} {n : Fin 4} (h : w = BitVec.ofNat 32 n.val) : k0_off2 w = ![1024 * n.val + 0, 256 * ((0 : Fin 2) : ℕ)] := by
  subst h; revert n; decide

/-- The row and column of a store into the queries' gradient, for the queries of tile `n`. -/
theorem offA1 {w : BitVec 32} {n : Fin 4} (h : w = BitVec.ofNat 32 n.val) : k0_off3 w = ![1024 * n.val + 0, 256 * ((1 : Fin 2) : ℕ)] := by
  subst h; revert n; decide

/-- The row and column of a store into the queries' gradient, for the queries of tile `n`. -/
theorem offB0 {w : BitVec 32} {n : Fin 4} (h : w = BitVec.ofNat 32 n.val) : k0_off4 w = ![1024 * n.val + 512, 256 * ((0 : Fin 2) : ℕ)] := by
  subst h; revert n; decide

/-- The row and column of a store into the queries' gradient, for the queries of tile `n`. -/
theorem offB1 {w : BitVec 32} {n : Fin 4} (h : w = BitVec.ofNat 32 n.val) : k0_off5 w = ![1024 * n.val + 512, 256 * ((1 : Fin 2) : ℕ)] := by
  subst h; revert n; decide

/-- The row and column of a store into the queries' gradient, for the queries of tile `n`. -/
theorem offO0 {w : BitVec 32} {n : Fin 4} (h : w = BitVec.ofNat 32 n.val) : k0_off6 w = ![1024 * n.val + 0, 256 * ((0 : Fin 2) : ℕ)] := by
  subst h; revert n; decide

/-- The row and column of a store into the queries' gradient, for the queries of tile `n`. -/
theorem offO1 {w : BitVec 32} {n : Fin 4} (h : w = BitVec.ofNat 32 n.val) : k0_off7 w = ![1024 * n.val + 0, 256 * ((1 : Fin 2) : ℕ)] := by
  subst h; revert n; decide

end Cert.KernelIdeal.Attn

end
-- ==== Proof.Attn.Dats.lean ====
/- What the attention backward kernel holds at each grid point. -/
module

public import proofs.«01_k».proof.Proof.Attn.Cfg
public import proofs.«01_k».proof.Proof.Attn.Tile

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The pairs whose query tile is the key tile. -/
abbrev onDiag (n : ℕ) : Prop := n % 10 = 0 ∨ n % 10 = 4 ∨ n % 10 = 7 ∨ n % 10 = 9
/-- The pairs of the last query tile, after which a key tile's gradients are written out. -/
abbrev onLast (n : ℕ) : Prop := n % 10 = 3 ∨ n % 10 = 6 ∨ n % 10 = 8 ∨ n % 10 = 9

/-- What one grid point makes of the running gradients: the first pair of a group of heads clears the queries' gradient, a
    diagonal pair clears the key tile's; then the pair's tile is added. -/
def step (n : ℕ) (b : Blocks F) (s : Grads F) : Grads F :=
  if onDiag n then diag (qn n) b ⟨if n % 10 = 0 then k0_pay1 else s.dq, k0_pay2, k0_pay3⟩ else below (qn n) b s

/-- The first pair of a group of heads forgets what was there. -/
theorem step_first {n : ℕ} (h : n % 10 = 0) (b : Blocks F) (s s' : Grads F) : step n b s = step n b s' := by
  unfold step; rw [if_pos (Or.inl h), if_pos (Or.inl h), if_pos h, if_pos h]

variable (V : (c : Dev nD) → (b : Ref sig .tc) → Buf (Elt F) ((c.tc : Thread nD τ).loc b))

/-- Window `w`'s block at point `t`, of the arrays' contents `V` at the region's entry. -/
def iblk (c : Dev nD) (w : Fin (cfgA F).W) (t : Fin (cfgA F).N) : (((cfgA F).win w).xblock (crd t)).Idx → Elt F ((cfgA F).win w).elt :=
  (((cfgA F).win w).blk t).view.read (Elt F) (V c (Pipeline.arrRef (cfgA F).spec w))

/-- The six input blocks at point `t`. -/
def blks (c : Dev nD) (t : Fin (cfgA F).N) : Blocks F :=
  ⟨iblk V c (0 : Fin 9) t, iblk V c (1 : Fin 9) t, iblk V c (2 : Fin 9) t, iblk V c (3 : Fin 9) t, iblk V c (4 : Fin 9) t, iblk V c (5 : Fin 9) t⟩

/-- The running gradients before position `n`. -/
def traj (c : Dev nD) : ℕ → Grads F
  | 0 => ⟨k0_pay1, k0_pay2, k0_pay3⟩
  | n + 1 => if h : n < (cfgA F).N then step n (blks V c ⟨n, h⟩) (traj c n) else traj c n

/-- The running gradients after point `t`. -/
theorem traj_succ (c : Dev nD) (t : Fin (cfgA F).N) : traj V c (t.val + 1) = step t.val (blks V c t) (traj V c t.val) := by
  rw [traj, dif_pos t.isLt]

/-- The invariant before point `t`: the two accumulators, at the running gradients unless the point starts a group of heads,
    the body's halves of the tables, and the random generator's register. -/
def Phi (c : Dev nD) (t : Fin ((cfgA F).N + 1)) : sProp 𝕄 :=
  iprop((∃ s0 s1, ⌜¬t.val % 10 = 0 → s0 = (traj V c t.val).dk ∧ s1 = (traj V c t.val).dv⌝
      ∗ owns (c : Thread nD τ) dkAcc fullShare s0 ∗ owns (c : Thread nD τ) dvAcc fullShare s1)
    ∗ (qtab.view.loc (c : Thread nD τ) ↦{fullShare.right} tq) ∗ (ktab.view.loc (c : Thread nD τ) ↦{fullShare.right} tk) ∗ (∃ r, prngReg c r))

set_option backward.proofsInPublic true in
/-- The pipeline's proof data: inputs hold their blocks, outputs the running gradients. -/
def dats (_ : Fin 1) (c : Dev nD) : Dat τ (Elt F) Unit ℕ (UR sig nD τ) ℕ (cfgA F) c where
  A w := V c (Pipeline.arrRef (cfgA F).spec w)
  after w t := match w with
    | ⟨0, _⟩ => iblk V c (0 : Fin 9) t
    | ⟨1, _⟩ => iblk V c (1 : Fin 9) t
    | ⟨2, _⟩ => iblk V c (2 : Fin 9) t
    | ⟨3, _⟩ => iblk V c (3 : Fin 9) t
    | ⟨4, _⟩ => iblk V c (4 : Fin 9) t
    | ⟨5, _⟩ => iblk V c (5 : Fin 9) t
    | ⟨6, _⟩ => (traj V c (t.val + 1)).dq
    | ⟨7, _⟩ => (traj V c (t.val + 1)).dk
    | ⟨8, _⟩ => (traj V c (t.val + 1)).dv
  Φ t := Phi V c t
  q _ := fullShare
  owed _ := 0

/-- Input window 0 holds its block when the body runs. -/
theorem before0 (c : Dev nD) (t : Fin (cfgA F).N) (d) : (dats V 0 c).before (0 : Fin 9) t d = iblk V c (0 : Fin 9) t :=
  ((dats V 0 c).before_in_eq_fetched (0 : Fin 9) rfl (fun _ => rfl) (fun _ _ _ => rfl)
    (fun t => by rw [show (dats V 0 c).after (0 : Fin 9) t = iblk V c (0 : Fin 9) t from rfl]; unfold Dat.blockOf iblk; rfl) t d).trans
    (by unfold Dat.fetched Dat.blockOf iblk; rfl)
/-- Input window 1 holds its block when the body runs. -/
theorem before1 (c : Dev nD) (t : Fin (cfgA F).N) (d) : (dats V 0 c).before (1 : Fin 9) t d = iblk V c (1 : Fin 9) t :=
  ((dats V 0 c).before_in_eq_fetched (1 : Fin 9) rfl (fun _ => rfl) (fun _ _ _ => rfl)
    (fun t => by rw [show (dats V 0 c).after (1 : Fin 9) t = iblk V c (1 : Fin 9) t from rfl]; unfold Dat.blockOf iblk; rfl) t d).trans
    (by unfold Dat.fetched Dat.blockOf iblk; rfl)
/-- Input window 2 holds its block when the body runs. -/
theorem before2 (c : Dev nD) (t : Fin (cfgA F).N) (d) : (dats V 0 c).before (2 : Fin 9) t d = iblk V c (2 : Fin 9) t :=
  ((dats V 0 c).before_in_eq_fetched (2 : Fin 9) rfl (fun _ => rfl) (fun _ _ _ => rfl)
    (fun t => by rw [show (dats V 0 c).after (2 : Fin 9) t = iblk V c (2 : Fin 9) t from rfl]; unfold Dat.blockOf iblk; rfl) t d).trans
    (by unfold Dat.fetched Dat.blockOf iblk; rfl)
/-- Input window 3 holds its block when the body runs. -/
theorem before3 (c : Dev nD) (t : Fin (cfgA F).N) (d) : (dats V 0 c).before (3 : Fin 9) t d = iblk V c (3 : Fin 9) t :=
  ((dats V 0 c).before_in_eq_fetched (3 : Fin 9) rfl (fun _ => rfl) (fun _ _ _ => rfl)
    (fun t => by rw [show (dats V 0 c).after (3 : Fin 9) t = iblk V c (3 : Fin 9) t from rfl]; unfold Dat.blockOf iblk; rfl) t d).trans
    (by unfold Dat.fetched Dat.blockOf iblk; rfl)
/-- Input window 4 holds its block when the body runs. -/
theorem before4 (c : Dev nD) (t : Fin (cfgA F).N) (d) : (dats V 0 c).before (4 : Fin 9) t d = iblk V c (4 : Fin 9) t :=
  ((dats V 0 c).before_in_eq_fetched (4 : Fin 9) rfl (fun _ => rfl) (fun _ _ _ => rfl)
    (fun t => by rw [show (dats V 0 c).after (4 : Fin 9) t = iblk V c (4 : Fin 9) t from rfl]; unfold Dat.blockOf iblk; rfl) t d).trans
    (by unfold Dat.fetched Dat.blockOf iblk; rfl)
/-- Input window 5 holds its block when the body runs. -/
theorem before5 (c : Dev nD) (t : Fin (cfgA F).N) (d) : (dats V 0 c).before (5 : Fin 9) t d = iblk V c (5 : Fin 9) t :=
  ((dats V 0 c).before_in_eq_fetched (5 : Fin 9) rfl (fun _ => rfl) (fun _ _ _ => rfl)
    (fun t => by rw [show (dats V 0 c).after (5 : Fin 9) t = iblk V c (5 : Fin 9) t from rfl]; unfold Dat.blockOf iblk; rfl) t d).trans
    (by unfold Dat.fetched Dat.blockOf iblk; rfl)

/-- The words at a point, for any number type. -/
theorem words (t : Fin (cfgA F).N) :
    qw (crd t) (tq (F := F)) = BitVec.ofNat 32 (qn t.val).val
    ∧ k0_chk1 (qw (crd t) (tq (F := F))) (kw (crd t) (tk (F := F)))
    ∧ ((k0_cond1 (crd t) == 1#1) = decide (t.val % 10 = 0))
    ∧ (decide (isDiag (qw (crd t) (tq (F := F))) (kw (crd t) (tk (F := F)))) = decide (onDiag t.val))
    ∧ ((k0_cond3 (qw (crd t) (tq (F := F))) (kw (crd t) (tk (F := F))) == 1#1) = decide (onDiag t.val))
    ∧ ((k0_cond4 (qw (crd t) (tq (F := F))) (kw (crd t) (tk (F := F))) == 1#1) = !decide (onDiag t.val))
    ∧ (decide (isLast (qw (crd t) (tq (F := F)))) = decide (onLast t.val)) := words_all t

/-- The schedule at a point, for any number type. -/
theorem sched (t : Fin (cfgA F).N) :
    (cfgA F).idle (6 : Fin 9) (crd t) = false
    ∧ ((cfgA F).win (6 : Fin 9)).flush t = decide (t.val % 10 = 9)
    ∧ (cfgA F).idle (7 : Fin 9) (crd t) = !decide (onLast t.val)
    ∧ ((cfgA F).win (7 : Fin 9)).flush t = decide (onLast t.val)
    ∧ (cfgA F).idle (8 : Fin 9) (crd t) = !decide (onLast t.val)
    ∧ ((cfgA F).win (8 : Fin 9)).flush t = decide (onLast t.val) := sched_all t

/-- The queries' gradient block is new exactly at the first pair of a group of heads. -/
theorem fresh6 (n : ℕ) (h : n ≤ (cfgA F).N) : (cfgA F).fresh (6 : Fin 9) n = decide (n % 10 = 0) :=
  (cfgA F).fresh_tab (6 : Fin 9) (fun n => decide (n % 10 = 0)) rfl (fun t => by
    obtain ⟨i6, f6, -⟩ := sched (F := F) t
    rw [i6, f6, Bool.false_and, Bool.or_false]
    exact decide_eq_decide.mpr (by omega)) n h

/-- The queries' gradient block, when the body runs: anything at the first pair of a group of heads, else the running one. -/
theorem before6 (c : Dev nD) (t : Fin (cfgA F).N) (d) :
    (dats V 0 c).before (6 : Fin 9) t d = if t.val % 10 = 0 then d else (traj V c t.val).dq := by
  rw [(dats V 0 c).before_out_traj (6 : Fin 9) rfl (fun _ _ => rfl)
    (fun t _ hi _ => by rw [(sched (F := F) t).1] at hi; exact absurd hi (by decide)) t.val t rfl d, fresh6 t.val (Nat.le_of_lt t.isLt)]
  by_cases h : t.val % 10 = 0
  · simp only [h, decide_true, ↓reduceIte]
  · have h0 : t.val ≠ 0 := fun h0 => h (by rw [h0])
    simp only [h, decide_false, Bool.false_eq_true, ↓reduceIte]
    show (traj V c (t.val - 1 + 1)).dq = _
    rw [Nat.sub_add_cancel (Nat.pos_of_ne_zero h0)]

end Cert.KernelIdeal.Attn

end
-- ==== Proof.Attn.RunA.lean ====
/- The body of the attention backward kernel at the first point of a pair of heads (a diagonal tile, the query gradient zeroed). -/
module

public import proofs.«01_k».proof.Proof.Attn.Base

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

set_option backward.proofsInPublic true in
set_option maxHeartbeats 16000000 in
/-- The body at the first point of a pair of heads (a diagonal tile, the query gradient zeroed): the list of stores it makes in each buffer it writes, with the proof that from the input
    blocks, the tables and the buffers' contents it ends with exactly those stores made. -/
def runA (c : Dev nD) (i : grid0.Coords) (arg4 : Memref sig .tc .vmem S1024x512 .bf16) (harg4 : arg4.IsWhole) (arg5 : Memref sig .tc .vmem S1024x512 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S2x1x1024 .f32) (harg9 : arg9.IsWhole) (arg10 : Memref sig .tc .vmem S4096x512 .f32) (harg10 : arg10.IsWhole) (arg11 : Memref sig .tc .vmem S1024x512 .f32) (harg11 : arg11.IsWhole) (arg12 : Memref sig .tc .vmem S1024x256 .f32) (harg12 : arg12.IsWhole) (T0 T1 : S10.Idx → Elt F .i32)
    (x0 : S1024x512.Idx → Elt F .bf16) (x1 : S1024x512.Idx → Elt F .bf16) (x2 : S1024x256.Idx → Elt F .bf16) (x3 : S1024x256.Idx → Elt F .bf16) (x4 : S1024x256.Idx → Elt F .bf16) (x5 : S2x1x1024.Idx → Elt F .f32) (k0_h1 : k0_cond1 i = 1#1) (hd : isDiag (qw i T0) (kw i T1)) (k0_h3 : k0_cond3 (qw i T0) (kw i T1) = 1#1) (k0_h4 : ¬k0_cond4 (qw i T0) (kw i T1) = 1#1) (hl : ¬isLast (qw i T0)) (hw : k0_chk1 (qw i T0) (kw i T1)) :
    Σ' (o6 : List (View.Piece (Elt F) S4096x512 .f32)) (a0 : List (View.Piece (Elt F) S1024x512 .f32)), { a1 : List (View.Piece (Elt F) S1024x256 .f32) //
      ∀ (y6 : S4096x512.Idx → Elt F .f32) (s0 : S1024x512.Idx → Elt F .f32) (s1 : S1024x256.Idx → Elt F .f32) (y7 : S1024x512.Idx → Elt F .f32) (y8 : S1024x256.Idx → Elt F .f32) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (qtab.view.loc (c : Thread nD τ) ↦{fullShare.right} T0)
          ∗ (ktab.view.loc (c : Thread nD τ) ↦{fullShare.right} T1)
          ∗ (arg10.view.loc (c : Thread nD τ) ↦[arg10.view.set]{fullShare} arg10.view.rep y6)
          ∗ (arg11.view.loc (c : Thread nD τ) ↦[arg11.view.set]{fullShare} arg11.view.rep y7)
          ∗ (arg12.view.loc (c : Thread nD τ) ↦[arg12.view.set]{fullShare} arg12.view.rep y8)
          ∗ (dkAcc.view.loc (c : Thread nD τ) ↦[dkAcc.view.set]{fullShare} dkAcc.view.rep s0)
          ∗ (dvAcc.view.loc (c : Thread nD τ) ↦[dvAcc.view.set]{fullShare} dvAcc.view.rep s1)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (qtab.view.loc (c : Thread nD τ) ↦{fullShare.right} T0)
              ∗ (ktab.view.loc (c : Thread nD τ) ↦{fullShare.right} T1)
              ∗ (arg10.view.loc (c : Thread nD τ) ↦[arg10.view.set]{fullShare} arg10.view.writes (Elt F) arg10.view.junk o6)
              ∗ (arg11.view.loc (c : Thread nD τ) ↦[arg11.view.set]{fullShare} arg11.view.rep y7)
              ∗ (arg12.view.loc (c : Thread nD τ) ↦[arg12.view.set]{fullShare} arg12.view.rep y8)
              ∗ (dkAcc.view.loc (c : Thread nD τ) ↦[dkAcc.view.set]{fullShare} dkAcc.view.writes (Elt F) dkAcc.view.junk a0)
              ∗ (dvAcc.view.loc (c : Thread nD τ) ↦[dvAcc.view.set]{fullShare} dvAcc.view.writes (Elt F) dvAcc.view.junk a1)) -∗ K ⟨⟩))
          ⊢ wp frame (wpE (defs₀ (F := F)) Variants.none c none) Set.univ (cc0_attn_bwd i qtab (Memref.isWhole_whole _) ktab (Memref.isWhole_whole _) arg4 harg4 arg5 harg5 arg6 harg6 arg7 harg7 arg8 harg8 arg9 harg9 arg10 harg10 arg11 harg11 arg12 harg12 dkAcc (Memref.isWhole_whole _) dvAcc (Memref.isWhole_whole _)) K } :=
  ⟨_, _, _, fun (y6 : S4096x512.Idx → Elt F .f32) (s0 : S1024x512.Idx → Elt F .f32) (s1 : S1024x256.Idx → Elt F .f32) (y7 : S1024x512.Idx → Elt F .f32) (y8 : S1024x256.Idx → Elt F .f32) K => by
    rw [cc0_attn_bwd_eq_skeleton]; unfold cc0_attn_bwd_skel
    iintro ⟨H0, H1, H2, H3, H4, H5, HT0, HT1, H6, H7, H8, HS0, HS1, Hk⟩
    have hS0 : dkAcc.IsWhole := Memref.isWhole_whole _
    have hS1 : dvAcc.IsWhole := Memref.isWhole_whole _
    have hT0 : qtab.IsWhole := Memref.isWhole_whole _
    have hT1 : ktab.IsWhole := Memref.isWhole_whole _
    sl_exec! (disch := first | exact k0_h1 | exact k0_h3 | exact k0_h4 | exact hd | exact hl | exact hw)
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [H6]; · iexact H6
    isplitl [H7]; · iexact H7
    isplitl [H8]; · iexact H8
    isplitl [HS0]; · iexact HS0
    iexact HS1⟩

end Cert.KernelIdeal.Attn

end
-- ==== Proof.Attn.OutA.lean ====
/- What the body of the attention backward kernel leaves in its buffers at the first point of a pair of heads (a diagonal tile, the query gradient zeroed). -/
module

public import proofs.«01_k».proof.Proof.Attn.Tile
public import proofs.«01_k».proof.Proof.Attn.RunA

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

open VecWindow

/-- At the first point of a pair of heads (a diagonal tile, the query gradient zeroed): the queries' gradient is the running one with the tile's added. -/
theorem runA_dq (c : Dev nD) (i : grid0.Coords) (arg4 : Memref sig .tc .vmem S1024x512 .bf16) (harg4 : arg4.IsWhole) (arg5 : Memref sig .tc .vmem S1024x512 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S2x1x1024 .f32) (harg9 : arg9.IsWhole) (arg10 : Memref sig .tc .vmem S4096x512 .f32) (harg10 : arg10.IsWhole) (arg11 : Memref sig .tc .vmem S1024x512 .f32) (harg11 : arg11.IsWhole) (arg12 : Memref sig .tc .vmem S1024x256 .f32) (harg12 : arg12.IsWhole) (T0 T1 : S10.Idx → Elt F .i32)
    (b : Blocks F) (k0_h1 : k0_cond1 i = 1#1) (hd : isDiag (qw i T0) (kw i T1)) (k0_h3 : k0_cond3 (qw i T0) (kw i T1) = 1#1) (k0_h4 : ¬k0_cond4 (qw i T0) (kw i T1) = 1#1) (hl : ¬isLast (qw i T0)) (hw : k0_chk1 (qw i T0) (kw i T1)) (n : Fin 4) (hn : (qw i T0) = BitVec.ofNat 32 n.val) :
    arg10.view.read (Elt F) (arg10.view.writes (Elt F) arg10.view.junk (runA c i arg4 harg4 arg5 harg5 arg6 harg6 arg7 harg7 arg8 harg8 arg9 harg9 arg10 harg10 arg11 harg11 arg12 harg12 T0 T1 (x0 := b.q) (x1 := b.k) (x2 := b.v) (x3 := b.o) (x4 := b.d) (x5 := b.l) k0_h1 hd k0_h3 k0_h4 hl hw).1) = (diag n b ⟨k0_pay1, k0_pay2, k0_pay3⟩).dq := by
  refine put_step _ _ _ _ (offB1 hn) ?_ fun hX => (show k0_pay5 (k0_pay25 _ (k0_pay23 _ _) (k0_pay24 _ _ _) _) _ _ = k0_pay5 (k0_pay25 _ (k0_pay23 _ _) (k0_pay24 _ _ _) _) _ _ from (congr (congr (congrArg k0_pay5 (congr (congr (congr (congrArg k0_pay25 (View.readAt_rep_unit _ _ _ rfl _)) (congr (congrArg k0_pay23 (View.readAt_rep_unit _ _ _ rfl _)) (View.readAt_rep_unit _ _ _ rfl _))) (congr (congr (congrArg k0_pay24 (View.readAt_rep_unit _ _ _ rfl _)) (View.readAt_rep_unit _ _ _ rfl _)) (View.readAt_rep_unit _ _ _ rfl _))) (View.readAt_rep_unit _ _ _ rfl _))) (acc_step _ _ _ _ _ (offB1 hn) hX)) (View.readAt_rep_unit _ _ _ rfl _)))
  refine put_step _ _ _ _ (offB0 hn) ?_ fun hX => (show k0_pay5 (k0_pay25 _ (k0_pay23 _ _) (k0_pay24 _ _ _) _) _ _ = k0_pay5 (k0_pay25 _ (k0_pay23 _ _) (k0_pay24 _ _ _) _) _ _ from (congr (congr (congrArg k0_pay5 (congr (congr (congr (congrArg k0_pay25 (View.readAt_rep_unit _ _ _ rfl _)) (congr (congrArg k0_pay23 (View.readAt_rep_unit _ _ _ rfl _)) (View.readAt_rep_unit _ _ _ rfl _))) (congr (congr (congrArg k0_pay24 (View.readAt_rep_unit _ _ _ rfl _)) (View.readAt_rep_unit _ _ _ rfl _)) (View.readAt_rep_unit _ _ _ rfl _))) (View.readAt_rep_unit _ _ _ rfl _))) (acc_step _ _ _ _ _ (offB0 hn) hX)) (View.readAt_rep_unit _ _ _ rfl _)))
  refine put_step _ _ _ _ (offA1 hn) ?_ fun hX => (show k0_pay15 (k0_pay11 _ _ _ _ _ _) _ _ = k0_pay15 (k0_pay11 _ _ _ _ _ _) _ _ from (congr (congr (congrArg k0_pay15 (congr (congr (congr (congr (congr (congrArg k0_pay11 (View.readAt_rep_unit _ _ _ rfl _)) (View.readAt_rep_unit _ _ _ rfl _)) (View.readAt_rep_unit _ _ _ rfl _)) (View.readAt_rep_unit _ _ _ rfl _)) (View.readAt_rep_unit _ _ _ rfl _)) (View.readAt_rep_unit _ _ _ rfl _))) (acc_step _ _ _ _ _ (offA1 hn) hX)) (View.readAt_rep_unit _ _ _ rfl _)))
  refine put_step _ _ _ _ (offA0 hn) ?_ fun hX => (show k0_pay15 (k0_pay11 _ _ _ _ _ _) _ _ = k0_pay15 (k0_pay11 _ _ _ _ _ _) _ _ from (congr (congr (congrArg k0_pay15 (congr (congr (congr (congr (congr (congrArg k0_pay11 (View.readAt_rep_unit _ _ _ rfl _)) (View.readAt_rep_unit _ _ _ rfl _)) (View.readAt_rep_unit _ _ _ rfl _)) (View.readAt_rep_unit _ _ _ rfl _)) (View.readAt_rep_unit _ _ _ rfl _)) (View.readAt_rep_unit _ _ _ rfl _))) (acc_step _ _ _ _ _ (offA0 hn) hX)) (View.readAt_rep_unit _ _ _ rfl _)))
  exact View.read_writes_full _ _ _ _ _

/-- At the first point of a pair of heads (a diagonal tile, the query gradient zeroed): the keys' gradient is the running one with the tile's added. -/
theorem runA_dk (c : Dev nD) (i : grid0.Coords) (arg4 : Memref sig .tc .vmem S1024x512 .bf16) (harg4 : arg4.IsWhole) (arg5 : Memref sig .tc .vmem S1024x512 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S2x1x1024 .f32) (harg9 : arg9.IsWhole) (arg10 : Memref sig .tc .vmem S4096x512 .f32) (harg10 : arg10.IsWhole) (arg11 : Memref sig .tc .vmem S1024x512 .f32) (harg11 : arg11.IsWhole) (arg12 : Memref sig .tc .vmem S1024x256 .f32) (harg12 : arg12.IsWhole) (T0 T1 : S10.Idx → Elt F .i32)
    (b : Blocks F) (k0_h1 : k0_cond1 i = 1#1) (hd : isDiag (qw i T0) (kw i T1)) (k0_h3 : k0_cond3 (qw i T0) (kw i T1) = 1#1) (k0_h4 : ¬k0_cond4 (qw i T0) (kw i T1) = 1#1) (hl : ¬isLast (qw i T0)) (hw : k0_chk1 (qw i T0) (kw i T1)) (n : Fin 4) (hn : (qw i T0) = BitVec.ofNat 32 n.val) :
    dkAcc.view.read (Elt F) (dkAcc.view.writes (Elt F) dkAcc.view.junk (runA c i arg4 harg4 arg5 harg5 arg6 harg6 arg7 harg7 arg8 harg8 arg9 harg9 arg10 harg10 arg11 harg11 arg12 harg12 T0 T1 (x0 := b.q) (x1 := b.k) (x2 := b.v) (x3 := b.o) (x4 := b.d) (x5 := b.l) k0_h1 hd k0_h3 k0_h4 hl hw).2.1) = (diag n b ⟨k0_pay1, k0_pay2, k0_pay3⟩).dk := by
  refine put_step _ _ _ _ rfl ?_ fun hX => (show k0_pay4 (k0_pay25 _ (k0_pay23 _ _) (k0_pay24 _ _ _) _) _ _ = k0_pay4 (k0_pay25 _ (k0_pay23 _ _) (k0_pay24 _ _ _) _) _ _ from (congr (congr (congrArg k0_pay4 (congr (congr (congr (congrArg k0_pay25 (View.readAt_rep_unit _ _ _ rfl _)) (congr (congrArg k0_pay23 (View.readAt_rep_unit _ _ _ rfl _)) (View.readAt_rep_unit _ _ _ rfl _))) (congr (congr (congrArg k0_pay24 (View.readAt_rep_unit _ _ _ rfl _)) (View.readAt_rep_unit _ _ _ rfl _)) (View.readAt_rep_unit _ _ _ rfl _))) (View.readAt_rep_unit _ _ _ rfl _))) (acc_step _ _ _ _ _ rfl hX)) (View.readAt_rep_unit _ _ _ rfl _)))
  refine put_step _ _ _ _ rfl ?_ fun hX => (show k0_pay4 (k0_pay25 _ (k0_pay23 _ _) (k0_pay24 _ _ _) _) _ _ = k0_pay4 (k0_pay25 _ (k0_pay23 _ _) (k0_pay24 _ _ _) _) _ _ from (congr (congr (congrArg k0_pay4 (congr (congr (congr (congrArg k0_pay25 (View.readAt_rep_unit _ _ _ rfl _)) (congr (congrArg k0_pay23 (View.readAt_rep_unit _ _ _ rfl _)) (View.readAt_rep_unit _ _ _ rfl _))) (congr (congr (congrArg k0_pay24 (View.readAt_rep_unit _ _ _ rfl _)) (View.readAt_rep_unit _ _ _ rfl _)) (View.readAt_rep_unit _ _ _ rfl _))) (View.readAt_rep_unit _ _ _ rfl _))) (acc_step _ _ _ _ _ rfl hX)) (View.readAt_rep_unit _ _ _ rfl _)))
  refine put_step _ _ _ _ rfl ?_ fun hX => (show k0_pay14 (k0_pay11 _ _ _ _ _ _) _ _ = k0_pay14 (k0_pay11 _ _ _ _ _ _) _ _ from (congr (congr (congrArg k0_pay14 (congr (congr (congr (congr (congr (congrArg k0_pay11 (View.readAt_rep_unit _ _ _ rfl _)) (View.readAt_rep_unit _ _ _ rfl _)) (View.readAt_rep_unit _ _ _ rfl _)) (View.readAt_rep_unit _ _ _ rfl _)) (View.readAt_rep_unit _ _ _ rfl _)) (View.readAt_rep_unit _ _ _ rfl _))) (acc_step _ _ _ _ _ rfl hX)) (View.readAt_rep_unit _ _ _ rfl _)))
  refine put_step _ _ _ _ rfl ?_ fun hX => (show k0_pay14 (k0_pay11 _ _ _ _ _ _) _ _ = k0_pay14 (k0_pay11 _ _ _ _ _ _) _ _ from (congr (congr (congrArg k0_pay14 (congr (congr (congr (congr (congr (congrArg k0_pay11 (View.readAt_rep_unit _ _ _ rfl _)) (View.readAt_rep_unit _ _ _ rfl _)) (View.readAt_rep_unit _ _ _ rfl _)) (View.readAt_rep_unit _ _ _ rfl _)) (View.readAt_rep_unit _ _ _ rfl _)) (View.readAt_rep_unit _ _ _ rfl _))) (acc_step _ _ _ _ _ rfl hX)) (View.readAt_rep_unit _ _ _ rfl _)))
  exact View.read_writes_full _ _ _ _ _

/-- At the first point of a pair of heads (a diagonal tile, the query gradient zeroed): the values' gradient is the running one with the tile's added. -/
theorem runA_dv (c : Dev nD) (i : grid0.Coords) (arg4 : Memref sig .tc .vmem S1024x512 .bf16) (harg4 : arg4.IsWhole) (arg5 : Memref sig .tc .vmem S1024x512 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S2x1x1024 .f32) (harg9 : arg9.IsWhole) (arg10 : Memref sig .tc .vmem S4096x512 .f32) (harg10 : arg10.IsWhole) (arg11 : Memref sig .tc .vmem S1024x512 .f32) (harg11 : arg11.IsWhole) (arg12 : Memref sig .tc .vmem S1024x256 .f32) (harg12 : arg12.IsWhole) (T0 T1 : S10.Idx → Elt F .i32)
    (b : Blocks F) (k0_h1 : k0_cond1 i = 1#1) (hd : isDiag (qw i T0) (kw i T1)) (k0_h3 : k0_cond3 (qw i T0) (kw i T1) = 1#1) (k0_h4 : ¬k0_cond4 (qw i T0) (kw i T1) = 1#1) (hl : ¬isLast (qw i T0)) (hw : k0_chk1 (qw i T0) (kw i T1)) (n : Fin 4) (hn : (qw i T0) = BitVec.ofNat 32 n.val) :
    dvAcc.view.read (Elt F) (dvAcc.view.writes (Elt F) dvAcc.view.junk (runA c i arg4 harg4 arg5 harg5 arg6 harg6 arg7 harg7 arg8 harg8 arg9 harg9 arg10 harg10 arg11 harg11 arg12 harg12 T0 T1 (x0 := b.q) (x1 := b.k) (x2 := b.v) (x3 := b.o) (x4 := b.d) (x5 := b.l) k0_h1 hd k0_h3 k0_h4 hl hw).2.2.1) = (diag n b ⟨k0_pay1, k0_pay2, k0_pay3⟩).dv := by
  refine put_step _ _ _ _ rfl ?_ fun hX => (show k0_pay26 _ (k0_pay24 _ _ _) _ = k0_pay26 _ (k0_pay24 _ _ _) _ from (congr (congr (congrArg k0_pay26 (View.readAt_rep_unit _ _ _ rfl _)) (congr (congr (congrArg k0_pay24 (View.readAt_rep_unit _ _ _ rfl _)) (View.readAt_rep_unit _ _ _ rfl _)) (View.readAt_rep_unit _ _ _ rfl _))) (acc_step _ _ _ _ _ rfl hX)))
  refine put_step _ _ _ _ rfl ?_ fun hX => (show k0_pay26 _ (k0_pay24 _ _ _) _ = k0_pay26 _ (k0_pay24 _ _ _) _ from (congr (congr (congrArg k0_pay26 (View.readAt_rep_unit _ _ _ rfl _)) (congr (congr (congrArg k0_pay24 (View.readAt_rep_unit _ _ _ rfl _)) (View.readAt_rep_unit _ _ _ rfl _)) (View.readAt_rep_unit _ _ _ rfl _))) (acc_step _ _ _ _ _ rfl hX)))
  refine put_step _ _ _ _ rfl ?_ fun hX => (show k0_pay13 _ _ (k0_pay12 _ _ _) = k0_pay13 _ _ (k0_pay12 _ _ _) from (congr (congr (congrArg k0_pay13 (View.readAt_rep_unit _ _ _ rfl _)) (acc_step _ _ _ _ _ rfl hX)) (congr (congr (congrArg k0_pay12 (View.readAt_rep_unit _ _ _ rfl _)) (View.readAt_rep_unit _ _ _ rfl _)) (View.readAt_rep_unit _ _ _ rfl _))))
  refine put_step _ _ _ _ rfl ?_ fun hX => (show k0_pay13 _ _ (k0_pay12 _ _ _) = k0_pay13 _ _ (k0_pay12 _ _ _) from (congr (congr (congrArg k0_pay13 (View.readAt_rep_unit _ _ _ rfl _)) (acc_step _ _ _ _ _ rfl hX)) (congr (congr (congrArg k0_pay12 (View.readAt_rep_unit _ _ _ rfl _)) (View.readAt_rep_unit _ _ _ rfl _)) (View.readAt_rep_unit _ _ _ rfl _))))
  exact View.read_writes_full _ _ _ _ _

end Cert.KernelIdeal.Attn

end
-- ==== Proof.Attn.RunB.lean ====
/- The body of the attention backward kernel at a tile below the diagonal, not of the last queries. -/
module

public import proofs.«01_k».proof.Proof.Attn.Base

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

set_option backward.proofsInPublic true in
set_option maxHeartbeats 16000000 in
/-- The body at a tile below the diagonal, not of the last queries: the list of stores it makes in each buffer it writes, with the proof that from the input
    blocks, the tables and the buffers' contents it ends with exactly those stores made. -/
def runB (c : Dev nD) (i : grid0.Coords) (arg4 : Memref sig .tc .vmem S1024x512 .bf16) (harg4 : arg4.IsWhole) (arg5 : Memref sig .tc .vmem S1024x512 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S2x1x1024 .f32) (harg9 : arg9.IsWhole) (arg10 : Memref sig .tc .vmem S4096x512 .f32) (harg10 : arg10.IsWhole) (arg11 : Memref sig .tc .vmem S1024x512 .f32) (harg11 : arg11.IsWhole) (arg12 : Memref sig .tc .vmem S1024x256 .f32) (harg12 : arg12.IsWhole) (T0 T1 : S10.Idx → Elt F .i32)
    (x0 : S1024x512.Idx → Elt F .bf16) (x1 : S1024x512.Idx → Elt F .bf16) (x2 : S1024x256.Idx → Elt F .bf16) (x3 : S1024x256.Idx → Elt F .bf16) (x4 : S1024x256.Idx → Elt F .bf16) (x5 : S2x1x1024.Idx → Elt F .f32) (y6 : S4096x512.Idx → Elt F .f32) (s0 : S1024x512.Idx → Elt F .f32) (s1 : S1024x256.Idx → Elt F .f32) (k0_h1 : ¬k0_cond1 i = 1#1) (hd : ¬isDiag (qw i T0) (kw i T1)) (k0_h3 : ¬k0_cond3 (qw i T0) (kw i T1) = 1#1) (k0_h4 : k0_cond4 (qw i T0) (kw i T1) = 1#1) (hl : ¬isLast (qw i T0)) (hw : k0_chk1 (qw i T0) (kw i T1)) :
    Σ' (o6 : List (View.Piece (Elt F) S4096x512 .f32)) (a0 : List (View.Piece (Elt F) S1024x512 .f32)), { a1 : List (View.Piece (Elt F) S1024x256 .f32) //
      ∀ (y7 : S1024x512.Idx → Elt F .f32) (y8 : S1024x256.Idx → Elt F .f32) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (qtab.view.loc (c : Thread nD τ) ↦{fullShare.right} T0)
          ∗ (ktab.view.loc (c : Thread nD τ) ↦{fullShare.right} T1)
          ∗ (arg10.view.loc (c : Thread nD τ) ↦[arg10.view.set]{fullShare} arg10.view.rep y6)
          ∗ (arg11.view.loc (c : Thread nD τ) ↦[arg11.view.set]{fullShare} arg11.view.rep y7)
          ∗ (arg12.view.loc (c : Thread nD τ) ↦[arg12.view.set]{fullShare} arg12.view.rep y8)
          ∗ (dkAcc.view.loc (c : Thread nD τ) ↦[dkAcc.view.set]{fullShare} dkAcc.view.rep s0)
          ∗ (dvAcc.view.loc (c : Thread nD τ) ↦[dvAcc.view.set]{fullShare} dvAcc.view.rep s1)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (qtab.view.loc (c : Thread nD τ) ↦{fullShare.right} T0)
              ∗ (ktab.view.loc (c : Thread nD τ) ↦{fullShare.right} T1)
              ∗ (arg10.view.loc (c : Thread nD τ) ↦[arg10.view.set]{fullShare} arg10.view.writes (Elt F) (arg10.view.rep y6) o6)
              ∗ (arg11.view.loc (c : Thread nD τ) ↦[arg11.view.set]{fullShare} arg11.view.rep y7)
              ∗ (arg12.view.loc (c : Thread nD τ) ↦[arg12.view.set]{fullShare} arg12.view.rep y8)
              ∗ (dkAcc.view.loc (c : Thread nD τ) ↦[dkAcc.view.set]{fullShare} dkAcc.view.writes (Elt F) dkAcc.view.junk a0)
              ∗ (dvAcc.view.loc (c : Thread nD τ) ↦[dvAcc.view.set]{fullShare} dvAcc.view.writes (Elt F) dvAcc.view.junk a1)) -∗ K ⟨⟩))
          ⊢ wp frame (wpE (defs₀ (F := F)) Variants.none c none) Set.univ (cc0_attn_bwd i qtab (Memref.isWhole_whole _) ktab (Memref.isWhole_whole _) arg4 harg4 arg5 harg5 arg6 harg6 arg7 harg7 arg8 harg8 arg9 harg9 arg10 harg10 arg11 harg11 arg12 harg12 dkAcc (Memref.isWhole_whole _) dvAcc (Memref.isWhole_whole _)) K } :=
  ⟨_, _, _, fun (y7 : S1024x512.Idx → Elt F .f32) (y8 : S1024x256.Idx → Elt F .f32) K => by
    rw [cc0_attn_bwd_eq_skeleton]; unfold cc0_attn_bwd_skel
    iintro ⟨H0, H1, H2, H3, H4, H5, HT0, HT1, H6, H7, H8, HS0, HS1, Hk⟩
    have hS0 : dkAcc.IsWhole := Memref.isWhole_whole _
    have hS1 : dvAcc.IsWhole := Memref.isWhole_whole _
    have hT0 : qtab.IsWhole := Memref.isWhole_whole _
    have hT1 : ktab.IsWhole := Memref.isWhole_whole _
    sl_exec! (disch := first | exact k0_h1 | exact k0_h3 | exact k0_h4 | exact hd | exact hl | exact hw)
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [H6]; · iexact H6
    isplitl [H7]; · iexact H7
    isplitl [H8]; · iexact H8
    isplitl [HS0]; · iexact HS0
    iexact HS1⟩

end Cert.KernelIdeal.Attn

end
-- ==== Proof.Attn.OutB.lean ====
/- What the body of the attention backward kernel leaves in its buffers at a tile below the diagonal, not of the last queries. -/
module

public import proofs.«01_k».proof.Proof.Attn.Tile
public import proofs.«01_k».proof.Proof.Attn.RunB

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

open VecWindow

/-- At a tile below the diagonal, not of the last queries: the queries' gradient is the running one with the tile's added. -/
theorem runB_dq (c : Dev nD) (i : grid0.Coords) (arg4 : Memref sig .tc .vmem S1024x512 .bf16) (harg4 : arg4.IsWhole) (arg5 : Memref sig .tc .vmem S1024x512 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S2x1x1024 .f32) (harg9 : arg9.IsWhole) (arg10 : Memref sig .tc .vmem S4096x512 .f32) (harg10 : arg10.IsWhole) (arg11 : Memref sig .tc .vmem S1024x512 .f32) (harg11 : arg11.IsWhole) (arg12 : Memref sig .tc .vmem S1024x256 .f32) (harg12 : arg12.IsWhole) (T0 T1 : S10.Idx → Elt F .i32)
    (b : Blocks F) (y6 : S4096x512.Idx → Elt F .f32) (s0 : S1024x512.Idx → Elt F .f32) (s1 : S1024x256.Idx → Elt F .f32) (k0_h1 : ¬k0_cond1 i = 1#1) (hd : ¬isDiag (qw i T0) (kw i T1)) (k0_h3 : ¬k0_cond3 (qw i T0) (kw i T1) = 1#1) (k0_h4 : k0_cond4 (qw i T0) (kw i T1) = 1#1) (hl : ¬isLast (qw i T0)) (hw : k0_chk1 (qw i T0) (kw i T1)) (n : Fin 4) (hn : (qw i T0) = BitVec.ofNat 32 n.val) :
    arg10.view.read (Elt F) (arg10.view.writes (Elt F) (arg10.view.rep y6) (runB c i arg4 harg4 arg5 harg5 arg6 harg6 arg7 harg7 arg8 harg8 arg9 harg9 arg10 harg10 arg11 harg11 arg12 harg12 T0 T1 (x0 := b.q) (x1 := b.k) (x2 := b.v) (x3 := b.o) (x4 := b.d) (x5 := b.l) (y6 := y6) (s0 := s0) (s1 := s1) k0_h1 hd k0_h3 k0_h4 hl hw).1) = (below n b ⟨y6, s0, s1⟩).dq := by
  refine put_step _ _ _ _ (offO1 hn) ?_ fun hX => (show k0_pay37 (k0_pay34 _ _ _ _ _ _) _ _ = k0_pay37 (k0_pay34 _ _ _ _ _ _) _ _ from (congr (congr (congrArg k0_pay37 (congr (congr (congr (congr (congr (congrArg k0_pay34 (View.readAt_rep_unit _ _ _ rfl _)) (View.readAt_rep_unit _ _ _ rfl _)) (View.readAt_rep_unit _ _ _ rfl _)) (View.readAt_rep_unit _ _ _ rfl _)) (View.readAt_rep_unit _ _ _ rfl _)) (View.readAt_rep_unit _ _ _ rfl _))) (acc_step _ _ _ _ _ (offO1 hn) hX)) (View.readAt_rep_unit _ _ _ rfl _)))
  refine put_step _ _ _ _ (offO0 hn) ?_ fun hX => (show k0_pay37 (k0_pay34 _ _ _ _ _ _) _ _ = k0_pay37 (k0_pay34 _ _ _ _ _ _) _ _ from (congr (congr (congrArg k0_pay37 (congr (congr (congr (congr (congr (congrArg k0_pay34 (View.readAt_rep_unit _ _ _ rfl _)) (View.readAt_rep_unit _ _ _ rfl _)) (View.readAt_rep_unit _ _ _ rfl _)) (View.readAt_rep_unit _ _ _ rfl _)) (View.readAt_rep_unit _ _ _ rfl _)) (View.readAt_rep_unit _ _ _ rfl _))) (View.readAt_rep_unit _ _ _ (offO0 hn) _)) (View.readAt_rep_unit _ _ _ rfl _)))
  rw [View.writes_nil]; exact View.read_rep _ _

/-- At a tile below the diagonal, not of the last queries: the keys' gradient is the running one with the tile's added. -/
theorem runB_dk (c : Dev nD) (i : grid0.Coords) (arg4 : Memref sig .tc .vmem S1024x512 .bf16) (harg4 : arg4.IsWhole) (arg5 : Memref sig .tc .vmem S1024x512 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S2x1x1024 .f32) (harg9 : arg9.IsWhole) (arg10 : Memref sig .tc .vmem S4096x512 .f32) (harg10 : arg10.IsWhole) (arg11 : Memref sig .tc .vmem S1024x512 .f32) (harg11 : arg11.IsWhole) (arg12 : Memref sig .tc .vmem S1024x256 .f32) (harg12 : arg12.IsWhole) (T0 T1 : S10.Idx → Elt F .i32)
    (b : Blocks F) (y6 : S4096x512.Idx → Elt F .f32) (s0 : S1024x512.Idx → Elt F .f32) (s1 : S1024x256.Idx → Elt F .f32) (k0_h1 : ¬k0_cond1 i = 1#1) (hd : ¬isDiag (qw i T0) (kw i T1)) (k0_h3 : ¬k0_cond3 (qw i T0) (kw i T1) = 1#1) (k0_h4 : k0_cond4 (qw i T0) (kw i T1) = 1#1) (hl : ¬isLast (qw i T0)) (hw : k0_chk1 (qw i T0) (kw i T1)) (n : Fin 4) (hn : (qw i T0) = BitVec.ofNat 32 n.val) :
    dkAcc.view.read (Elt F) (dkAcc.view.writes (Elt F) dkAcc.view.junk (runB c i arg4 harg4 arg5 harg5 arg6 harg6 arg7 harg7 arg8 harg8 arg9 harg9 arg10 harg10 arg11 harg11 arg12 harg12 T0 T1 (x0 := b.q) (x1 := b.k) (x2 := b.v) (x3 := b.o) (x4 := b.d) (x5 := b.l) (y6 := y6) (s0 := s0) (s1 := s1) k0_h1 hd k0_h3 k0_h4 hl hw).2.1) = (below n b ⟨y6, s0, s1⟩).dk := by
  refine Eq.trans ?_ (put_halves (dkAcc.view.read (Elt F) dkAcc.view.junk) _ rfl _ _)
  refine put_step _ _ _ _ rfl (X := _) ?_ fun _ => (show k0_pay36 (k0_pay34 _ _ _ _ _ _) _ _ = k0_pay36 (k0_pay34 _ _ _ _ _ _) _ _ from (congr (congr (congrArg k0_pay36 (congr (congr (congr (congr (congr (congrArg k0_pay34 (View.readAt_rep_unit _ _ _ rfl _)) (View.readAt_rep_unit _ _ _ rfl _)) (View.readAt_rep_unit _ _ _ rfl _)) (View.readAt_rep_unit _ _ _ rfl _)) (View.readAt_rep_unit _ _ _ rfl _)) (View.readAt_rep_unit _ _ _ rfl _))) ((View.readAt_rep_unit _ _ _ rfl _).trans (window_put_of_disjoint _ _ _ _ _ _ _ 1 (.inr (by decide))).symm)) (View.readAt_rep_unit _ _ _ rfl _)))
  refine put_step _ _ _ _ rfl (X := _) ?_ fun _ => (show k0_pay36 (k0_pay34 _ _ _ _ _ _) _ _ = k0_pay36 (k0_pay34 _ _ _ _ _ _) _ _ from (congr (congr (congrArg k0_pay36 (congr (congr (congr (congr (congr (congrArg k0_pay34 (View.readAt_rep_unit _ _ _ rfl _)) (View.readAt_rep_unit _ _ _ rfl _)) (View.readAt_rep_unit _ _ _ rfl _)) (View.readAt_rep_unit _ _ _ rfl _)) (View.readAt_rep_unit _ _ _ rfl _)) (View.readAt_rep_unit _ _ _ rfl _))) (View.readAt_rep_unit _ _ _ rfl _)) (View.readAt_rep_unit _ _ _ rfl _)))
  rfl

/-- At a tile below the diagonal, not of the last queries: the values' gradient is the running one with the tile's added. -/
theorem runB_dv (c : Dev nD) (i : grid0.Coords) (arg4 : Memref sig .tc .vmem S1024x512 .bf16) (harg4 : arg4.IsWhole) (arg5 : Memref sig .tc .vmem S1024x512 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S2x1x1024 .f32) (harg9 : arg9.IsWhole) (arg10 : Memref sig .tc .vmem S4096x512 .f32) (harg10 : arg10.IsWhole) (arg11 : Memref sig .tc .vmem S1024x512 .f32) (harg11 : arg11.IsWhole) (arg12 : Memref sig .tc .vmem S1024x256 .f32) (harg12 : arg12.IsWhole) (T0 T1 : S10.Idx → Elt F .i32)
    (b : Blocks F) (y6 : S4096x512.Idx → Elt F .f32) (s0 : S1024x512.Idx → Elt F .f32) (s1 : S1024x256.Idx → Elt F .f32) (k0_h1 : ¬k0_cond1 i = 1#1) (hd : ¬isDiag (qw i T0) (kw i T1)) (k0_h3 : ¬k0_cond3 (qw i T0) (kw i T1) = 1#1) (k0_h4 : k0_cond4 (qw i T0) (kw i T1) = 1#1) (hl : ¬isLast (qw i T0)) (hw : k0_chk1 (qw i T0) (kw i T1)) (n : Fin 4) (hn : (qw i T0) = BitVec.ofNat 32 n.val) :
    dvAcc.view.read (Elt F) (dvAcc.view.writes (Elt F) dvAcc.view.junk (runB c i arg4 harg4 arg5 harg5 arg6 harg6 arg7 harg7 arg8 harg8 arg9 harg9 arg10 harg10 arg11 harg11 arg12 harg12 T0 T1 (x0 := b.q) (x1 := b.k) (x2 := b.v) (x3 := b.o) (x4 := b.d) (x5 := b.l) (y6 := y6) (s0 := s0) (s1 := s1) k0_h1 hd k0_h3 k0_h4 hl hw).2.2.1) = (below n b ⟨y6, s0, s1⟩).dv := by
  refine Eq.trans ?_ (put_halves (dvAcc.view.read (Elt F) dvAcc.view.junk) _ rfl _ _)
  refine put_step _ _ _ _ rfl (X := _) ?_ fun _ => (show k0_pay35 _ _ _ _ _ = k0_pay35 _ _ _ _ _ from (congr (congr (congr (congr (congrArg k0_pay35 (View.readAt_rep_unit _ _ _ rfl _)) (View.readAt_rep_unit _ _ _ rfl _)) (View.readAt_rep_unit _ _ _ rfl _)) (View.readAt_rep_unit _ _ _ rfl _)) ((View.readAt_rep_unit _ _ _ rfl _).trans (window_put_of_disjoint _ _ _ _ _ _ _ 1 (.inr (by decide))).symm)))
  refine put_step _ _ _ _ rfl (X := _) ?_ fun _ => (show k0_pay35 _ _ _ _ _ = k0_pay35 _ _ _ _ _ from (congr (congr (congr (congr (congrArg k0_pay35 (View.readAt_rep_unit _ _ _ rfl _)) (View.readAt_rep_unit _ _ _ rfl _)) (View.readAt_rep_unit _ _ _ rfl _)) (View.readAt_rep_unit _ _ _ rfl _)) (View.readAt_rep_unit _ _ _ rfl _)))
  rfl

end Cert.KernelIdeal.Attn

end
-- ==== Proof.Attn.RunC.lean ====
/- The body of the attention backward kernel at a tile below the diagonal, of the last queries. -/
module

public import proofs.«01_k».proof.Proof.Attn.Base

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

set_option backward.proofsInPublic true in
set_option maxHeartbeats 16000000 in
/-- The body at a tile below the diagonal, of the last queries: the list of stores it makes in each buffer it writes, with the proof that from the input
    blocks, the tables and the buffers' contents it ends with exactly those stores made. -/
def runC (c : Dev nD) (i : grid0.Coords) (arg4 : Memref sig .tc .vmem S1024x512 .bf16) (harg4 : arg4.IsWhole) (arg5 : Memref sig .tc .vmem S1024x512 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S2x1x1024 .f32) (harg9 : arg9.IsWhole) (arg10 : Memref sig .tc .vmem S4096x512 .f32) (harg10 : arg10.IsWhole) (arg11 : Memref sig .tc .vmem S1024x512 .f32) (harg11 : arg11.IsWhole) (arg12 : Memref sig .tc .vmem S1024x256 .f32) (harg12 : arg12.IsWhole) (T0 T1 : S10.Idx → Elt F .i32)
    (x0 : S1024x512.Idx → Elt F .bf16) (x1 : S1024x512.Idx → Elt F .bf16) (x2 : S1024x256.Idx → Elt F .bf16) (x3 : S1024x256.Idx → Elt F .bf16) (x4 : S1024x256.Idx → Elt F .bf16) (x5 : S2x1x1024.Idx → Elt F .f32) (y6 : S4096x512.Idx → Elt F .f32) (s0 : S1024x512.Idx → Elt F .f32) (s1 : S1024x256.Idx → Elt F .f32) (k0_h1 : ¬k0_cond1 i = 1#1) (hd : ¬isDiag (qw i T0) (kw i T1)) (k0_h3 : ¬k0_cond3 (qw i T0) (kw i T1) = 1#1) (k0_h4 : k0_cond4 (qw i T0) (kw i T1) = 1#1) (hl : isLast (qw i T0)) (hw : k0_chk1 (qw i T0) (kw i T1)) :
    Σ' (o6 : List (View.Piece (Elt F) S4096x512 .f32)) (o7 : List (View.Piece (Elt F) S1024x512 .f32)) (o8 : List (View.Piece (Elt F) S1024x256 .f32)) (a0 : List (View.Piece (Elt F) S1024x512 .f32)), { a1 : List (View.Piece (Elt F) S1024x256 .f32) //
      ∀ (y7 : S1024x512.Idx → Elt F .f32) (y8 : S1024x256.Idx → Elt F .f32) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (qtab.view.loc (c : Thread nD τ) ↦{fullShare.right} T0)
          ∗ (ktab.view.loc (c : Thread nD τ) ↦{fullShare.right} T1)
          ∗ (arg10.view.loc (c : Thread nD τ) ↦[arg10.view.set]{fullShare} arg10.view.rep y6)
          ∗ (arg11.view.loc (c : Thread nD τ) ↦[arg11.view.set]{fullShare} arg11.view.rep y7)
          ∗ (arg12.view.loc (c : Thread nD τ) ↦[arg12.view.set]{fullShare} arg12.view.rep y8)
          ∗ (dkAcc.view.loc (c : Thread nD τ) ↦[dkAcc.view.set]{fullShare} dkAcc.view.rep s0)
          ∗ (dvAcc.view.loc (c : Thread nD τ) ↦[dvAcc.view.set]{fullShare} dvAcc.view.rep s1)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (qtab.view.loc (c : Thread nD τ) ↦{fullShare.right} T0)
              ∗ (ktab.view.loc (c : Thread nD τ) ↦{fullShare.right} T1)
              ∗ (arg10.view.loc (c : Thread nD τ) ↦[arg10.view.set]{fullShare} arg10.view.writes (Elt F) (arg10.view.rep y6) o6)
              ∗ (arg11.view.loc (c : Thread nD τ) ↦[arg11.view.set]{fullShare} arg11.view.writes (Elt F) arg11.view.junk o7)
              ∗ (arg12.view.loc (c : Thread nD τ) ↦[arg12.view.set]{fullShare} arg12.view.writes (Elt F) arg12.view.junk o8)
              ∗ (dkAcc.view.loc (c : Thread nD τ) ↦[dkAcc.view.set]{fullShare} dkAcc.view.writes (Elt F) dkAcc.view.junk a0)
              ∗ (dvAcc.view.loc (c : Thread nD τ) ↦[dvAcc.view.set]{fullShare} dvAcc.view.writes (Elt F) dvAcc.view.junk a1)) -∗ K ⟨⟩))
          ⊢ wp frame (wpE (defs₀ (F := F)) Variants.none c none) Set.univ (cc0_attn_bwd i qtab (Memref.isWhole_whole _) ktab (Memref.isWhole_whole _) arg4 harg4 arg5 harg5 arg6 harg6 arg7 harg7 arg8 harg8 arg9 harg9 arg10 harg10 arg11 harg11 arg12 harg12 dkAcc (Memref.isWhole_whole _) dvAcc (Memref.isWhole_whole _)) K } :=
  ⟨_, _, _, _, _, fun (y7 : S1024x512.Idx → Elt F .f32) (y8 : S1024x256.Idx → Elt F .f32) K => by
    rw [cc0_attn_bwd_eq_skeleton]; unfold cc0_attn_bwd_skel
    iintro ⟨H0, H1, H2, H3, H4, H5, HT0, HT1, H6, H7, H8, HS0, HS1, Hk⟩
    have hS0 : dkAcc.IsWhole := Memref.isWhole_whole _
    have hS1 : dvAcc.IsWhole := Memref.isWhole_whole _
    have hT0 : qtab.IsWhole := Memref.isWhole_whole _
    have hT1 : ktab.IsWhole := Memref.isWhole_whole _
    sl_exec! (disch := first | exact k0_h1 | exact k0_h3 | exact k0_h4 | exact hd | exact hl | exact hw)
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [H6]; · iexact H6
    isplitl [H7]; · iexact H7
    isplitl [H8]; · iexact H8
    isplitl [HS0]; · iexact HS0
    iexact HS1⟩

end Cert.KernelIdeal.Attn

end
-- ==== Proof.Attn.OutC.lean ====
/- What the body of the attention backward kernel leaves in its buffers at a tile below the diagonal, of the last queries. -/
module

public import proofs.«01_k».proof.Proof.Attn.Tile
public import proofs.«01_k».proof.Proof.Attn.RunC

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

open VecWindow

/-- At a tile below the diagonal, of the last queries: the queries' gradient is the running one with the tile's added. -/
theorem runC_dq (c : Dev nD) (i : grid0.Coords) (arg4 : Memref sig .tc .vmem S1024x512 .bf16) (harg4 : arg4.IsWhole) (arg5 : Memref sig .tc .vmem S1024x512 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S2x1x1024 .f32) (harg9 : arg9.IsWhole) (arg10 : Memref sig .tc .vmem S4096x512 .f32) (harg10 : arg10.IsWhole) (arg11 : Memref sig .tc .vmem S1024x512 .f32) (harg11 : arg11.IsWhole) (arg12 : Memref sig .tc .vmem S1024x256 .f32) (harg12 : arg12.IsWhole) (T0 T1 : S10.Idx → Elt F .i32)
    (b : Blocks F) (y6 : S4096x512.Idx → Elt F .f32) (s0 : S1024x512.Idx → Elt F .f32) (s1 : S1024x256.Idx → Elt F .f32) (k0_h1 : ¬k0_cond1 i = 1#1) (hd : ¬isDiag (qw i T0) (kw i T1)) (k0_h3 : ¬k0_cond3 (qw i T0) (kw i T1) = 1#1) (k0_h4 : k0_cond4 (qw i T0) (kw i T1) = 1#1) (hl : isLast (qw i T0)) (hw : k0_chk1 (qw i T0) (kw i T1)) (n : Fin 4) (hn : (qw i T0) = BitVec.ofNat 32 n.val) :
    arg10.view.read (Elt F) (arg10.view.writes (Elt F) (arg10.view.rep y6) (runC c i arg4 harg4 arg5 harg5 arg6 harg6 arg7 harg7 arg8 harg8 arg9 harg9 arg10 harg10 arg11 harg11 arg12 harg12 T0 T1 (x0 := b.q) (x1 := b.k) (x2 := b.v) (x3 := b.o) (x4 := b.d) (x5 := b.l) (y6 := y6) (s0 := s0) (s1 := s1) k0_h1 hd k0_h3 k0_h4 hl hw).1) = (below n b ⟨y6, s0, s1⟩).dq := by
  refine put_step _ _ _ _ (offO1 hn) ?_ fun hX => (show k0_pay37 (k0_pay34 _ _ _ _ _ _) _ _ = k0_pay37 (k0_pay34 _ _ _ _ _ _) _ _ from (congr (congr (congrArg k0_pay37 (congr (congr (congr (congr (congr (congrArg k0_pay34 (View.readAt_rep_unit _ _ _ rfl _)) (View.readAt_rep_unit _ _ _ rfl _)) (View.readAt_rep_unit _ _ _ rfl _)) (View.readAt_rep_unit _ _ _ rfl _)) (View.readAt_rep_unit _ _ _ rfl _)) (View.readAt_rep_unit _ _ _ rfl _))) (acc_step _ _ _ _ _ (offO1 hn) hX)) (View.readAt_rep_unit _ _ _ rfl _)))
  refine put_step _ _ _ _ (offO0 hn) ?_ fun hX => (show k0_pay37 (k0_pay34 _ _ _ _ _ _) _ _ = k0_pay37 (k0_pay34 _ _ _ _ _ _) _ _ from (congr (congr (congrArg k0_pay37 (congr (congr (congr (congr (congr (congrArg k0_pay34 (View.readAt_rep_unit _ _ _ rfl _)) (View.readAt_rep_unit _ _ _ rfl _)) (View.readAt_rep_unit _ _ _ rfl _)) (View.readAt_rep_unit _ _ _ rfl _)) (View.readAt_rep_unit _ _ _ rfl _)) (View.readAt_rep_unit _ _ _ rfl _))) (View.readAt_rep_unit _ _ _ (offO0 hn) _)) (View.readAt_rep_unit _ _ _ rfl _)))
  rw [View.writes_nil]; exact View.read_rep _ _

/-- At a tile below the diagonal, of the last queries: the keys' gradient is the running one with the tile's added. -/
theorem runC_dk (c : Dev nD) (i : grid0.Coords) (arg4 : Memref sig .tc .vmem S1024x512 .bf16) (harg4 : arg4.IsWhole) (arg5 : Memref sig .tc .vmem S1024x512 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S2x1x1024 .f32) (harg9 : arg9.IsWhole) (arg10 : Memref sig .tc .vmem S4096x512 .f32) (harg10 : arg10.IsWhole) (arg11 : Memref sig .tc .vmem S1024x512 .f32) (harg11 : arg11.IsWhole) (arg12 : Memref sig .tc .vmem S1024x256 .f32) (harg12 : arg12.IsWhole) (T0 T1 : S10.Idx → Elt F .i32)
    (b : Blocks F) (y6 : S4096x512.Idx → Elt F .f32) (s0 : S1024x512.Idx → Elt F .f32) (s1 : S1024x256.Idx → Elt F .f32) (k0_h1 : ¬k0_cond1 i = 1#1) (hd : ¬isDiag (qw i T0) (kw i T1)) (k0_h3 : ¬k0_cond3 (qw i T0) (kw i T1) = 1#1) (k0_h4 : k0_cond4 (qw i T0) (kw i T1) = 1#1) (hl : isLast (qw i T0)) (hw : k0_chk1 (qw i T0) (kw i T1)) (n : Fin 4) (hn : (qw i T0) = BitVec.ofNat 32 n.val) :
    dkAcc.view.read (Elt F) (dkAcc.view.writes (Elt F) dkAcc.view.junk (runC c i arg4 harg4 arg5 harg5 arg6 harg6 arg7 harg7 arg8 harg8 arg9 harg9 arg10 harg10 arg11 harg11 arg12 harg12 T0 T1 (x0 := b.q) (x1 := b.k) (x2 := b.v) (x3 := b.o) (x4 := b.d) (x5 := b.l) (y6 := y6) (s0 := s0) (s1 := s1) k0_h1 hd k0_h3 k0_h4 hl hw).2.2.2.1) = (below n b ⟨y6, s0, s1⟩).dk := by
  refine Eq.trans ?_ (put_halves (dkAcc.view.read (Elt F) dkAcc.view.junk) _ rfl _ _)
  refine put_step _ _ _ _ rfl (X := _) ?_ fun _ => (show k0_pay36 (k0_pay34 _ _ _ _ _ _) _ _ = k0_pay36 (k0_pay34 _ _ _ _ _ _) _ _ from (congr (congr (congrArg k0_pay36 (congr (congr (congr (congr (congr (congrArg k0_pay34 (View.readAt_rep_unit _ _ _ rfl _)) (View.readAt_rep_unit _ _ _ rfl _)) (View.readAt_rep_unit _ _ _ rfl _)) (View.readAt_rep_unit _ _ _ rfl _)) (View.readAt_rep_unit _ _ _ rfl _)) (View.readAt_rep_unit _ _ _ rfl _))) ((View.readAt_rep_unit _ _ _ rfl _).trans (window_put_of_disjoint _ _ _ _ _ _ _ 1 (.inr (by decide))).symm)) (View.readAt_rep_unit _ _ _ rfl _)))
  refine put_step _ _ _ _ rfl (X := _) ?_ fun _ => (show k0_pay36 (k0_pay34 _ _ _ _ _ _) _ _ = k0_pay36 (k0_pay34 _ _ _ _ _ _) _ _ from (congr (congr (congrArg k0_pay36 (congr (congr (congr (congr (congr (congrArg k0_pay34 (View.readAt_rep_unit _ _ _ rfl _)) (View.readAt_rep_unit _ _ _ rfl _)) (View.readAt_rep_unit _ _ _ rfl _)) (View.readAt_rep_unit _ _ _ rfl _)) (View.readAt_rep_unit _ _ _ rfl _)) (View.readAt_rep_unit _ _ _ rfl _))) (View.readAt_rep_unit _ _ _ rfl _)) (View.readAt_rep_unit _ _ _ rfl _)))
  rfl

/-- At a tile below the diagonal, of the last queries: the values' gradient is the running one with the tile's added. -/
theorem runC_dv (c : Dev nD) (i : grid0.Coords) (arg4 : Memref sig .tc .vmem S1024x512 .bf16) (harg4 : arg4.IsWhole) (arg5 : Memref sig .tc .vmem S1024x512 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S2x1x1024 .f32) (harg9 : arg9.IsWhole) (arg10 : Memref sig .tc .vmem S4096x512 .f32) (harg10 : arg10.IsWhole) (arg11 : Memref sig .tc .vmem S1024x512 .f32) (harg11 : arg11.IsWhole) (arg12 : Memref sig .tc .vmem S1024x256 .f32) (harg12 : arg12.IsWhole) (T0 T1 : S10.Idx → Elt F .i32)
    (b : Blocks F) (y6 : S4096x512.Idx → Elt F .f32) (s0 : S1024x512.Idx → Elt F .f32) (s1 : S1024x256.Idx → Elt F .f32) (k0_h1 : ¬k0_cond1 i = 1#1) (hd : ¬isDiag (qw i T0) (kw i T1)) (k0_h3 : ¬k0_cond3 (qw i T0) (kw i T1) = 1#1) (k0_h4 : k0_cond4 (qw i T0) (kw i T1) = 1#1) (hl : isLast (qw i T0)) (hw : k0_chk1 (qw i T0) (kw i T1)) (n : Fin 4) (hn : (qw i T0) = BitVec.ofNat 32 n.val) :
    dvAcc.view.read (Elt F) (dvAcc.view.writes (Elt F) dvAcc.view.junk (runC c i arg4 harg4 arg5 harg5 arg6 harg6 arg7 harg7 arg8 harg8 arg9 harg9 arg10 harg10 arg11 harg11 arg12 harg12 T0 T1 (x0 := b.q) (x1 := b.k) (x2 := b.v) (x3 := b.o) (x4 := b.d) (x5 := b.l) (y6 := y6) (s0 := s0) (s1 := s1) k0_h1 hd k0_h3 k0_h4 hl hw).2.2.2.2.1) = (below n b ⟨y6, s0, s1⟩).dv := by
  refine Eq.trans ?_ (put_halves (dvAcc.view.read (Elt F) dvAcc.view.junk) _ rfl _ _)
  refine put_step _ _ _ _ rfl (X := _) ?_ fun _ => (show k0_pay35 _ _ _ _ _ = k0_pay35 _ _ _ _ _ from (congr (congr (congr (congr (congrArg k0_pay35 (View.readAt_rep_unit _ _ _ rfl _)) (View.readAt_rep_unit _ _ _ rfl _)) (View.readAt_rep_unit _ _ _ rfl _)) (View.readAt_rep_unit _ _ _ rfl _)) ((View.readAt_rep_unit _ _ _ rfl _).trans (window_put_of_disjoint _ _ _ _ _ _ _ 1 (.inr (by decide))).symm)))
  refine put_step _ _ _ _ rfl (X := _) ?_ fun _ => (show k0_pay35 _ _ _ _ _ = k0_pay35 _ _ _ _ _ from (congr (congr (congr (congr (congrArg k0_pay35 (View.readAt_rep_unit _ _ _ rfl _)) (View.readAt_rep_unit _ _ _ rfl _)) (View.readAt_rep_unit _ _ _ rfl _)) (View.readAt_rep_unit _ _ _ rfl _)) (View.readAt_rep_unit _ _ _ rfl _)))
  rfl

/-- At a tile below the diagonal, of the last queries: the keys' gradient written out is the running one with the tile's added. -/
theorem runC_o7 (c : Dev nD) (i : grid0.Coords) (arg4 : Memref sig .tc .vmem S1024x512 .bf16) (harg4 : arg4.IsWhole) (arg5 : Memref sig .tc .vmem S1024x512 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S2x1x1024 .f32) (harg9 : arg9.IsWhole) (arg10 : Memref sig .tc .vmem S4096x512 .f32) (harg10 : arg10.IsWhole) (arg11 : Memref sig .tc .vmem S1024x512 .f32) (harg11 : arg11.IsWhole) (arg12 : Memref sig .tc .vmem S1024x256 .f32) (harg12 : arg12.IsWhole) (T0 T1 : S10.Idx → Elt F .i32)
    (b : Blocks F) (y6 : S4096x512.Idx → Elt F .f32) (s0 : S1024x512.Idx → Elt F .f32) (s1 : S1024x256.Idx → Elt F .f32) (k0_h1 : ¬k0_cond1 i = 1#1) (hd : ¬isDiag (qw i T0) (kw i T1)) (k0_h3 : ¬k0_cond3 (qw i T0) (kw i T1) = 1#1) (k0_h4 : k0_cond4 (qw i T0) (kw i T1) = 1#1) (hl : isLast (qw i T0)) (hw : k0_chk1 (qw i T0) (kw i T1)) (n : Fin 4) (hn : (qw i T0) = BitVec.ofNat 32 n.val) :
    arg11.view.read (Elt F) (arg11.view.writes (Elt F) arg11.view.junk (runC c i arg4 harg4 arg5 harg5 arg6 harg6 arg7 harg7 arg8 harg8 arg9 harg9 arg10 harg10 arg11 harg11 arg12 harg12 T0 T1 (x0 := b.q) (x1 := b.k) (x2 := b.v) (x3 := b.o) (x4 := b.d) (x5 := b.l) (y6 := y6) (s0 := s0) (s1 := s1) k0_h1 hd k0_h3 k0_h4 hl hw).2.1) = (below n b ⟨y6, s0, s1⟩).dk := by
  exact (View.read_writes_full _ _ _ _ _).trans ((View.readAt_full dkAcc.view _ _).trans (runC_dk c i arg4 harg4 arg5 harg5 arg6 harg6 arg7 harg7 arg8 harg8 arg9 harg9 arg10 harg10 arg11 harg11 arg12 harg12 T0 T1 b y6 s0 s1 k0_h1 hd k0_h3 k0_h4 hl hw n hn))

/-- At a tile below the diagonal, of the last queries: the values' gradient written out is the running one with the tile's added. -/
theorem runC_o8 (c : Dev nD) (i : grid0.Coords) (arg4 : Memref sig .tc .vmem S1024x512 .bf16) (harg4 : arg4.IsWhole) (arg5 : Memref sig .tc .vmem S1024x512 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S2x1x1024 .f32) (harg9 : arg9.IsWhole) (arg10 : Memref sig .tc .vmem S4096x512 .f32) (harg10 : arg10.IsWhole) (arg11 : Memref sig .tc .vmem S1024x512 .f32) (harg11 : arg11.IsWhole) (arg12 : Memref sig .tc .vmem S1024x256 .f32) (harg12 : arg12.IsWhole) (T0 T1 : S10.Idx → Elt F .i32)
    (b : Blocks F) (y6 : S4096x512.Idx → Elt F .f32) (s0 : S1024x512.Idx → Elt F .f32) (s1 : S1024x256.Idx → Elt F .f32) (k0_h1 : ¬k0_cond1 i = 1#1) (hd : ¬isDiag (qw i T0) (kw i T1)) (k0_h3 : ¬k0_cond3 (qw i T0) (kw i T1) = 1#1) (k0_h4 : k0_cond4 (qw i T0) (kw i T1) = 1#1) (hl : isLast (qw i T0)) (hw : k0_chk1 (qw i T0) (kw i T1)) (n : Fin 4) (hn : (qw i T0) = BitVec.ofNat 32 n.val) :
    arg12.view.read (Elt F) (arg12.view.writes (Elt F) arg12.view.junk (runC c i arg4 harg4 arg5 harg5 arg6 harg6 arg7 harg7 arg8 harg8 arg9 harg9 arg10 harg10 arg11 harg11 arg12 harg12 T0 T1 (x0 := b.q) (x1 := b.k) (x2 := b.v) (x3 := b.o) (x4 := b.d) (x5 := b.l) (y6 := y6) (s0 := s0) (s1 := s1) k0_h1 hd k0_h3 k0_h4 hl hw).2.2.1) = (below n b ⟨y6, s0, s1⟩).dv := by
  exact (View.read_writes_full _ _ _ _ _).trans ((View.readAt_full dvAcc.view _ _).trans (runC_dv c i arg4 harg4 arg5 harg5 arg6 harg6 arg7 harg7 arg8 harg8 arg9 harg9 arg10 harg10 arg11 harg11 arg12 harg12 T0 T1 b y6 s0 s1 k0_h1 hd k0_h3 k0_h4 hl hw n hn))

end Cert.KernelIdeal.Attn

end
-- ==== Proof.Attn.RunD.lean ====
/- The body of the attention backward kernel at a diagonal tile, neither the first point nor of the last queries. -/
module

public import proofs.«01_k».proof.Proof.Attn.Base

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

set_option backward.proofsInPublic true in
set_option maxHeartbeats 16000000 in
/-- The body at a diagonal tile, neither the first point nor of the last queries: the list of stores it makes in each buffer it writes, with the proof that from the input
    blocks, the tables and the buffers' contents it ends with exactly those stores made. -/
def runD (c : Dev nD) (i : grid0.Coords) (arg4 : Memref sig .tc .vmem S1024x512 .bf16) (harg4 : arg4.IsWhole) (arg5 : Memref sig .tc .vmem S1024x512 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S2x1x1024 .f32) (harg9 : arg9.IsWhole) (arg10 : Memref sig .tc .vmem S4096x512 .f32) (harg10 : arg10.IsWhole) (arg11 : Memref sig .tc .vmem S1024x512 .f32) (harg11 : arg11.IsWhole) (arg12 : Memref sig .tc .vmem S1024x256 .f32) (harg12 : arg12.IsWhole) (T0 T1 : S10.Idx → Elt F .i32)
    (x0 : S1024x512.Idx → Elt F .bf16) (x1 : S1024x512.Idx → Elt F .bf16) (x2 : S1024x256.Idx → Elt F .bf16) (x3 : S1024x256.Idx → Elt F .bf16) (x4 : S1024x256.Idx → Elt F .bf16) (x5 : S2x1x1024.Idx → Elt F .f32) (y6 : S4096x512.Idx → Elt F .f32) (k0_h1 : ¬k0_cond1 i = 1#1) (hd : isDiag (qw i T0) (kw i T1)) (k0_h3 : k0_cond3 (qw i T0) (kw i T1) = 1#1) (k0_h4 : ¬k0_cond4 (qw i T0) (kw i T1) = 1#1) (hl : ¬isLast (qw i T0)) (hw : k0_chk1 (qw i T0) (kw i T1)) :
    Σ' (o6 : List (View.Piece (Elt F) S4096x512 .f32)) (a0 : List (View.Piece (Elt F) S1024x512 .f32)), { a1 : List (View.Piece (Elt F) S1024x256 .f32) //
      ∀ (s0 : S1024x512.Idx → Elt F .f32) (s1 : S1024x256.Idx → Elt F .f32) (y7 : S1024x512.Idx → Elt F .f32) (y8 : S1024x256.Idx → Elt F .f32) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (qtab.view.loc (c : Thread nD τ) ↦{fullShare.right} T0)
          ∗ (ktab.view.loc (c : Thread nD τ) ↦{fullShare.right} T1)
          ∗ (arg10.view.loc (c : Thread nD τ) ↦[arg10.view.set]{fullShare} arg10.view.rep y6)
          ∗ (arg11.view.loc (c : Thread nD τ) ↦[arg11.view.set]{fullShare} arg11.view.rep y7)
          ∗ (arg12.view.loc (c : Thread nD τ) ↦[arg12.view.set]{fullShare} arg12.view.rep y8)
          ∗ (dkAcc.view.loc (c : Thread nD τ) ↦[dkAcc.view.set]{fullShare} dkAcc.view.rep s0)
          ∗ (dvAcc.view.loc (c : Thread nD τ) ↦[dvAcc.view.set]{fullShare} dvAcc.view.rep s1)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (qtab.view.loc (c : Thread nD τ) ↦{fullShare.right} T0)
              ∗ (ktab.view.loc (c : Thread nD τ) ↦{fullShare.right} T1)
              ∗ (arg10.view.loc (c : Thread nD τ) ↦[arg10.view.set]{fullShare} arg10.view.writes (Elt F) (arg10.view.rep y6) o6)
              ∗ (arg11.view.loc (c : Thread nD τ) ↦[arg11.view.set]{fullShare} arg11.view.rep y7)
              ∗ (arg12.view.loc (c : Thread nD τ) ↦[arg12.view.set]{fullShare} arg12.view.rep y8)
              ∗ (dkAcc.view.loc (c : Thread nD τ) ↦[dkAcc.view.set]{fullShare} dkAcc.view.writes (Elt F) dkAcc.view.junk a0)
              ∗ (dvAcc.view.loc (c : Thread nD τ) ↦[dvAcc.view.set]{fullShare} dvAcc.view.writes (Elt F) dvAcc.view.junk a1)) -∗ K ⟨⟩))
          ⊢ wp frame (wpE (defs₀ (F := F)) Variants.none c none) Set.univ (cc0_attn_bwd i qtab (Memref.isWhole_whole _) ktab (Memref.isWhole_whole _) arg4 harg4 arg5 harg5 arg6 harg6 arg7 harg7 arg8 harg8 arg9 harg9 arg10 harg10 arg11 harg11 arg12 harg12 dkAcc (Memref.isWhole_whole _) dvAcc (Memref.isWhole_whole _)) K } :=
  ⟨_, _, _, fun (s0 : S1024x512.Idx → Elt F .f32) (s1 : S1024x256.Idx → Elt F .f32) (y7 : S1024x512.Idx → Elt F .f32) (y8 : S1024x256.Idx → Elt F .f32) K => by
    rw [cc0_attn_bwd_eq_skeleton]; unfold cc0_attn_bwd_skel
    iintro ⟨H0, H1, H2, H3, H4, H5, HT0, HT1, H6, H7, H8, HS0, HS1, Hk⟩
    have hS0 : dkAcc.IsWhole := Memref.isWhole_whole _
    have hS1 : dvAcc.IsWhole := Memref.isWhole_whole _
    have hT0 : qtab.IsWhole := Memref.isWhole_whole _
    have hT1 : ktab.IsWhole := Memref.isWhole_whole _
    sl_exec! (disch := first | exact k0_h1 | exact k0_h3 | exact k0_h4 | exact hd | exact hl | exact hw)
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [H6]; · iexact H6
    isplitl [H7]; · iexact H7
    isplitl [H8]; · iexact H8
    isplitl [HS0]; · iexact HS0
    iexact HS1⟩

end Cert.KernelIdeal.Attn

end
-- ==== Proof.Attn.OutD.lean ====
/- What the body of the attention backward kernel leaves in its buffers at a diagonal tile, neither the first point nor of the last queries. -/
module

public import proofs.«01_k».proof.Proof.Attn.Tile
public import proofs.«01_k».proof.Proof.Attn.RunD

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

open VecWindow

/-- At a diagonal tile, neither the first point nor of the last queries: the queries' gradient is the running one with the tile's added. -/
theorem runD_dq (c : Dev nD) (i : grid0.Coords) (arg4 : Memref sig .tc .vmem S1024x512 .bf16) (harg4 : arg4.IsWhole) (arg5 : Memref sig .tc .vmem S1024x512 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S2x1x1024 .f32) (harg9 : arg9.IsWhole) (arg10 : Memref sig .tc .vmem S4096x512 .f32) (harg10 : arg10.IsWhole) (arg11 : Memref sig .tc .vmem S1024x512 .f32) (harg11 : arg11.IsWhole) (arg12 : Memref sig .tc .vmem S1024x256 .f32) (harg12 : arg12.IsWhole) (T0 T1 : S10.Idx → Elt F .i32)
    (b : Blocks F) (y6 : S4096x512.Idx → Elt F .f32) (k0_h1 : ¬k0_cond1 i = 1#1) (hd : isDiag (qw i T0) (kw i T1)) (k0_h3 : k0_cond3 (qw i T0) (kw i T1) = 1#1) (k0_h4 : ¬k0_cond4 (qw i T0) (kw i T1) = 1#1) (hl : ¬isLast (qw i T0)) (hw : k0_chk1 (qw i T0) (kw i T1)) (n : Fin 4) (hn : (qw i T0) = BitVec.ofNat 32 n.val) :
    arg10.view.read (Elt F) (arg10.view.writes (Elt F) (arg10.view.rep y6) (runD c i arg4 harg4 arg5 harg5 arg6 harg6 arg7 harg7 arg8 harg8 arg9 harg9 arg10 harg10 arg11 harg11 arg12 harg12 T0 T1 (x0 := b.q) (x1 := b.k) (x2 := b.v) (x3 := b.o) (x4 := b.d) (x5 := b.l) (y6 := y6) k0_h1 hd k0_h3 k0_h4 hl hw).1) = (diag n b ⟨y6, k0_pay2, k0_pay3⟩).dq := by
  refine put_step _ _ _ _ (offB1 hn) ?_ fun hX => (show k0_pay5 (k0_pay25 _ (k0_pay23 _ _) (k0_pay24 _ _ _) _) _ _ = k0_pay5 (k0_pay25 _ (k0_pay23 _ _) (k0_pay24 _ _ _) _) _ _ from (congr (congr (congrArg k0_pay5 (congr (congr (congr (congrArg k0_pay25 (View.readAt_rep_unit _ _ _ rfl _)) (congr (congrArg k0_pay23 (View.readAt_rep_unit _ _ _ rfl _)) (View.readAt_rep_unit _ _ _ rfl _))) (congr (congr (congrArg k0_pay24 (View.readAt_rep_unit _ _ _ rfl _)) (View.readAt_rep_unit _ _ _ rfl _)) (View.readAt_rep_unit _ _ _ rfl _))) (View.readAt_rep_unit _ _ _ rfl _))) (acc_step _ _ _ _ _ (offB1 hn) hX)) (View.readAt_rep_unit _ _ _ rfl _)))
  refine put_step _ _ _ _ (offB0 hn) ?_ fun hX => (show k0_pay5 (k0_pay25 _ (k0_pay23 _ _) (k0_pay24 _ _ _) _) _ _ = k0_pay5 (k0_pay25 _ (k0_pay23 _ _) (k0_pay24 _ _ _) _) _ _ from (congr (congr (congrArg k0_pay5 (congr (congr (congr (congrArg k0_pay25 (View.readAt_rep_unit _ _ _ rfl _)) (congr (congrArg k0_pay23 (View.readAt_rep_unit _ _ _ rfl _)) (View.readAt_rep_unit _ _ _ rfl _))) (congr (congr (congrArg k0_pay24 (View.readAt_rep_unit _ _ _ rfl _)) (View.readAt_rep_unit _ _ _ rfl _)) (View.readAt_rep_unit _ _ _ rfl _))) (View.readAt_rep_unit _ _ _ rfl _))) (acc_step _ _ _ _ _ (offB0 hn) hX)) (View.readAt_rep_unit _ _ _ rfl _)))
  refine put_step _ _ _ _ (offA1 hn) ?_ fun hX => (show k0_pay15 (k0_pay11 _ _ _ _ _ _) _ _ = k0_pay15 (k0_pay11 _ _ _ _ _ _) _ _ from (congr (congr (congrArg k0_pay15 (congr (congr (congr (congr (congr (congrArg k0_pay11 (View.readAt_rep_unit _ _ _ rfl _)) (View.readAt_rep_unit _ _ _ rfl _)) (View.readAt_rep_unit _ _ _ rfl _)) (View.readAt_rep_unit _ _ _ rfl _)) (View.readAt_rep_unit _ _ _ rfl _)) (View.readAt_rep_unit _ _ _ rfl _))) (acc_step _ _ _ _ _ (offA1 hn) hX)) (View.readAt_rep_unit _ _ _ rfl _)))
  refine put_step _ _ _ _ (offA0 hn) ?_ fun hX => (show k0_pay15 (k0_pay11 _ _ _ _ _ _) _ _ = k0_pay15 (k0_pay11 _ _ _ _ _ _) _ _ from (congr (congr (congrArg k0_pay15 (congr (congr (congr (congr (congr (congrArg k0_pay11 (View.readAt_rep_unit _ _ _ rfl _)) (View.readAt_rep_unit _ _ _ rfl _)) (View.readAt_rep_unit _ _ _ rfl _)) (View.readAt_rep_unit _ _ _ rfl _)) (View.readAt_rep_unit _ _ _ rfl _)) (View.readAt_rep_unit _ _ _ rfl _))) (View.readAt_rep_unit _ _ _ (offA0 hn) _)) (View.readAt_rep_unit _ _ _ rfl _)))
  rw [View.writes_nil]; exact View.read_rep _ _

/-- At a diagonal tile, neither the first point nor of the last queries: the keys' gradient is the running one with the tile's added. -/
theorem runD_dk (c : Dev nD) (i : grid0.Coords) (arg4 : Memref sig .tc .vmem S1024x512 .bf16) (harg4 : arg4.IsWhole) (arg5 : Memref sig .tc .vmem S1024x512 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S2x1x1024 .f32) (harg9 : arg9.IsWhole) (arg10 : Memref sig .tc .vmem S4096x512 .f32) (harg10 : arg10.IsWhole) (arg11 : Memref sig .tc .vmem S1024x512 .f32) (harg11 : arg11.IsWhole) (arg12 : Memref sig .tc .vmem S1024x256 .f32) (harg12 : arg12.IsWhole) (T0 T1 : S10.Idx → Elt F .i32)
    (b : Blocks F) (y6 : S4096x512.Idx → Elt F .f32) (k0_h1 : ¬k0_cond1 i = 1#1) (hd : isDiag (qw i T0) (kw i T1)) (k0_h3 : k0_cond3 (qw i T0) (kw i T1) = 1#1) (k0_h4 : ¬k0_cond4 (qw i T0) (kw i T1) = 1#1) (hl : ¬isLast (qw i T0)) (hw : k0_chk1 (qw i T0) (kw i T1)) (n : Fin 4) (hn : (qw i T0) = BitVec.ofNat 32 n.val) :
    dkAcc.view.read (Elt F) (dkAcc.view.writes (Elt F) dkAcc.view.junk (runD c i arg4 harg4 arg5 harg5 arg6 harg6 arg7 harg7 arg8 harg8 arg9 harg9 arg10 harg10 arg11 harg11 arg12 harg12 T0 T1 (x0 := b.q) (x1 := b.k) (x2 := b.v) (x3 := b.o) (x4 := b.d) (x5 := b.l) (y6 := y6) k0_h1 hd k0_h3 k0_h4 hl hw).2.1) = (diag n b ⟨y6, k0_pay2, k0_pay3⟩).dk := by
  refine put_step _ _ _ _ rfl ?_ fun hX => (show k0_pay4 (k0_pay25 _ (k0_pay23 _ _) (k0_pay24 _ _ _) _) _ _ = k0_pay4 (k0_pay25 _ (k0_pay23 _ _) (k0_pay24 _ _ _) _) _ _ from (congr (congr (congrArg k0_pay4 (congr (congr (congr (congrArg k0_pay25 (View.readAt_rep_unit _ _ _ rfl _)) (congr (congrArg k0_pay23 (View.readAt_rep_unit _ _ _ rfl _)) (View.readAt_rep_unit _ _ _ rfl _))) (congr (congr (congrArg k0_pay24 (View.readAt_rep_unit _ _ _ rfl _)) (View.readAt_rep_unit _ _ _ rfl _)) (View.readAt_rep_unit _ _ _ rfl _))) (View.readAt_rep_unit _ _ _ rfl _))) (acc_step _ _ _ _ _ rfl hX)) (View.readAt_rep_unit _ _ _ rfl _)))
  refine put_step _ _ _ _ rfl ?_ fun hX => (show k0_pay4 (k0_pay25 _ (k0_pay23 _ _) (k0_pay24 _ _ _) _) _ _ = k0_pay4 (k0_pay25 _ (k0_pay23 _ _) (k0_pay24 _ _ _) _) _ _ from (congr (congr (congrArg k0_pay4 (congr (congr (congr (congrArg k0_pay25 (View.readAt_rep_unit _ _ _ rfl _)) (congr (congrArg k0_pay23 (View.readAt_rep_unit _ _ _ rfl _)) (View.readAt_rep_unit _ _ _ rfl _))) (congr (congr (congrArg k0_pay24 (View.readAt_rep_unit _ _ _ rfl _)) (View.readAt_rep_unit _ _ _ rfl _)) (View.readAt_rep_unit _ _ _ rfl _))) (View.readAt_rep_unit _ _ _ rfl _))) (acc_step _ _ _ _ _ rfl hX)) (View.readAt_rep_unit _ _ _ rfl _)))
  refine put_step _ _ _ _ rfl ?_ fun hX => (show k0_pay14 (k0_pay11 _ _ _ _ _ _) _ _ = k0_pay14 (k0_pay11 _ _ _ _ _ _) _ _ from (congr (congr (congrArg k0_pay14 (congr (congr (congr (congr (congr (congrArg k0_pay11 (View.readAt_rep_unit _ _ _ rfl _)) (View.readAt_rep_unit _ _ _ rfl _)) (View.readAt_rep_unit _ _ _ rfl _)) (View.readAt_rep_unit _ _ _ rfl _)) (View.readAt_rep_unit _ _ _ rfl _)) (View.readAt_rep_unit _ _ _ rfl _))) (acc_step _ _ _ _ _ rfl hX)) (View.readAt_rep_unit _ _ _ rfl _)))
  refine put_step _ _ _ _ rfl ?_ fun hX => (show k0_pay14 (k0_pay11 _ _ _ _ _ _) _ _ = k0_pay14 (k0_pay11 _ _ _ _ _ _) _ _ from (congr (congr (congrArg k0_pay14 (congr (congr (congr (congr (congr (congrArg k0_pay11 (View.readAt_rep_unit _ _ _ rfl _)) (View.readAt_rep_unit _ _ _ rfl _)) (View.readAt_rep_unit _ _ _ rfl _)) (View.readAt_rep_unit _ _ _ rfl _)) (View.readAt_rep_unit _ _ _ rfl _)) (View.readAt_rep_unit _ _ _ rfl _))) (acc_step _ _ _ _ _ rfl hX)) (View.readAt_rep_unit _ _ _ rfl _)))
  exact View.read_writes_full _ _ _ _ _

/-- At a diagonal tile, neither the first point nor of the last queries: the values' gradient is the running one with the tile's added. -/
theorem runD_dv (c : Dev nD) (i : grid0.Coords) (arg4 : Memref sig .tc .vmem S1024x512 .bf16) (harg4 : arg4.IsWhole) (arg5 : Memref sig .tc .vmem S1024x512 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S2x1x1024 .f32) (harg9 : arg9.IsWhole) (arg10 : Memref sig .tc .vmem S4096x512 .f32) (harg10 : arg10.IsWhole) (arg11 : Memref sig .tc .vmem S1024x512 .f32) (harg11 : arg11.IsWhole) (arg12 : Memref sig .tc .vmem S1024x256 .f32) (harg12 : arg12.IsWhole) (T0 T1 : S10.Idx → Elt F .i32)
    (b : Blocks F) (y6 : S4096x512.Idx → Elt F .f32) (k0_h1 : ¬k0_cond1 i = 1#1) (hd : isDiag (qw i T0) (kw i T1)) (k0_h3 : k0_cond3 (qw i T0) (kw i T1) = 1#1) (k0_h4 : ¬k0_cond4 (qw i T0) (kw i T1) = 1#1) (hl : ¬isLast (qw i T0)) (hw : k0_chk1 (qw i T0) (kw i T1)) (n : Fin 4) (hn : (qw i T0) = BitVec.ofNat 32 n.val) :
    dvAcc.view.read (Elt F) (dvAcc.view.writes (Elt F) dvAcc.view.junk (runD c i arg4 harg4 arg5 harg5 arg6 harg6 arg7 harg7 arg8 harg8 arg9 harg9 arg10 harg10 arg11 harg11 arg12 harg12 T0 T1 (x0 := b.q) (x1 := b.k) (x2 := b.v) (x3 := b.o) (x4 := b.d) (x5 := b.l) (y6 := y6) k0_h1 hd k0_h3 k0_h4 hl hw).2.2.1) = (diag n b ⟨y6, k0_pay2, k0_pay3⟩).dv := by
  refine put_step _ _ _ _ rfl ?_ fun hX => (show k0_pay26 _ (k0_pay24 _ _ _) _ = k0_pay26 _ (k0_pay24 _ _ _) _ from (congr (congr (congrArg k0_pay26 (View.readAt_rep_unit _ _ _ rfl _)) (congr (congr (congrArg k0_pay24 (View.readAt_rep_unit _ _ _ rfl _)) (View.readAt_rep_unit _ _ _ rfl _)) (View.readAt_rep_unit _ _ _ rfl _))) (acc_step _ _ _ _ _ rfl hX)))
  refine put_step _ _ _ _ rfl ?_ fun hX => (show k0_pay26 _ (k0_pay24 _ _ _) _ = k0_pay26 _ (k0_pay24 _ _ _) _ from (congr (congr (congrArg k0_pay26 (View.readAt_rep_unit _ _ _ rfl _)) (congr (congr (congrArg k0_pay24 (View.readAt_rep_unit _ _ _ rfl _)) (View.readAt_rep_unit _ _ _ rfl _)) (View.readAt_rep_unit _ _ _ rfl _))) (acc_step _ _ _ _ _ rfl hX)))
  refine put_step _ _ _ _ rfl ?_ fun hX => (show k0_pay13 _ _ (k0_pay12 _ _ _) = k0_pay13 _ _ (k0_pay12 _ _ _) from (congr (congr (congrArg k0_pay13 (View.readAt_rep_unit _ _ _ rfl _)) (acc_step _ _ _ _ _ rfl hX)) (congr (congr (congrArg k0_pay12 (View.readAt_rep_unit _ _ _ rfl _)) (View.readAt_rep_unit _ _ _ rfl _)) (View.readAt_rep_unit _ _ _ rfl _))))
  refine put_step _ _ _ _ rfl ?_ fun hX => (show k0_pay13 _ _ (k0_pay12 _ _ _) = k0_pay13 _ _ (k0_pay12 _ _ _) from (congr (congr (congrArg k0_pay13 (View.readAt_rep_unit _ _ _ rfl _)) (acc_step _ _ _ _ _ rfl hX)) (congr (congr (congrArg k0_pay12 (View.readAt_rep_unit _ _ _ rfl _)) (View.readAt_rep_unit _ _ _ rfl _)) (View.readAt_rep_unit _ _ _ rfl _))))
  exact View.read_writes_full _ _ _ _ _

end Cert.KernelIdeal.Attn

end
-- ==== Proof.Attn.RunE.lean ====
/- The body of the attention backward kernel at the last diagonal tile. -/
module

public import proofs.«01_k».proof.Proof.Attn.Base

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

set_option backward.proofsInPublic true in
set_option maxHeartbeats 16000000 in
/-- The body at the last diagonal tile: the list of stores it makes in each buffer it writes, with the proof that from the input
    blocks, the tables and the buffers' contents it ends with exactly those stores made. -/
def runE (c : Dev nD) (i : grid0.Coords) (arg4 : Memref sig .tc .vmem S1024x512 .bf16) (harg4 : arg4.IsWhole) (arg5 : Memref sig .tc .vmem S1024x512 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S2x1x1024 .f32) (harg9 : arg9.IsWhole) (arg10 : Memref sig .tc .vmem S4096x512 .f32) (harg10 : arg10.IsWhole) (arg11 : Memref sig .tc .vmem S1024x512 .f32) (harg11 : arg11.IsWhole) (arg12 : Memref sig .tc .vmem S1024x256 .f32) (harg12 : arg12.IsWhole) (T0 T1 : S10.Idx → Elt F .i32)
    (x0 : S1024x512.Idx → Elt F .bf16) (x1 : S1024x512.Idx → Elt F .bf16) (x2 : S1024x256.Idx → Elt F .bf16) (x3 : S1024x256.Idx → Elt F .bf16) (x4 : S1024x256.Idx → Elt F .bf16) (x5 : S2x1x1024.Idx → Elt F .f32) (y6 : S4096x512.Idx → Elt F .f32) (k0_h1 : ¬k0_cond1 i = 1#1) (hd : isDiag (qw i T0) (kw i T1)) (k0_h3 : k0_cond3 (qw i T0) (kw i T1) = 1#1) (k0_h4 : ¬k0_cond4 (qw i T0) (kw i T1) = 1#1) (hl : isLast (qw i T0)) (hw : k0_chk1 (qw i T0) (kw i T1)) :
    Σ' (o6 : List (View.Piece (Elt F) S4096x512 .f32)) (o7 : List (View.Piece (Elt F) S1024x512 .f32)) (o8 : List (View.Piece (Elt F) S1024x256 .f32)) (a0 : List (View.Piece (Elt F) S1024x512 .f32)), { a1 : List (View.Piece (Elt F) S1024x256 .f32) //
      ∀ (s0 : S1024x512.Idx → Elt F .f32) (s1 : S1024x256.Idx → Elt F .f32) (y7 : S1024x512.Idx → Elt F .f32) (y8 : S1024x256.Idx → Elt F .f32) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (qtab.view.loc (c : Thread nD τ) ↦{fullShare.right} T0)
          ∗ (ktab.view.loc (c : Thread nD τ) ↦{fullShare.right} T1)
          ∗ (arg10.view.loc (c : Thread nD τ) ↦[arg10.view.set]{fullShare} arg10.view.rep y6)
          ∗ (arg11.view.loc (c : Thread nD τ) ↦[arg11.view.set]{fullShare} arg11.view.rep y7)
          ∗ (arg12.view.loc (c : Thread nD τ) ↦[arg12.view.set]{fullShare} arg12.view.rep y8)
          ∗ (dkAcc.view.loc (c : Thread nD τ) ↦[dkAcc.view.set]{fullShare} dkAcc.view.rep s0)
          ∗ (dvAcc.view.loc (c : Thread nD τ) ↦[dvAcc.view.set]{fullShare} dvAcc.view.rep s1)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (qtab.view.loc (c : Thread nD τ) ↦{fullShare.right} T0)
              ∗ (ktab.view.loc (c : Thread nD τ) ↦{fullShare.right} T1)
              ∗ (arg10.view.loc (c : Thread nD τ) ↦[arg10.view.set]{fullShare} arg10.view.writes (Elt F) (arg10.view.rep y6) o6)
              ∗ (arg11.view.loc (c : Thread nD τ) ↦[arg11.view.set]{fullShare} arg11.view.writes (Elt F) arg11.view.junk o7)
              ∗ (arg12.view.loc (c : Thread nD τ) ↦[arg12.view.set]{fullShare} arg12.view.writes (Elt F) arg12.view.junk o8)
              ∗ (dkAcc.view.loc (c : Thread nD τ) ↦[dkAcc.view.set]{fullShare} dkAcc.view.writes (Elt F) dkAcc.view.junk a0)
              ∗ (dvAcc.view.loc (c : Thread nD τ) ↦[dvAcc.view.set]{fullShare} dvAcc.view.writes (Elt F) dvAcc.view.junk a1)) -∗ K ⟨⟩))
          ⊢ wp frame (wpE (defs₀ (F := F)) Variants.none c none) Set.univ (cc0_attn_bwd i qtab (Memref.isWhole_whole _) ktab (Memref.isWhole_whole _) arg4 harg4 arg5 harg5 arg6 harg6 arg7 harg7 arg8 harg8 arg9 harg9 arg10 harg10 arg11 harg11 arg12 harg12 dkAcc (Memref.isWhole_whole _) dvAcc (Memref.isWhole_whole _)) K } :=
  ⟨_, _, _, _, _, fun (s0 : S1024x512.Idx → Elt F .f32) (s1 : S1024x256.Idx → Elt F .f32) (y7 : S1024x512.Idx → Elt F .f32) (y8 : S1024x256.Idx → Elt F .f32) K => by
    rw [cc0_attn_bwd_eq_skeleton]; unfold cc0_attn_bwd_skel
    iintro ⟨H0, H1, H2, H3, H4, H5, HT0, HT1, H6, H7, H8, HS0, HS1, Hk⟩
    have hS0 : dkAcc.IsWhole := Memref.isWhole_whole _
    have hS1 : dvAcc.IsWhole := Memref.isWhole_whole _
    have hT0 : qtab.IsWhole := Memref.isWhole_whole _
    have hT1 : ktab.IsWhole := Memref.isWhole_whole _
    sl_exec! (disch := first | exact k0_h1 | exact k0_h3 | exact k0_h4 | exact hd | exact hl | exact hw)
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [H6]; · iexact H6
    isplitl [H7]; · iexact H7
    isplitl [H8]; · iexact H8
    isplitl [HS0]; · iexact HS0
    iexact HS1⟩

end Cert.KernelIdeal.Attn

end
-- ==== Proof.Attn.OutE.lean ====
/- What the body of the attention backward kernel leaves in its buffers at the last diagonal tile. -/
module

public import proofs.«01_k».proof.Proof.Attn.Tile
public import proofs.«01_k».proof.Proof.Attn.RunE

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

open VecWindow

/-- At the last diagonal tile: the queries' gradient is the running one with the tile's added. -/
theorem runE_dq (c : Dev nD) (i : grid0.Coords) (arg4 : Memref sig .tc .vmem S1024x512 .bf16) (harg4 : arg4.IsWhole) (arg5 : Memref sig .tc .vmem S1024x512 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S2x1x1024 .f32) (harg9 : arg9.IsWhole) (arg10 : Memref sig .tc .vmem S4096x512 .f32) (harg10 : arg10.IsWhole) (arg11 : Memref sig .tc .vmem S1024x512 .f32) (harg11 : arg11.IsWhole) (arg12 : Memref sig .tc .vmem S1024x256 .f32) (harg12 : arg12.IsWhole) (T0 T1 : S10.Idx → Elt F .i32)
    (b : Blocks F) (y6 : S4096x512.Idx → Elt F .f32) (k0_h1 : ¬k0_cond1 i = 1#1) (hd : isDiag (qw i T0) (kw i T1)) (k0_h3 : k0_cond3 (qw i T0) (kw i T1) = 1#1) (k0_h4 : ¬k0_cond4 (qw i T0) (kw i T1) = 1#1) (hl : isLast (qw i T0)) (hw : k0_chk1 (qw i T0) (kw i T1)) (n : Fin 4) (hn : (qw i T0) = BitVec.ofNat 32 n.val) :
    arg10.view.read (Elt F) (arg10.view.writes (Elt F) (arg10.view.rep y6) (runE c i arg4 harg4 arg5 harg5 arg6 harg6 arg7 harg7 arg8 harg8 arg9 harg9 arg10 harg10 arg11 harg11 arg12 harg12 T0 T1 (x0 := b.q) (x1 := b.k) (x2 := b.v) (x3 := b.o) (x4 := b.d) (x5 := b.l) (y6 := y6) k0_h1 hd k0_h3 k0_h4 hl hw).1) = (diag n b ⟨y6, k0_pay2, k0_pay3⟩).dq := by
  refine put_step _ _ _ _ (offB1 hn) ?_ fun hX => (show k0_pay5 (k0_pay25 _ (k0_pay23 _ _) (k0_pay24 _ _ _) _) _ _ = k0_pay5 (k0_pay25 _ (k0_pay23 _ _) (k0_pay24 _ _ _) _) _ _ from (congr (congr (congrArg k0_pay5 (congr (congr (congr (congrArg k0_pay25 (View.readAt_rep_unit _ _ _ rfl _)) (congr (congrArg k0_pay23 (View.readAt_rep_unit _ _ _ rfl _)) (View.readAt_rep_unit _ _ _ rfl _))) (congr (congr (congrArg k0_pay24 (View.readAt_rep_unit _ _ _ rfl _)) (View.readAt_rep_unit _ _ _ rfl _)) (View.readAt_rep_unit _ _ _ rfl _))) (View.readAt_rep_unit _ _ _ rfl _))) (acc_step _ _ _ _ _ (offB1 hn) hX)) (View.readAt_rep_unit _ _ _ rfl _)))
  refine put_step _ _ _ _ (offB0 hn) ?_ fun hX => (show k0_pay5 (k0_pay25 _ (k0_pay23 _ _) (k0_pay24 _ _ _) _) _ _ = k0_pay5 (k0_pay25 _ (k0_pay23 _ _) (k0_pay24 _ _ _) _) _ _ from (congr (congr (congrArg k0_pay5 (congr (congr (congr (congrArg k0_pay25 (View.readAt_rep_unit _ _ _ rfl _)) (congr (congrArg k0_pay23 (View.readAt_rep_unit _ _ _ rfl _)) (View.readAt_rep_unit _ _ _ rfl _))) (congr (congr (congrArg k0_pay24 (View.readAt_rep_unit _ _ _ rfl _)) (View.readAt_rep_unit _ _ _ rfl _)) (View.readAt_rep_unit _ _ _ rfl _))) (View.readAt_rep_unit _ _ _ rfl _))) (acc_step _ _ _ _ _ (offB0 hn) hX)) (View.readAt_rep_unit _ _ _ rfl _)))
  refine put_step _ _ _ _ (offA1 hn) ?_ fun hX => (show k0_pay15 (k0_pay11 _ _ _ _ _ _) _ _ = k0_pay15 (k0_pay11 _ _ _ _ _ _) _ _ from (congr (congr (congrArg k0_pay15 (congr (congr (congr (congr (congr (congrArg k0_pay11 (View.readAt_rep_unit _ _ _ rfl _)) (View.readAt_rep_unit _ _ _ rfl _)) (View.readAt_rep_unit _ _ _ rfl _)) (View.readAt_rep_unit _ _ _ rfl _)) (View.readAt_rep_unit _ _ _ rfl _)) (View.readAt_rep_unit _ _ _ rfl _))) (acc_step _ _ _ _ _ (offA1 hn) hX)) (View.readAt_rep_unit _ _ _ rfl _)))
  refine put_step _ _ _ _ (offA0 hn) ?_ fun hX => (show k0_pay15 (k0_pay11 _ _ _ _ _ _) _ _ = k0_pay15 (k0_pay11 _ _ _ _ _ _) _ _ from (congr (congr (congrArg k0_pay15 (congr (congr (congr (congr (congr (congrArg k0_pay11 (View.readAt_rep_unit _ _ _ rfl _)) (View.readAt_rep_unit _ _ _ rfl _)) (View.readAt_rep_unit _ _ _ rfl _)) (View.readAt_rep_unit _ _ _ rfl _)) (View.readAt_rep_unit _ _ _ rfl _)) (View.readAt_rep_unit _ _ _ rfl _))) (View.readAt_rep_unit _ _ _ (offA0 hn) _)) (View.readAt_rep_unit _ _ _ rfl _)))
  rw [View.writes_nil]; exact View.read_rep _ _

/-- At the last diagonal tile: the keys' gradient is the running one with the tile's added. -/
theorem runE_dk (c : Dev nD) (i : grid0.Coords) (arg4 : Memref sig .tc .vmem S1024x512 .bf16) (harg4 : arg4.IsWhole) (arg5 : Memref sig .tc .vmem S1024x512 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S2x1x1024 .f32) (harg9 : arg9.IsWhole) (arg10 : Memref sig .tc .vmem S4096x512 .f32) (harg10 : arg10.IsWhole) (arg11 : Memref sig .tc .vmem S1024x512 .f32) (harg11 : arg11.IsWhole) (arg12 : Memref sig .tc .vmem S1024x256 .f32) (harg12 : arg12.IsWhole) (T0 T1 : S10.Idx → Elt F .i32)
    (b : Blocks F) (y6 : S4096x512.Idx → Elt F .f32) (k0_h1 : ¬k0_cond1 i = 1#1) (hd : isDiag (qw i T0) (kw i T1)) (k0_h3 : k0_cond3 (qw i T0) (kw i T1) = 1#1) (k0_h4 : ¬k0_cond4 (qw i T0) (kw i T1) = 1#1) (hl : isLast (qw i T0)) (hw : k0_chk1 (qw i T0) (kw i T1)) (n : Fin 4) (hn : (qw i T0) = BitVec.ofNat 32 n.val) :
    dkAcc.view.read (Elt F) (dkAcc.view.writes (Elt F) dkAcc.view.junk (runE c i arg4 harg4 arg5 harg5 arg6 harg6 arg7 harg7 arg8 harg8 arg9 harg9 arg10 harg10 arg11 harg11 arg12 harg12 T0 T1 (x0 := b.q) (x1 := b.k) (x2 := b.v) (x3 := b.o) (x4 := b.d) (x5 := b.l) (y6 := y6) k0_h1 hd k0_h3 k0_h4 hl hw).2.2.2.1) = (diag n b ⟨y6, k0_pay2, k0_pay3⟩).dk := by
  refine put_step _ _ _ _ rfl ?_ fun hX => (show k0_pay4 (k0_pay25 _ (k0_pay23 _ _) (k0_pay24 _ _ _) _) _ _ = k0_pay4 (k0_pay25 _ (k0_pay23 _ _) (k0_pay24 _ _ _) _) _ _ from (congr (congr (congrArg k0_pay4 (congr (congr (congr (congrArg k0_pay25 (View.readAt_rep_unit _ _ _ rfl _)) (congr (congrArg k0_pay23 (View.readAt_rep_unit _ _ _ rfl _)) (View.readAt_rep_unit _ _ _ rfl _))) (congr (congr (congrArg k0_pay24 (View.readAt_rep_unit _ _ _ rfl _)) (View.readAt_rep_unit _ _ _ rfl _)) (View.readAt_rep_unit _ _ _ rfl _))) (View.readAt_rep_unit _ _ _ rfl _))) (acc_step _ _ _ _ _ rfl hX)) (View.readAt_rep_unit _ _ _ rfl _)))
  refine put_step _ _ _ _ rfl ?_ fun hX => (show k0_pay4 (k0_pay25 _ (k0_pay23 _ _) (k0_pay24 _ _ _) _) _ _ = k0_pay4 (k0_pay25 _ (k0_pay23 _ _) (k0_pay24 _ _ _) _) _ _ from (congr (congr (congrArg k0_pay4 (congr (congr (congr (congrArg k0_pay25 (View.readAt_rep_unit _ _ _ rfl _)) (congr (congrArg k0_pay23 (View.readAt_rep_unit _ _ _ rfl _)) (View.readAt_rep_unit _ _ _ rfl _))) (congr (congr (congrArg k0_pay24 (View.readAt_rep_unit _ _ _ rfl _)) (View.readAt_rep_unit _ _ _ rfl _)) (View.readAt_rep_unit _ _ _ rfl _))) (View.readAt_rep_unit _ _ _ rfl _))) (acc_step _ _ _ _ _ rfl hX)) (View.readAt_rep_unit _ _ _ rfl _)))
  refine put_step _ _ _ _ rfl ?_ fun hX => (show k0_pay14 (k0_pay11 _ _ _ _ _ _) _ _ = k0_pay14 (k0_pay11 _ _ _ _ _ _) _ _ from (congr (congr (congrArg k0_pay14 (congr (congr (congr (congr (congr (congrArg k0_pay11 (View.readAt_rep_unit _ _ _ rfl _)) (View.readAt_rep_unit _ _ _ rfl _)) (View.readAt_rep_unit _ _ _ rfl _)) (View.readAt_rep_unit _ _ _ rfl _)) (View.readAt_rep_unit _ _ _ rfl _)) (View.readAt_rep_unit _ _ _ rfl _))) (acc_step _ _ _ _ _ rfl hX)) (View.readAt_rep_unit _ _ _ rfl _)))
  refine put_step _ _ _ _ rfl ?_ fun hX => (show k0_pay14 (k0_pay11 _ _ _ _ _ _) _ _ = k0_pay14 (k0_pay11 _ _ _ _ _ _) _ _ from (congr (congr (congrArg k0_pay14 (congr (congr (congr (congr (congr (congrArg k0_pay11 (View.readAt_rep_unit _ _ _ rfl _)) (View.readAt_rep_unit _ _ _ rfl _)) (View.readAt_rep_unit _ _ _ rfl _)) (View.readAt_rep_unit _ _ _ rfl _)) (View.readAt_rep_unit _ _ _ rfl _)) (View.readAt_rep_unit _ _ _ rfl _))) (acc_step _ _ _ _ _ rfl hX)) (View.readAt_rep_unit _ _ _ rfl _)))
  exact View.read_writes_full _ _ _ _ _

/-- At the last diagonal tile: the values' gradient is the running one with the tile's added. -/
theorem runE_dv (c : Dev nD) (i : grid0.Coords) (arg4 : Memref sig .tc .vmem S1024x512 .bf16) (harg4 : arg4.IsWhole) (arg5 : Memref sig .tc .vmem S1024x512 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S2x1x1024 .f32) (harg9 : arg9.IsWhole) (arg10 : Memref sig .tc .vmem S4096x512 .f32) (harg10 : arg10.IsWhole) (arg11 : Memref sig .tc .vmem S1024x512 .f32) (harg11 : arg11.IsWhole) (arg12 : Memref sig .tc .vmem S1024x256 .f32) (harg12 : arg12.IsWhole) (T0 T1 : S10.Idx → Elt F .i32)
    (b : Blocks F) (y6 : S4096x512.Idx → Elt F .f32) (k0_h1 : ¬k0_cond1 i = 1#1) (hd : isDiag (qw i T0) (kw i T1)) (k0_h3 : k0_cond3 (qw i T0) (kw i T1) = 1#1) (k0_h4 : ¬k0_cond4 (qw i T0) (kw i T1) = 1#1) (hl : isLast (qw i T0)) (hw : k0_chk1 (qw i T0) (kw i T1)) (n : Fin 4) (hn : (qw i T0) = BitVec.ofNat 32 n.val) :
    dvAcc.view.read (Elt F) (dvAcc.view.writes (Elt F) dvAcc.view.junk (runE c i arg4 harg4 arg5 harg5 arg6 harg6 arg7 harg7 arg8 harg8 arg9 harg9 arg10 harg10 arg11 harg11 arg12 harg12 T0 T1 (x0 := b.q) (x1 := b.k) (x2 := b.v) (x3 := b.o) (x4 := b.d) (x5 := b.l) (y6 := y6) k0_h1 hd k0_h3 k0_h4 hl hw).2.2.2.2.1) = (diag n b ⟨y6, k0_pay2, k0_pay3⟩).dv := by
  refine put_step _ _ _ _ rfl ?_ fun hX => (show k0_pay26 _ (k0_pay24 _ _ _) _ = k0_pay26 _ (k0_pay24 _ _ _) _ from (congr (congr (congrArg k0_pay26 (View.readAt_rep_unit _ _ _ rfl _)) (congr (congr (congrArg k0_pay24 (View.readAt_rep_unit _ _ _ rfl _)) (View.readAt_rep_unit _ _ _ rfl _)) (View.readAt_rep_unit _ _ _ rfl _))) (acc_step _ _ _ _ _ rfl hX)))
  refine put_step _ _ _ _ rfl ?_ fun hX => (show k0_pay26 _ (k0_pay24 _ _ _) _ = k0_pay26 _ (k0_pay24 _ _ _) _ from (congr (congr (congrArg k0_pay26 (View.readAt_rep_unit _ _ _ rfl _)) (congr (congr (congrArg k0_pay24 (View.readAt_rep_unit _ _ _ rfl _)) (View.readAt_rep_unit _ _ _ rfl _)) (View.readAt_rep_unit _ _ _ rfl _))) (acc_step _ _ _ _ _ rfl hX)))
  refine put_step _ _ _ _ rfl ?_ fun hX => (show k0_pay13 _ _ (k0_pay12 _ _ _) = k0_pay13 _ _ (k0_pay12 _ _ _) from (congr (congr (congrArg k0_pay13 (View.readAt_rep_unit _ _ _ rfl _)) (acc_step _ _ _ _ _ rfl hX)) (congr (congr (congrArg k0_pay12 (View.readAt_rep_unit _ _ _ rfl _)) (View.readAt_rep_unit _ _ _ rfl _)) (View.readAt_rep_unit _ _ _ rfl _))))
  refine put_step _ _ _ _ rfl ?_ fun hX => (show k0_pay13 _ _ (k0_pay12 _ _ _) = k0_pay13 _ _ (k0_pay12 _ _ _) from (congr (congr (congrArg k0_pay13 (View.readAt_rep_unit _ _ _ rfl _)) (acc_step _ _ _ _ _ rfl hX)) (congr (congr (congrArg k0_pay12 (View.readAt_rep_unit _ _ _ rfl _)) (View.readAt_rep_unit _ _ _ rfl _)) (View.readAt_rep_unit _ _ _ rfl _))))
  exact View.read_writes_full _ _ _ _ _

/-- At the last diagonal tile: the keys' gradient written out is the running one with the tile's added. -/
theorem runE_o7 (c : Dev nD) (i : grid0.Coords) (arg4 : Memref sig .tc .vmem S1024x512 .bf16) (harg4 : arg4.IsWhole) (arg5 : Memref sig .tc .vmem S1024x512 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S2x1x1024 .f32) (harg9 : arg9.IsWhole) (arg10 : Memref sig .tc .vmem S4096x512 .f32) (harg10 : arg10.IsWhole) (arg11 : Memref sig .tc .vmem S1024x512 .f32) (harg11 : arg11.IsWhole) (arg12 : Memref sig .tc .vmem S1024x256 .f32) (harg12 : arg12.IsWhole) (T0 T1 : S10.Idx → Elt F .i32)
    (b : Blocks F) (y6 : S4096x512.Idx → Elt F .f32) (k0_h1 : ¬k0_cond1 i = 1#1) (hd : isDiag (qw i T0) (kw i T1)) (k0_h3 : k0_cond3 (qw i T0) (kw i T1) = 1#1) (k0_h4 : ¬k0_cond4 (qw i T0) (kw i T1) = 1#1) (hl : isLast (qw i T0)) (hw : k0_chk1 (qw i T0) (kw i T1)) (n : Fin 4) (hn : (qw i T0) = BitVec.ofNat 32 n.val) :
    arg11.view.read (Elt F) (arg11.view.writes (Elt F) arg11.view.junk (runE c i arg4 harg4 arg5 harg5 arg6 harg6 arg7 harg7 arg8 harg8 arg9 harg9 arg10 harg10 arg11 harg11 arg12 harg12 T0 T1 (x0 := b.q) (x1 := b.k) (x2 := b.v) (x3 := b.o) (x4 := b.d) (x5 := b.l) (y6 := y6) k0_h1 hd k0_h3 k0_h4 hl hw).2.1) = (diag n b ⟨y6, k0_pay2, k0_pay3⟩).dk := by
  exact (View.read_writes_full _ _ _ _ _).trans ((View.readAt_full dkAcc.view _ _).trans (runE_dk c i arg4 harg4 arg5 harg5 arg6 harg6 arg7 harg7 arg8 harg8 arg9 harg9 arg10 harg10 arg11 harg11 arg12 harg12 T0 T1 b y6 k0_h1 hd k0_h3 k0_h4 hl hw n hn))

/-- At the last diagonal tile: the values' gradient written out is the running one with the tile's added. -/
theorem runE_o8 (c : Dev nD) (i : grid0.Coords) (arg4 : Memref sig .tc .vmem S1024x512 .bf16) (harg4 : arg4.IsWhole) (arg5 : Memref sig .tc .vmem S1024x512 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S2x1x1024 .f32) (harg9 : arg9.IsWhole) (arg10 : Memref sig .tc .vmem S4096x512 .f32) (harg10 : arg10.IsWhole) (arg11 : Memref sig .tc .vmem S1024x512 .f32) (harg11 : arg11.IsWhole) (arg12 : Memref sig .tc .vmem S1024x256 .f32) (harg12 : arg12.IsWhole) (T0 T1 : S10.Idx → Elt F .i32)
    (b : Blocks F) (y6 : S4096x512.Idx → Elt F .f32) (k0_h1 : ¬k0_cond1 i = 1#1) (hd : isDiag (qw i T0) (kw i T1)) (k0_h3 : k0_cond3 (qw i T0) (kw i T1) = 1#1) (k0_h4 : ¬k0_cond4 (qw i T0) (kw i T1) = 1#1) (hl : isLast (qw i T0)) (hw : k0_chk1 (qw i T0) (kw i T1)) (n : Fin 4) (hn : (qw i T0) = BitVec.ofNat 32 n.val) :
    arg12.view.read (Elt F) (arg12.view.writes (Elt F) arg12.view.junk (runE c i arg4 harg4 arg5 harg5 arg6 harg6 arg7 harg7 arg8 harg8 arg9 harg9 arg10 harg10 arg11 harg11 arg12 harg12 T0 T1 (x0 := b.q) (x1 := b.k) (x2 := b.v) (x3 := b.o) (x4 := b.d) (x5 := b.l) (y6 := y6) k0_h1 hd k0_h3 k0_h4 hl hw).2.2.1) = (diag n b ⟨y6, k0_pay2, k0_pay3⟩).dv := by
  exact (View.read_writes_full _ _ _ _ _).trans ((View.readAt_full dvAcc.view _ _).trans (runE_dv c i arg4 harg4 arg5 harg5 arg6 harg6 arg7 harg7 arg8 harg8 arg9 harg9 arg10 harg10 arg11 harg11 arg12 harg12 T0 T1 b y6 k0_h1 hd k0_h3 k0_h4 hl hw n hn))

end Cert.KernelIdeal.Attn

end
-- ==== Proof.Attn.Body.lean ====
/- The body of the attention backward kernel at a grid point, and the pipeline's obligation of it. -/
module

public import proofs.«01_k».proof.Proof.Attn.Dats
public import proofs.«01_k».proof.Proof.Attn.OutA
public import proofs.«01_k».proof.Proof.Attn.OutB
public import proofs.«01_k».proof.Proof.Attn.OutC
public import proofs.«01_k».proof.Proof.Attn.OutD
public import proofs.«01_k».proof.Proof.Attn.OutE

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body as the pipeline runs it at point `t`. -/
abbrev bodyAt (t : Fin (cfgA F).N) : Prog (TpuEff nD τ sig (Elt F) Λ₀ .tc) PUnit :=
  cc0_attn_bwd (crd t) qtab (Memref.isWhole_whole _) ktab (Memref.isWhole_whole _) (st0 t) (sw0 t) (st1 t) (sw1 t) (st2 t) (sw2 t) (st3 t) (sw3 t) (st4 t) (sw4 t) (st5 t) (sw5 t) (st6 t) (sw6 t) (st7 t) (sw7 t) (st8 t) (sw8 t) dkAcc (Memref.isWhole_whole _) dvAcc (Memref.isWhole_whole _)

/-- The six input blocks and the two tables, owned at point `t`. -/
abbrev inputs (c : Dev nD) (t : Fin (cfgA F).N) (b : Blocks F) : sProp 𝕄 :=
  iprop(owns (c : Thread nD τ) (st0 t) fullShare b.q ∗ owns (c : Thread nD τ) (st1 t) fullShare b.k ∗ owns (c : Thread nD τ) (st2 t) fullShare b.v
    ∗ owns (c : Thread nD τ) (st3 t) fullShare b.o ∗ owns (c : Thread nD τ) (st4 t) fullShare b.d ∗ owns (c : Thread nD τ) (st5 t) fullShare b.l
    ∗ (qtab.view.loc (c : Thread nD τ) ↦{fullShare.right} tq) ∗ (ktab.view.loc (c : Thread nD τ) ↦{fullShare.right} tk))

/-- The running gradients' buffers and the two output blocks, owned at point `t`. -/
abbrev outputs (c : Dev nD) (t : Fin (cfgA F).N) (s : Grads F) (y7 : S1024x512.Idx → Elt F .f32) (y8 : S1024x256.Idx → Elt F .f32) : sProp 𝕄 :=
  iprop(owns (c : Thread nD τ) (st6 t) fullShare s.dq ∗ owns (c : Thread nD τ) (st7 t) fullShare y7 ∗ owns (c : Thread nD τ) (st8 t) fullShare y8
    ∗ owns (c : Thread nD τ) dkAcc fullShare s.dk ∗ owns (c : Thread nD τ) dvAcc fullShare s.dv)

set_option maxHeartbeats 6400000 in
/-- The body at the first pair of a group of heads: from the inputs and the running gradients it leaves the running gradients with the pair's tile added. -/
theorem bodyA (c : Dev nD) (t : Fin (cfgA F).N) (h : t.val % 10 = 0) (b : Blocks F) (s : Grads F) (y7 : S1024x512.Idx → Elt F .f32) (y8 : S1024x256.Idx → Elt F .f32) (K : PUnit → sProp 𝕄) :
    iprop(inputs c t b ∗ outputs c t s y7 y8 ∗ (iprop(inputs c t b ∗ outputs c t (step t.val b s) y7 y8) -∗ K ⟨⟩))
      ⊢ wp frame (wpE (defs₀ (F := F)) Variants.none c none) Set.univ (bodyAt t) K := by
  have h' : onDiag t.val := Or.inl h
  have hl : ¬onLast t.val := by unfold onLast; omega
  obtain ⟨hn, hw, w1, wd, w3, w4, wl⟩ := words (F := F) t
  have k1 : k0_cond1 (crd t) = 1#1 := by
    rw [decide_eq_true h] at w1; exact eq_of_beq w1
  have hd : isDiag (qw (crd t) (tq (F := F))) (kw (crd t) (tk (F := F))) := by
    rw [decide_eq_true h'] at wd; exact of_decide_eq_true wd
  have k3 : k0_cond3 (qw (crd t) (tq (F := F))) (kw (crd t) (tk (F := F))) = 1#1 := by
    rw [decide_eq_true h'] at w3; exact eq_of_beq w3
  have k4 : ¬k0_cond4 (qw (crd t) (tq (F := F))) (kw (crd t) (tk (F := F))) = 1#1 := by
    rw [decide_eq_true h'] at w4; exact fun e => by rw [e] at w4; exact absurd w4 (by decide)
  have kl : ¬isLast (qw (crd t) (tq (F := F))) := by
    rw [decide_eq_false hl] at wl; exact of_decide_eq_false wl
  have hs : step t.val b s = diag (qn t.val) b ⟨k0_pay1, k0_pay2, k0_pay3⟩ := by
    unfold step; rw [if_pos h', if_pos h]
  rw [hs]
  unfold inputs outputs
  iintro ⟨⟨H0, H1, H2, H3, H4, H5, HT0, HT1⟩, ⟨H6, H7, H8, HS0, HS1⟩, HK⟩
  iapply ((runA c (crd t) (st0 t) (sw0 t) (st1 t) (sw1 t) (st2 t) (sw2 t) (st3 t) (sw3 t) (st4 t) (sw4 t) (st5 t) (sw5 t) (st6 t) (sw6 t) (st7 t) (sw7 t) (st8 t) (sw8 t) tq tk (x0 := b.q) (x1 := b.k) (x2 := b.v) (x3 := b.o) (x4 := b.d) (x5 := b.l) k1 hd k3 k4 kl hw).2.2.2 s.dq s.dk s.dv y7 y8 K)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [HT0]; · iexact HT0
  isplitl [HT1]; · iexact HT1
  isplitl [H6]; · iapply rep_of_owns; iexact H6
  isplitl [H7]; · iapply rep_of_owns; iexact H7
  isplitl [H8]; · iapply rep_of_owns; iexact H8
  isplitl [HS0]; · iapply rep_of_owns; iexact HS0
  isplitl [HS1]; · iapply rep_of_owns; iexact HS1
  iintro ⟨H0, H1, H2, H3, H4, H5, HT0, HT1, H6, H7, H8, HS0, HS1⟩
  iapply HK
  isplitl [H0 H1 H2 H3 H4 H5 HT0 HT1]
  · isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [HT0]; · iexact HT0
    iexact HT1
  isplitl [H6]
  · unfold owns; iexists _; isplitr; swap
    · iexact H6
    · ipureintro; exact runA_dq c (crd t) (st0 t) (sw0 t) (st1 t) (sw1 t) (st2 t) (sw2 t) (st3 t) (sw3 t) (st4 t) (sw4 t) (st5 t) (sw5 t) (st6 t) (sw6 t) (st7 t) (sw7 t) (st8 t) (sw8 t) tq tk b k1 hd k3 k4 kl hw (qn t.val) hn
  isplitl [H7]; · iapply owns_of_rep; iexact H7
  isplitl [H8]; · iapply owns_of_rep; iexact H8
  isplitl [HS0]
  · unfold owns; iexists _; isplitr; swap
    · iexact HS0
    · ipureintro; exact runA_dk c (crd t) (st0 t) (sw0 t) (st1 t) (sw1 t) (st2 t) (sw2 t) (st3 t) (sw3 t) (st4 t) (sw4 t) (st5 t) (sw5 t) (st6 t) (sw6 t) (st7 t) (sw7 t) (st8 t) (sw8 t) tq tk b k1 hd k3 k4 kl hw (qn t.val) hn
  · unfold owns; iexists _; isplitr; swap
    · iexact HS1
    · ipureintro; exact runA_dv c (crd t) (st0 t) (sw0 t) (st1 t) (sw1 t) (st2 t) (sw2 t) (st3 t) (sw3 t) (st4 t) (sw4 t) (st5 t) (sw5 t) (st6 t) (sw6 t) (st7 t) (sw7 t) (st8 t) (sw8 t) tq tk b k1 hd k3 k4 kl hw (qn t.val) hn

set_option maxHeartbeats 6400000 in
/-- The body at a pair below the diagonal, not of the last query tile: from the inputs and the running gradients it leaves the running gradients with the pair's tile added. -/
theorem bodyB (c : Dev nD) (t : Fin (cfgA F).N) (h : ¬onDiag t.val) (hl : ¬onLast t.val) (b : Blocks F) (s : Grads F) (y7 : S1024x512.Idx → Elt F .f32) (y8 : S1024x256.Idx → Elt F .f32) (K : PUnit → sProp 𝕄) :
    iprop(inputs c t b ∗ outputs c t s y7 y8 ∗ (iprop(inputs c t b ∗ outputs c t (step t.val b s) y7 y8) -∗ K ⟨⟩))
      ⊢ wp frame (wpE (defs₀ (F := F)) Variants.none c none) Set.univ (bodyAt t) K := by
  have h0 : ¬t.val % 10 = 0 := fun e => h (Or.inl e)
  obtain ⟨hn, hw, w1, wd, w3, w4, wl⟩ := words (F := F) t
  have k1 : ¬k0_cond1 (crd t) = 1#1 := by
    rw [decide_eq_false h0] at w1; exact fun e => by rw [e] at w1; exact absurd w1 (by decide)
  have hd : ¬isDiag (qw (crd t) (tq (F := F))) (kw (crd t) (tk (F := F))) := by
    rw [decide_eq_false h] at wd; exact of_decide_eq_false wd
  have k3 : ¬k0_cond3 (qw (crd t) (tq (F := F))) (kw (crd t) (tk (F := F))) = 1#1 := by
    rw [decide_eq_false h] at w3; exact fun e => by rw [e] at w3; exact absurd w3 (by decide)
  have k4 : k0_cond4 (qw (crd t) (tq (F := F))) (kw (crd t) (tk (F := F))) = 1#1 := by
    rw [decide_eq_false h] at w4; exact eq_of_beq w4
  have kl : ¬isLast (qw (crd t) (tq (F := F))) := by
    rw [decide_eq_false hl] at wl; exact of_decide_eq_false wl
  have hs : step t.val b s = below (qn t.val) b s := by
    unfold step; rw [if_neg h]
  rw [hs]
  unfold inputs outputs
  iintro ⟨⟨H0, H1, H2, H3, H4, H5, HT0, HT1⟩, ⟨H6, H7, H8, HS0, HS1⟩, HK⟩
  iapply ((runB c (crd t) (st0 t) (sw0 t) (st1 t) (sw1 t) (st2 t) (sw2 t) (st3 t) (sw3 t) (st4 t) (sw4 t) (st5 t) (sw5 t) (st6 t) (sw6 t) (st7 t) (sw7 t) (st8 t) (sw8 t) tq tk (x0 := b.q) (x1 := b.k) (x2 := b.v) (x3 := b.o) (x4 := b.d) (x5 := b.l) (y6 := s.dq) (s0 := s.dk) (s1 := s.dv) k1 hd k3 k4 kl hw).2.2.2 y7 y8 K)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [HT0]; · iexact HT0
  isplitl [HT1]; · iexact HT1
  isplitl [H6]; · iapply rep_of_owns; iexact H6
  isplitl [H7]; · iapply rep_of_owns; iexact H7
  isplitl [H8]; · iapply rep_of_owns; iexact H8
  isplitl [HS0]; · iapply rep_of_owns; iexact HS0
  isplitl [HS1]; · iapply rep_of_owns; iexact HS1
  iintro ⟨H0, H1, H2, H3, H4, H5, HT0, HT1, H6, H7, H8, HS0, HS1⟩
  iapply HK
  isplitl [H0 H1 H2 H3 H4 H5 HT0 HT1]
  · isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [HT0]; · iexact HT0
    iexact HT1
  isplitl [H6]
  · unfold owns; iexists _; isplitr; swap
    · iexact H6
    · ipureintro; exact runB_dq c (crd t) (st0 t) (sw0 t) (st1 t) (sw1 t) (st2 t) (sw2 t) (st3 t) (sw3 t) (st4 t) (sw4 t) (st5 t) (sw5 t) (st6 t) (sw6 t) (st7 t) (sw7 t) (st8 t) (sw8 t) tq tk b s.dq s.dk s.dv k1 hd k3 k4 kl hw (qn t.val) hn
  isplitl [H7]; · iapply owns_of_rep; iexact H7
  isplitl [H8]; · iapply owns_of_rep; iexact H8
  isplitl [HS0]
  · unfold owns; iexists _; isplitr; swap
    · iexact HS0
    · ipureintro; exact runB_dk c (crd t) (st0 t) (sw0 t) (st1 t) (sw1 t) (st2 t) (sw2 t) (st3 t) (sw3 t) (st4 t) (sw4 t) (st5 t) (sw5 t) (st6 t) (sw6 t) (st7 t) (sw7 t) (st8 t) (sw8 t) tq tk b s.dq s.dk s.dv k1 hd k3 k4 kl hw (qn t.val) hn
  · unfold owns; iexists _; isplitr; swap
    · iexact HS1
    · ipureintro; exact runB_dv c (crd t) (st0 t) (sw0 t) (st1 t) (sw1 t) (st2 t) (sw2 t) (st3 t) (sw3 t) (st4 t) (sw4 t) (st5 t) (sw5 t) (st6 t) (sw6 t) (st7 t) (sw7 t) (st8 t) (sw8 t) tq tk b s.dq s.dk s.dv k1 hd k3 k4 kl hw (qn t.val) hn

set_option maxHeartbeats 6400000 in
/-- The body at a pair below the diagonal, of the last query tile: from the inputs and the running gradients it leaves the running gradients with the pair's tile added. -/
theorem bodyC (c : Dev nD) (t : Fin (cfgA F).N) (h : ¬onDiag t.val) (hl : onLast t.val) (b : Blocks F) (s : Grads F) (y7 : S1024x512.Idx → Elt F .f32) (y8 : S1024x256.Idx → Elt F .f32) (K : PUnit → sProp 𝕄) :
    iprop(inputs c t b ∗ outputs c t s y7 y8 ∗ (iprop(inputs c t b ∗ outputs c t (step t.val b s) ((step t.val b s).dk) ((step t.val b s).dv)) -∗ K ⟨⟩))
      ⊢ wp frame (wpE (defs₀ (F := F)) Variants.none c none) Set.univ (bodyAt t) K := by
  have h0 : ¬t.val % 10 = 0 := fun e => h (Or.inl e)
  obtain ⟨hn, hw, w1, wd, w3, w4, wl⟩ := words (F := F) t
  have k1 : ¬k0_cond1 (crd t) = 1#1 := by
    rw [decide_eq_false h0] at w1; exact fun e => by rw [e] at w1; exact absurd w1 (by decide)
  have hd : ¬isDiag (qw (crd t) (tq (F := F))) (kw (crd t) (tk (F := F))) := by
    rw [decide_eq_false h] at wd; exact of_decide_eq_false wd
  have k3 : ¬k0_cond3 (qw (crd t) (tq (F := F))) (kw (crd t) (tk (F := F))) = 1#1 := by
    rw [decide_eq_false h] at w3; exact fun e => by rw [e] at w3; exact absurd w3 (by decide)
  have k4 : k0_cond4 (qw (crd t) (tq (F := F))) (kw (crd t) (tk (F := F))) = 1#1 := by
    rw [decide_eq_false h] at w4; exact eq_of_beq w4
  have kl : isLast (qw (crd t) (tq (F := F))) := by
    rw [decide_eq_true hl] at wl; exact of_decide_eq_true wl
  have hs : step t.val b s = below (qn t.val) b s := by
    unfold step; rw [if_neg h]
  rw [hs]
  unfold inputs outputs
  iintro ⟨⟨H0, H1, H2, H3, H4, H5, HT0, HT1⟩, ⟨H6, H7, H8, HS0, HS1⟩, HK⟩
  iapply ((runC c (crd t) (st0 t) (sw0 t) (st1 t) (sw1 t) (st2 t) (sw2 t) (st3 t) (sw3 t) (st4 t) (sw4 t) (st5 t) (sw5 t) (st6 t) (sw6 t) (st7 t) (sw7 t) (st8 t) (sw8 t) tq tk (x0 := b.q) (x1 := b.k) (x2 := b.v) (x3 := b.o) (x4 := b.d) (x5 := b.l) (y6 := s.dq) (s0 := s.dk) (s1 := s.dv) k1 hd k3 k4 kl hw).2.2.2.2.2 y7 y8 K)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [HT0]; · iexact HT0
  isplitl [HT1]; · iexact HT1
  isplitl [H6]; · iapply rep_of_owns; iexact H6
  isplitl [H7]; · iapply rep_of_owns; iexact H7
  isplitl [H8]; · iapply rep_of_owns; iexact H8
  isplitl [HS0]; · iapply rep_of_owns; iexact HS0
  isplitl [HS1]; · iapply rep_of_owns; iexact HS1
  iintro ⟨H0, H1, H2, H3, H4, H5, HT0, HT1, H6, H7, H8, HS0, HS1⟩
  iapply HK
  isplitl [H0 H1 H2 H3 H4 H5 HT0 HT1]
  · isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [HT0]; · iexact HT0
    iexact HT1
  isplitl [H6]
  · unfold owns; iexists _; isplitr; swap
    · iexact H6
    · ipureintro; exact runC_dq c (crd t) (st0 t) (sw0 t) (st1 t) (sw1 t) (st2 t) (sw2 t) (st3 t) (sw3 t) (st4 t) (sw4 t) (st5 t) (sw5 t) (st6 t) (sw6 t) (st7 t) (sw7 t) (st8 t) (sw8 t) tq tk b s.dq s.dk s.dv k1 hd k3 k4 kl hw (qn t.val) hn
  isplitl [H7]
  · unfold owns; iexists _; isplitr; swap
    · iexact H7
    · ipureintro; exact runC_o7 c (crd t) (st0 t) (sw0 t) (st1 t) (sw1 t) (st2 t) (sw2 t) (st3 t) (sw3 t) (st4 t) (sw4 t) (st5 t) (sw5 t) (st6 t) (sw6 t) (st7 t) (sw7 t) (st8 t) (sw8 t) tq tk b s.dq s.dk s.dv k1 hd k3 k4 kl hw (qn t.val) hn
  isplitl [H8]
  · unfold owns; iexists _; isplitr; swap
    · iexact H8
    · ipureintro; exact runC_o8 c (crd t) (st0 t) (sw0 t) (st1 t) (sw1 t) (st2 t) (sw2 t) (st3 t) (sw3 t) (st4 t) (sw4 t) (st5 t) (sw5 t) (st6 t) (sw6 t) (st7 t) (sw7 t) (st8 t) (sw8 t) tq tk b s.dq s.dk s.dv k1 hd k3 k4 kl hw (qn t.val) hn
  isplitl [HS0]
  · unfold owns; iexists _; isplitr; swap
    · iexact HS0
    · ipureintro; exact runC_dk c (crd t) (st0 t) (sw0 t) (st1 t) (sw1 t) (st2 t) (sw2 t) (st3 t) (sw3 t) (st4 t) (sw4 t) (st5 t) (sw5 t) (st6 t) (sw6 t) (st7 t) (sw7 t) (st8 t) (sw8 t) tq tk b s.dq s.dk s.dv k1 hd k3 k4 kl hw (qn t.val) hn
  · unfold owns; iexists _; isplitr; swap
    · iexact HS1
    · ipureintro; exact runC_dv c (crd t) (st0 t) (sw0 t) (st1 t) (sw1 t) (st2 t) (sw2 t) (st3 t) (sw3 t) (st4 t) (sw4 t) (st5 t) (sw5 t) (st6 t) (sw6 t) (st7 t) (sw7 t) (st8 t) (sw8 t) tq tk b s.dq s.dk s.dv k1 hd k3 k4 kl hw (qn t.val) hn

set_option maxHeartbeats 6400000 in
/-- The body at a later diagonal pair, not the last one: from the inputs and the running gradients it leaves the running gradients with the pair's tile added. -/
theorem bodyD (c : Dev nD) (t : Fin (cfgA F).N) (h : onDiag t.val) (h0 : ¬t.val % 10 = 0) (hl : ¬onLast t.val) (b : Blocks F) (s : Grads F) (y7 : S1024x512.Idx → Elt F .f32) (y8 : S1024x256.Idx → Elt F .f32) (K : PUnit → sProp 𝕄) :
    iprop(inputs c t b ∗ outputs c t s y7 y8 ∗ (iprop(inputs c t b ∗ outputs c t (step t.val b s) y7 y8) -∗ K ⟨⟩))
      ⊢ wp frame (wpE (defs₀ (F := F)) Variants.none c none) Set.univ (bodyAt t) K := by
  have h' := h
  obtain ⟨hn, hw, w1, wd, w3, w4, wl⟩ := words (F := F) t
  have k1 : ¬k0_cond1 (crd t) = 1#1 := by
    rw [decide_eq_false h0] at w1; exact fun e => by rw [e] at w1; exact absurd w1 (by decide)
  have hd : isDiag (qw (crd t) (tq (F := F))) (kw (crd t) (tk (F := F))) := by
    rw [decide_eq_true h'] at wd; exact of_decide_eq_true wd
  have k3 : k0_cond3 (qw (crd t) (tq (F := F))) (kw (crd t) (tk (F := F))) = 1#1 := by
    rw [decide_eq_true h'] at w3; exact eq_of_beq w3
  have k4 : ¬k0_cond4 (qw (crd t) (tq (F := F))) (kw (crd t) (tk (F := F))) = 1#1 := by
    rw [decide_eq_true h'] at w4; exact fun e => by rw [e] at w4; exact absurd w4 (by decide)
  have kl : ¬isLast (qw (crd t) (tq (F := F))) := by
    rw [decide_eq_false hl] at wl; exact of_decide_eq_false wl
  have hs : step t.val b s = diag (qn t.val) b ⟨s.dq, k0_pay2, k0_pay3⟩ := by
    unfold step; rw [if_pos h', if_neg h0]
  rw [hs]
  unfold inputs outputs
  iintro ⟨⟨H0, H1, H2, H3, H4, H5, HT0, HT1⟩, ⟨H6, H7, H8, HS0, HS1⟩, HK⟩
  iapply ((runD c (crd t) (st0 t) (sw0 t) (st1 t) (sw1 t) (st2 t) (sw2 t) (st3 t) (sw3 t) (st4 t) (sw4 t) (st5 t) (sw5 t) (st6 t) (sw6 t) (st7 t) (sw7 t) (st8 t) (sw8 t) tq tk (x0 := b.q) (x1 := b.k) (x2 := b.v) (x3 := b.o) (x4 := b.d) (x5 := b.l) (y6 := s.dq) k1 hd k3 k4 kl hw).2.2.2 s.dk s.dv y7 y8 K)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [HT0]; · iexact HT0
  isplitl [HT1]; · iexact HT1
  isplitl [H6]; · iapply rep_of_owns; iexact H6
  isplitl [H7]; · iapply rep_of_owns; iexact H7
  isplitl [H8]; · iapply rep_of_owns; iexact H8
  isplitl [HS0]; · iapply rep_of_owns; iexact HS0
  isplitl [HS1]; · iapply rep_of_owns; iexact HS1
  iintro ⟨H0, H1, H2, H3, H4, H5, HT0, HT1, H6, H7, H8, HS0, HS1⟩
  iapply HK
  isplitl [H0 H1 H2 H3 H4 H5 HT0 HT1]
  · isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [HT0]; · iexact HT0
    iexact HT1
  isplitl [H6]
  · unfold owns; iexists _; isplitr; swap
    · iexact H6
    · ipureintro; exact runD_dq c (crd t) (st0 t) (sw0 t) (st1 t) (sw1 t) (st2 t) (sw2 t) (st3 t) (sw3 t) (st4 t) (sw4 t) (st5 t) (sw5 t) (st6 t) (sw6 t) (st7 t) (sw7 t) (st8 t) (sw8 t) tq tk b s.dq k1 hd k3 k4 kl hw (qn t.val) hn
  isplitl [H7]; · iapply owns_of_rep; iexact H7
  isplitl [H8]; · iapply owns_of_rep; iexact H8
  isplitl [HS0]
  · unfold owns; iexists _; isplitr; swap
    · iexact HS0
    · ipureintro; exact runD_dk c (crd t) (st0 t) (sw0 t) (st1 t) (sw1 t) (st2 t) (sw2 t) (st3 t) (sw3 t) (st4 t) (sw4 t) (st5 t) (sw5 t) (st6 t) (sw6 t) (st7 t) (sw7 t) (st8 t) (sw8 t) tq tk b s.dq k1 hd k3 k4 kl hw (qn t.val) hn
  · unfold owns; iexists _; isplitr; swap
    · iexact HS1
    · ipureintro; exact runD_dv c (crd t) (st0 t) (sw0 t) (st1 t) (sw1 t) (st2 t) (sw2 t) (st3 t) (sw3 t) (st4 t) (sw4 t) (st5 t) (sw5 t) (st6 t) (sw6 t) (st7 t) (sw7 t) (st8 t) (sw8 t) tq tk b s.dq k1 hd k3 k4 kl hw (qn t.val) hn

set_option maxHeartbeats 6400000 in
/-- The body at the last diagonal pair: from the inputs and the running gradients it leaves the running gradients with the pair's tile added. -/
theorem bodyE (c : Dev nD) (t : Fin (cfgA F).N) (h : onDiag t.val) (h0 : ¬t.val % 10 = 0) (hl : onLast t.val) (b : Blocks F) (s : Grads F) (y7 : S1024x512.Idx → Elt F .f32) (y8 : S1024x256.Idx → Elt F .f32) (K : PUnit → sProp 𝕄) :
    iprop(inputs c t b ∗ outputs c t s y7 y8 ∗ (iprop(inputs c t b ∗ outputs c t (step t.val b s) ((step t.val b s).dk) ((step t.val b s).dv)) -∗ K ⟨⟩))
      ⊢ wp frame (wpE (defs₀ (F := F)) Variants.none c none) Set.univ (bodyAt t) K := by
  have h' := h
  obtain ⟨hn, hw, w1, wd, w3, w4, wl⟩ := words (F := F) t
  have k1 : ¬k0_cond1 (crd t) = 1#1 := by
    rw [decide_eq_false h0] at w1; exact fun e => by rw [e] at w1; exact absurd w1 (by decide)
  have hd : isDiag (qw (crd t) (tq (F := F))) (kw (crd t) (tk (F := F))) := by
    rw [decide_eq_true h'] at wd; exact of_decide_eq_true wd
  have k3 : k0_cond3 (qw (crd t) (tq (F := F))) (kw (crd t) (tk (F := F))) = 1#1 := by
    rw [decide_eq_true h'] at w3; exact eq_of_beq w3
  have k4 : ¬k0_cond4 (qw (crd t) (tq (F := F))) (kw (crd t) (tk (F := F))) = 1#1 := by
    rw [decide_eq_true h'] at w4; exact fun e => by rw [e] at w4; exact absurd w4 (by decide)
  have kl : isLast (qw (crd t) (tq (F := F))) := by
    rw [decide_eq_true hl] at wl; exact of_decide_eq_true wl
  have hs : step t.val b s = diag (qn t.val) b ⟨s.dq, k0_pay2, k0_pay3⟩ := by
    unfold step; rw [if_pos h', if_neg h0]
  rw [hs]
  unfold inputs outputs
  iintro ⟨⟨H0, H1, H2, H3, H4, H5, HT0, HT1⟩, ⟨H6, H7, H8, HS0, HS1⟩, HK⟩
  iapply ((runE c (crd t) (st0 t) (sw0 t) (st1 t) (sw1 t) (st2 t) (sw2 t) (st3 t) (sw3 t) (st4 t) (sw4 t) (st5 t) (sw5 t) (st6 t) (sw6 t) (st7 t) (sw7 t) (st8 t) (sw8 t) tq tk (x0 := b.q) (x1 := b.k) (x2 := b.v) (x3 := b.o) (x4 := b.d) (x5 := b.l) (y6 := s.dq) k1 hd k3 k4 kl hw).2.2.2.2.2 s.dk s.dv y7 y8 K)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [HT0]; · iexact HT0
  isplitl [HT1]; · iexact HT1
  isplitl [H6]; · iapply rep_of_owns; iexact H6
  isplitl [H7]; · iapply rep_of_owns; iexact H7
  isplitl [H8]; · iapply rep_of_owns; iexact H8
  isplitl [HS0]; · iapply rep_of_owns; iexact HS0
  isplitl [HS1]; · iapply rep_of_owns; iexact HS1
  iintro ⟨H0, H1, H2, H3, H4, H5, HT0, HT1, H6, H7, H8, HS0, HS1⟩
  iapply HK
  isplitl [H0 H1 H2 H3 H4 H5 HT0 HT1]
  · isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [HT0]; · iexact HT0
    iexact HT1
  isplitl [H6]
  · unfold owns; iexists _; isplitr; swap
    · iexact H6
    · ipureintro; exact runE_dq c (crd t) (st0 t) (sw0 t) (st1 t) (sw1 t) (st2 t) (sw2 t) (st3 t) (sw3 t) (st4 t) (sw4 t) (st5 t) (sw5 t) (st6 t) (sw6 t) (st7 t) (sw7 t) (st8 t) (sw8 t) tq tk b s.dq k1 hd k3 k4 kl hw (qn t.val) hn
  isplitl [H7]
  · unfold owns; iexists _; isplitr; swap
    · iexact H7
    · ipureintro; exact runE_o7 c (crd t) (st0 t) (sw0 t) (st1 t) (sw1 t) (st2 t) (sw2 t) (st3 t) (sw3 t) (st4 t) (sw4 t) (st5 t) (sw5 t) (st6 t) (sw6 t) (st7 t) (sw7 t) (st8 t) (sw8 t) tq tk b s.dq k1 hd k3 k4 kl hw (qn t.val) hn
  isplitl [H8]
  · unfold owns; iexists _; isplitr; swap
    · iexact H8
    · ipureintro; exact runE_o8 c (crd t) (st0 t) (sw0 t) (st1 t) (sw1 t) (st2 t) (sw2 t) (st3 t) (sw3 t) (st4 t) (sw4 t) (st5 t) (sw5 t) (st6 t) (sw6 t) (st7 t) (sw7 t) (st8 t) (sw8 t) tq tk b s.dq k1 hd k3 k4 kl hw (qn t.val) hn
  isplitl [HS0]
  · unfold owns; iexists _; isplitr; swap
    · iexact HS0
    · ipureintro; exact runE_dk c (crd t) (st0 t) (sw0 t) (st1 t) (sw1 t) (st2 t) (sw2 t) (st3 t) (sw3 t) (st4 t) (sw4 t) (st5 t) (sw5 t) (st6 t) (sw6 t) (st7 t) (sw7 t) (st8 t) (sw8 t) tq tk b s.dq k1 hd k3 k4 kl hw (qn t.val) hn
  · unfold owns; iexists _; isplitr; swap
    · iexact HS1
    · ipureintro; exact runE_dv c (crd t) (st0 t) (sw0 t) (st1 t) (sw1 t) (st2 t) (sw2 t) (st3 t) (sw3 t) (st4 t) (sw4 t) (st5 t) (sw5 t) (st6 t) (sw6 t) (st7 t) (sw7 t) (st8 t) (sw8 t) tq tk b s.dq k1 hd k3 k4 kl hw (qn t.val) hn

end Cert.KernelIdeal.Attn

end
-- ==== Proof.Attn.Launch.lean ====
/- The run of the attention backward kernel: every final state, with its arrays' contents and every counter at zero. -/
module

public import proofs.«01_k».proof.Proof.Attn.Body

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c.tc : Thread nD τ).loc b))

/-- The body at any point, from any running gradients. -/
theorem body_any (c : Dev nD) (t : Fin (cfgA F).N) (b : Blocks F) (s : Grads F) (y7 : S1024x512.Idx → Elt F .f32) (y8 : S1024x256.Idx → Elt F .f32) (K : PUnit → sProp 𝕄) :
    iprop(inputs c t b ∗ outputs c t s y7 y8
        ∗ (iprop(inputs c t b ∗ outputs c t (step t.val b s) (if onLast t.val then (step t.val b s).dk else y7) (if onLast t.val then (step t.val b s).dv else y8)) -∗ K ⟨⟩))
      ⊢ wp frame (wpE (defs₀ (F := F)) Variants.none c none) Set.univ (bodyAt t) K := by
  by_cases h0 : t.val % 10 = 0
  · rw [if_neg (by unfold onLast; omega), if_neg (by unfold onLast; omega)]
    exact bodyA c t h0 b s y7 y8 K
  · by_cases hl : onLast t.val <;> by_cases h : onDiag t.val
    · rw [if_pos hl, if_pos hl]; exact bodyE c t h h0 hl b s y7 y8 K
    · rw [if_pos hl, if_pos hl]; exact bodyC c t h hl b s y7 y8 K
    · rw [if_neg hl, if_neg hl]; exact bodyD c t h h0 hl b s y7 y8 K
    · rw [if_neg hl, if_neg hl]; exact bodyB c t h hl b s y7 y8 K

/-- The step from what the body finds is the step of the running gradients. -/
theorem step_found (c : Dev nD) (t : Fin (cfgA F).N) {d6 : S4096x512.Idx → Elt F .f32} {s0 : S1024x512.Idx → Elt F .f32} {s1 : S1024x256.Idx → Elt F .f32}
    (hs : ¬t.val % 10 = 0 → s0 = (traj V c t.val).dk ∧ s1 = (traj V c t.val).dv) :
    step t.val (blks V c t) ⟨if t.val % 10 = 0 then d6 else (traj V c t.val).dq, s0, s1⟩ = traj V c (t.val + 1) := by
  rw [traj_succ]
  by_cases h : t.val % 10 = 0
  · exact step_first h _ _ _
  · obtain ⟨rfl, rfl⟩ := hs h
    rw [if_neg h]

set_option maxHeartbeats 6400000 in
/-- The pipeline's obligation of the body at point `t`. -/
theorem sound (c : Dev nD) (t : Fin (cfgA F).N) :
    iprop((dats V 0 c).Φ t.castSucc ∗ (dats V 0 c).owesAt () t.castSucc
        ∗ (∃ d, owns (c : Thread nD τ) (st0 t) fullShare ((dats V 0 c).before (0 : Fin 9) t d))
        ∗ (∃ d, owns (c : Thread nD τ) (st1 t) fullShare ((dats V 0 c).before (1 : Fin 9) t d))
        ∗ (∃ d, owns (c : Thread nD τ) (st2 t) fullShare ((dats V 0 c).before (2 : Fin 9) t d))
        ∗ (∃ d, owns (c : Thread nD τ) (st3 t) fullShare ((dats V 0 c).before (3 : Fin 9) t d))
        ∗ (∃ d, owns (c : Thread nD τ) (st4 t) fullShare ((dats V 0 c).before (4 : Fin 9) t d))
        ∗ (∃ d, owns (c : Thread nD τ) (st5 t) fullShare ((dats V 0 c).before (5 : Fin 9) t d))
        ∗ (∃ d, owns (c : Thread nD τ) (st6 t) fullShare ((dats V 0 c).before (6 : Fin 9) t d))
        ∗ (∃ d, owns (c : Thread nD τ) (st7 t) fullShare ((dats V 0 c).before (7 : Fin 9) t d))
        ∗ (∃ d, owns (c : Thread nD τ) (st8 t) fullShare ((dats V 0 c).before (8 : Fin 9) t d)))
      ⊢ wp frame (wpE (defs₀ (F := F)) Variants.none c none) Set.univ (bodyAt t) fun _ =>
          iprop((dats V 0 c).Φ t.succ ∗ (dats V 0 c).owesAt () t.succ
            ∗ bigSep Finset.univ fun w : Fin (cfgA F).W =>
                match (cfgA F).idle w ((cfgA F).grid.coords t) with
                | true =>
                  match ((cfgA F).win w).flush t with
                  | false => iprop(∃ d, owns (c : Thread nD τ) (((cfgA F).win w).stage ((cfgA F).slots t w)) fullShare ((dats V 0 c).before w t d))
                  | true => owns (c : Thread nD τ) (((cfgA F).win w).stage ((cfgA F).slots t w)) fullShare ((dats V 0 c).after w t)
                | false => owns (c : Thread nD τ) (((cfgA F).win w).stage ((cfgA F).slots t w)) fullShare ((dats V 0 c).after w t)) := by
  rw [bigSep_W0]
  obtain ⟨i6, f6, i7, f7, i8, f8⟩ := sched (F := F) t
  rewrite [i6, i7]
  try rewrite [i8]
  rewrite [f7]
  try rewrite [f8]
  rewrite [show (dats V 0 c).Φ t.succ = Phi V c t.succ from rfl, show (dats V 0 c).Φ t.castSucc = Phi V c t.castSucc from rfl,
    show (dats V 0 c).owesAt () t.succ = (dats V 0 c).owesAt () t.castSucc from rfl]
  simp only [before0, before1, before2, before3, before4, before5, before6]
  unfold Phi
  simp only [Fin.val_castSucc, Fin.val_succ]
  iintro ⟨⟨⟨%s0, %s1, %hs, HS0, HS1⟩, HT0, HT1, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_any c t (blks V c t) ⟨if t.val % 10 = 0 then d6 else (traj V c t.val).dq, s0, s1⟩ ((dats V 0 c).before (7 : Fin 9) t d7) ((dats V 0 c).before (8 : Fin 9) t d8) _)
  rw [step_found V c t hs]
  unfold inputs outputs
  isplitl [H0 H1 H2 H3 H4 H5 HT0 HT1]
  · isplitl [H0]; · iexact H0
    isplitl [H1]; · iexact H1
    isplitl [H2]; · iexact H2
    isplitl [H3]; · iexact H3
    isplitl [H4]; · iexact H4
    isplitl [H5]; · iexact H5
    isplitl [HT0]; · iexact HT0
    iexact HT1
  isplitl [H6 H7 H8 HS0 HS1]
  · isplitl [H6]; · iexact H6
    isplitl [H7]; · iexact H7
    isplitl [H8]; · iexact H8
    isplitl [HS0]; · iexact HS0
    iexact HS1
  iintro ⟨⟨H0, H1, H2, H3, H4, H5, HT0, HT1⟩, ⟨H6, H7, H8, HS0, HS1⟩⟩
  isplitl [HS0 HS1 HT0 HT1 HP]
  · isplitl [HS0 HS1]
    · iexists _; iexists _; isplitr; swap
      · isplitl [HS0]; · iexact HS0
        iexact HS1
      · ipureintro; exact fun _ => ⟨rfl, rfl⟩
    isplitl [HT0]; · iexact HT0
    isplitl [HT1]; · iexact HT1
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  by_cases hl : onLast t.val
  · simp only [hl, decide_true, Bool.not_true, ↓reduceIte]
    isplitl [H7]; · iexact H7
    iexact H8
  · simp only [hl, decide_false, Bool.not_false, ↓reduceIte]
    isplitl [H7]
    · iexists d7; iexact H7
    · iexists d8; iexact H8

/-- The obligation in the pipeline's form. -/
theorem obligation (c : Dev nD) : BodyObligation (dats V 0 c) (defs₀ (F := F)) Variants.none () Set.univ := fun t => by
  rw [bigSep_W0]
  exact sound V c t

/-- Every window holds its array whole. -/
theorem share_eq (c : Dev nD) (w : Fin (cfgA F).W) : (dats V 0 c).share w = fullShare := by unfold Dat.share; split <;> rfl

/-- The tables as the launch hands them over, one by one. -/
theorem tables_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- The launch gives the invariant before the first point. -/
theorem enter (c : Dev nD) :
    iprop(Pipeline.ΦA spec0 c ∗ Pipeline.ΦT pre0 (adm (F := F)).1 c) ⊢ (dats V 0 c).Φ 0 := by
  rw [show (dats V 0 c).Φ 0 = Phi V c 0 from rfl]
  unfold Pipeline.ΦA Pipeline.ΦT Phi
  rw [tables_eq, scopedRest0_eq]
  iintro ⟨⟨⟨⟨%f0, HS0⟩, ⟨%f1, HS1⟩⟩, HP⟩, HT0, HT1⟩
  isplitl [HS0 HS1]
  · iexists f0; iexists f1; isplitr; swap
    · rw [owns_whole, owns_whole]
      isplitl [HS0]; · iexact HS0
      iexact HS1
    · ipureintro; exact fun h => absurd rfl h
  isplitl [HT0]; · iexact HT0
  isplitl [HT1]; · iexact HT1
  iexact HP

/-- The invariant after the last point gives the scratch buffers back. -/
theorem leave (c : Dev nD) : (dats V 0 c).Φ (Fin.last (cfgA F).N) ⊢ Pipeline.ΦA spec0 c := by
  rw [show (dats V 0 c).Φ (Fin.last (cfgA F).N) = Phi V c (Fin.last _) from rfl]
  unfold Pipeline.ΦA Phi
  rw [scopedRest0_eq]
  simp only [owns_whole]
  iintro ⟨⟨%s0, %s1, -, HS0, HS1⟩, -, -, HP⟩
  isplitl [HS0 HS1]
  · isplitl [HS0]
    · iexists s0; iexact HS0
    · iexists s1; iexact HS1
  iexact HP

/-- The host operations before the kernel, in order. -/
abbrev hostOps (F : FTy → Type) [FloatOps F] : List (List (HloOp τ sig (Elt F))) := [hostOps0, hostOps0_1, hostOps0_2]

/-- A core's buffers when the kernel starts: what the host operations make of the memory `m`. -/
abbrev atEntry (m : (ℓ : Loc nD τ sig) → Buf (Elt F) ℓ) (c : Dev nD) (b : Ref sig .tc) : Buf (Elt F) ((c.tc : Thread nD τ).loc b) :=
  StableHlo.after (hostOps F).flatten (fun b => m (c, b)) b

set_option maxHeartbeats 6400000 in
/-- The first table's contents when the kernel starts. -/
theorem entry_q (m : (ℓ : Loc nD τ sig) → Buf (Elt F) ℓ) (c : Dev nD) : atEntry m c main_c = tq := by
  simp only [atEntry, hostOps, hostOps0, hostOps0_1, hostOps0_2, List.flatten_cons, List.flatten_nil, List.cons_append, List.nil_append, List.append_nil,
    StableHlo.TRef.nullary, StableHlo.TRef.ternary, StableHlo.TRef.unary, StableHlo.TRef.toBuf, StableHlo.TRef.ofBuf, cast_eq]
  after_results_simp <;> rfl

set_option maxHeartbeats 6400000 in
/-- The second table's contents when the kernel starts. -/
theorem entry_k (m : (ℓ : Loc nD τ sig) → Buf (Elt F) ℓ) (c : Dev nD) : atEntry m c main_c_0 = tk := by
  simp only [atEntry, hostOps, hostOps0, hostOps0_1, hostOps0_2, List.flatten_cons, List.flatten_nil, List.cons_append, List.nil_append, List.append_nil,
    StableHlo.TRef.nullary, StableHlo.TRef.ternary, StableHlo.TRef.unary, StableHlo.TRef.toBuf, StableHlo.TRef.ofBuf, cast_eq]
  after_results_simp <;> rfl

/-- No host operation draws on an outside choice. -/
theorem hostOps_fresh : (hostOps F).Forall fun ops => ops.Forall fun op => op.fresh = ∅ := by
  simp only [List.Forall]; refine ⟨?_, ?_, ?_⟩ <;> (repeat' constructor)

set_option backward.isDefEq.respectTransparency.types false in
set_option maxHeartbeats 6400000 in
/-- From any memory with zero counters every weakly fair execution of @main terminates, and every final state has each array
    of the kernel at the computed contents, every other buffer as it was at the kernel's start, and every counter at zero. -/
theorem run_main (m : (ℓ : Loc nD τ sig) → Buf (Elt F) ℓ) (ρ : Dev nD → PrngReg) :
    θ_run (defs (F := F)) (onTc (τ := τ) (main (F := F))) ⟨m, fun _ => 0, ρ⟩
      (fun r => Pipeline.FramePost (pcs F) (dats (atEntry m)) 0 (atEntry m) r ∧ r.2.sem = fun _ => 0) :=
  Pipeline.θ_run_frameP_track (pcfgs (F := F)) (fun _ => adm) (dats (atEntry m)) (0 : Fin 1) (launch0 (F := F)) defs₀ Variants.none m ρ main
    (hbody := fun c => (obligation (atEntry m) c).loose)
    (hshare := share_eq (atEntry m)) (howed := fun _ _ => rfl)
    (V := atEntry m)
    (hmain := Pipeline.hmainP_prefixes (pcfgs (F := F)) 0 defs₀ Variants.none m main (hostOps F) ⟨hostOps0_sub, hostOps0_1_sub, hostOps0_2_sub⟩ hostOps_fresh main_chain)
    (hA := fun _ _ => rfl)
    (hpf := fun c k => by
      fin_cases k
      · exact entry_q m c
      · exact entry_k m c)
    (hin := enter (atEntry m)) (hout := leave (atEntry m))
    (Q' := fun r => Pipeline.FramePost (pcs F) (dats (atEntry m)) 0 (atEntry m) r ∧ r.2.sem = fun _ => 0) (hQ' := fun _ h => h)

end Cert.KernelIdeal.Attn

end
-- ==== Proof.Attn.Frames.lean ====
/- The frames of the kernel and of its idealization: each runs, leaves its arguments and ends with every counter at zero. -/
module

public import proofs.«01_k».proof.Proof.Gen.KernelIdeal
public import proofs.«01_k».proof.Proof.Gen.Kernel
public import proofs.«01_k».proof.Proof.Attn.Launch
public import Idealize.ShloMosaic.PureOps.BitExact

@[expose] public section

set_option maxRecDepth 16384

noncomputable section

namespace Cert.Proof

open Idealize.ShloMosaic Idealize.SL.Sem
open Idealize.ShloMosaic.TcCoe

section
variable {F : FTy → Type} [FloatOps F]
open Cert.KernelIdeal Cert.KernelIdeal.Gen Cert.KernelIdeal.Attn

set_option maxHeartbeats 6400000 in
/-- No host operation writes an argument. -/
theorem entry_arg (m : (ℓ : Loc nD τ sig) → Buf (Elt F) ℓ) (c : Dev nD) :
    atEntry m c main_arg0 = m ((c.tc : Thread nD τ).loc main_arg0) ∧ atEntry m c main_arg1 = m ((c.tc : Thread nD τ).loc main_arg1)
    ∧ atEntry m c main_arg2 = m ((c.tc : Thread nD τ).loc main_arg2) ∧ atEntry m c main_arg3 = m ((c.tc : Thread nD τ).loc main_arg3) := by
  refine ⟨?_, ?_, ?_, ?_⟩ <;>
  · simp only [atEntry, hostOps, hostOps0, hostOps0_1, hostOps0_2, List.flatten_cons, List.flatten_nil, List.cons_append, List.nil_append, List.append_nil,
      StableHlo.TRef.nullary, StableHlo.TRef.ternary, StableHlo.TRef.unary, StableHlo.TRef.toBuf, StableHlo.TRef.ofBuf, cast_eq]
    after_results_simp <;> rfl

set_option maxHeartbeats 6400000 in
/-- The kernel's run, read at its arguments. -/
theorem run_args (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).1 (0 : Fin 9)).trans (((dats (atEntry m) 0 c).arrAt_in (0 : Fin 9) rfl _).trans (entry_arg m c).1),
      ((h.1 c).1 (1 : Fin 9)).trans (((dats (atEntry m) 0 c).arrAt_in (1 : Fin 9) rfl _).trans (entry_arg m c).2.1),
      ((h.1 c).1 (2 : Fin 9)).trans (((dats (atEntry m) 0 c).arrAt_in (2 : Fin 9) rfl _).trans (entry_arg m c).2.2.1),
      ((h.1 c).1 (4 : Fin 9)).trans (((dats (atEntry m) 0 c).arrAt_in (4 : Fin 9) rfl _).trans (entry_arg m c).2.2.2)⟩, h.2⟩)
    (run_main m ρ)

end

set_option maxHeartbeats 12800000 in
set_option smartUnfolding false in
/-- The kernel runs, leaves its arguments and ends with every counter at zero. -/
theorem kernel_args (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0) :=
  (θ_run Cert.KernelIdeal.defs _ _).mono (fun _ h => h) (run_args (F := Bits) m ρ)

end Cert.Proof

end
-- ==== Proof.Attn.Model.lean ====
/- The attention and its gradients over the reals: scores, weights, outputs and what they are the gradients of. -/
module

public import Mathlib.Analysis.SpecialFunctions.Log.Basic
public import Idealize.ShloMosaic.PureOps.Ideal.Laws

@[expose] public section

noncomputable section

namespace Cert.Grad

open Idealize.ShloMosaic

/-! ### Extended reals that are reals -/

/-- A sum of reals, taken among the extended reals. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The pattern of negative infinity. -/
theorem ofBits_bot : Ideal.ofBits .f32 0xFF800000#32 = ⊥ := by
  simp [Ideal.ofBits, Ideal.ieee]

/-- The pattern of positive infinity. -/
theorem ofBits_top : Ideal.ofBits .f32 0x7F800000#32 = ⊤ := by
  simp [Ideal.ofBits, Ideal.ieee]

/-- The exponential of a real. -/
theorem exp_coe (r : ℝ) : Ideal.exp (r : EReal) = (Real.exp r : ℝ) := rfl

/-- The exponential of negative infinity. -/
theorem exp_bot : Ideal.exp ⊥ = 0 := rfl

/-- The logarithm of a positive real. -/
theorem log_coe (r : ℝ) (h : 0 < r) : Ideal.log (r : EReal) = (Real.log r : ℝ) := by
  show (if r ≤ 0 then (⊥ : EReal) else (Real.log r : EReal)) = _
  rw [if_neg (not_le.2 h)]

/-- A quotient by a real that is not zero. -/
theorem div_coe (a b : ℝ) (h : b ≠ 0) : Ideal.div (a : EReal) (b : EReal) = ((a / b : ℝ) : EReal) := by
  unfold Ideal.div
  rw [if_neg (by exact_mod_cast h), div_eq_mul_inv, EReal.coe_mul, EReal.coe_inv]

/-- A choice by a word comparison of two positions below 2³¹. -/
theorem cmpi_sge (a b : ℕ) (ha : a < 2 ^ 31) (hb : b < 2 ^ 31) : IntOp.cmpi .sge (BitVec.ofNat 32 a) (BitVec.ofNat 32 b) = if b ≤ a then 1#1 else 0#1 := by
  have e : IntOp.cmpi .sge (BitVec.ofNat 32 a) (BitVec.ofNat 32 b) = BitVec.ofBool ((BitVec.ofNat 32 b).sle (BitVec.ofNat 32 a)) := rfl
  have hn : ∀ n < 2 ^ 31, (BitVec.ofNat 32 n).toInt = n := fun n hn => by
    rw [BitVec.toInt_eq_toNat_of_lt (by rw [BitVec.toNat_ofNat]; omega), BitVec.toNat_ofNat, Nat.mod_eq_of_lt (by omega)]
  rw [e, BitVec.sle_eq_decide, hn a ha, hn b hb]
  by_cases h : b ≤ a <;> simp [h]

/-- A masked choice. -/
theorem select_sge {α : Type} (a b : ℕ) (ha : a < 2 ^ 31) (hb : b < 2 ^ 31) (x y : α) :
    Scalar.select (IntOp.cmpi .sge (BitVec.ofNat 32 a) (BitVec.ofNat 32 b)) x y = if b ≤ a then x else y := by
  rw [cmpi_sge a b ha hb]
  by_cases h : b ≤ a <;> simp [h, Scalar.select]

/-! ### The attention over the reals -/

/-- A head's column among 2048. -/
abbrev col (h : Fin 8) (x : Fin 256) : Fin 2048 := ⟨h.val * 256 + x.val, by omega⟩

/-- A head's column among 1024. -/
abbrev vcol (h : Fin 8) (x : Fin 128) : Fin 1024 := ⟨h.val * 128 + x.val, by omega⟩

/-- The head of a column among 2048. -/
abbrev hd (x : Fin 2048) : Fin 8 := ⟨x.val / 256, by omega⟩

/-- The head of a column among 1024. -/
abbrev vhd (y : Fin 1024) : Fin 8 := ⟨y.val / 128, by omega⟩

/-- Queries, keys, values and output gradients, and a number to subtract from each row of scores. -/
structure Data where
  q : Fin 4096 → Fin 2048 → ℝ
  k : Fin 4096 → Fin 2048 → ℝ
  v : Fin 4096 → Fin 1024 → ℝ
  d : Fin 4096 → Fin 1024 → ℝ
  top : Fin 8 → Fin 4096 → ℝ

variable (a : Data) (h : Fin 8) (i j : Fin 4096)

/-- A score. -/
def score : ℝ := ∑ x : Fin 256, a.q i (col h x) * a.k j (col h x)

/-- A masked exponential. -/
def ex : ℝ := if j ≤ i then Real.exp (score a h i j - a.top h i) else 0

/-- A row's sum. -/
def tot : ℝ := ∑ j, ex a h i j

/-- A weight. -/
def wt : ℝ := ex a h i j / tot a h i

/-- The logarithm of a row's sum of exponentials of scores. -/
def lse : ℝ := a.top h i + Real.log (tot a h i)

/-- An output. -/
def out (y : Fin 1024) : ℝ := ∑ j, a.v j y * wt a (vhd y) i j

/-- The gradient of a weight. -/
def dwt : ℝ := ∑ x : Fin 128, a.d i (vcol h x) * a.v j (vcol h x)

/-- The gradient of a score. -/
def dsc : ℝ := wt a h i j * (dwt a h i j - ∑ j', dwt a h i j' * wt a h i j')

/-- The gradient of a query. -/
def dq (x : Fin 2048) : ℝ := ∑ j, dsc a (hd x) i j * a.k j x

/-- The gradient of a key. -/
def dk (x : Fin 2048) : ℝ := ∑ i, dsc a (hd x) i j * a.q i x

/-- The gradient of a value. -/
def dv (y : Fin 1024) : ℝ := ∑ i, a.d i y * wt a (vhd y) i j

/-- An exponential is not negative. -/
theorem ex_nonneg : 0 ≤ ex a h i j := by
  unfold ex; split_ifs; exacts [(Real.exp_pos _).le, le_rfl]

/-- A row's sum is positive. -/
theorem tot_pos : 0 < tot a h i :=
  Finset.sum_pos' (fun j _ => ex_nonneg a h i j) ⟨i, Finset.mem_univ _, by unfold ex; rw [if_pos le_rfl]; exact Real.exp_pos _⟩

/-- A row's sum is not zero. -/
theorem tot_ne : tot a h i ≠ 0 := (tot_pos a h i).ne'

/-- A weight is the exponential of a score less the logarithm of its row's sum. -/
theorem exp_lse (hij : j ≤ i) : Real.exp (score a h i j - lse a h i) = wt a h i j := by
  unfold lse wt ex
  rw [if_pos hij, ← sub_sub, Real.exp_sub, Real.exp_log (tot_pos a h i)]

/-- A masked weight. -/
theorem wt_masked (hij : ¬ j ≤ i) : wt a h i j = 0 := by
  unfold wt ex; rw [if_neg hij, zero_div]

/-- The gradient of a masked score. -/
theorem dsc_masked (hij : ¬ j ≤ i) : dsc a h i j = 0 := by
  unfold dsc; rw [wt_masked a h i j hij, zero_mul]

/-- The head of a head's column of values. -/
theorem vhd_vcol (x : Fin 128) : vhd (vcol h x) = h := Fin.ext (by show (h.val * 128 + x.val) / 128 = h.val; omega)

/-- The head of a head's column. -/
theorem hd_col (x : Fin 256) : hd (col h x) = h := Fin.ext (by show (h.val * 256 + x.val) / 256 = h.val; omega)

/-- A row's gradients of weights, weighted, from the outputs. -/
theorem delta_out : ∑ x : Fin 128, a.d i (vcol h x) * out a i (vcol h x) = ∑ j', dwt a h i j' * wt a h i j' := by
  unfold out dwt
  simp only [vhd_vcol, Finset.mul_sum, Finset.sum_mul]
  rw [Finset.sum_comm]
  exact Finset.sum_congr rfl fun j' _ => Finset.sum_congr rfl fun x _ => by ring

/-- The gradient of a score as the plain derivative of a quotient gives it. -/
theorem dsc_eq : dsc a h i j = (dwt a h i j / tot a h i + -∑ j', dwt a h i j' * (1 / (tot a h i * tot a h i)) * ex a h i j') * ex a h i j := by
  have e : ∑ j', dwt a h i j' * (1 / (tot a h i * tot a h i)) * ex a h i j' = (∑ j', dwt a h i j' * wt a h i j') / tot a h i := by
    rw [Finset.sum_div]
    refine Finset.sum_congr rfl fun j' _ => ?_
    unfold wt
    have := tot_ne a h i
    field_simp
  rw [e]
  unfold dsc wt
  have := tot_ne a h i
  field_simp
  ring

end Cert.Grad

end
-- ==== Proof.Attn.Stages.lean ====
/- The reference's values, stage by stage, and what each stage holds at an index. -/
module

public import proofs.«01_k».proof.ReferenceIdeal
public import proofs.«01_k».proof.Proof.Gen.ReferenceIdeal
public import proofs.«01_k».proof.Proof.Attn.Model
public import Idealize.ShloMosaic.Lib.Pointwise
public import Idealize.ShloMosaic.Lib.Tactic.CleanTypes

@[expose] public section

set_option maxRecDepth 16384

noncomputable section

namespace Cert.Grad

open Cert.ReferenceIdeal Cert.ReferenceIdeal.Gen
open Idealize.ShloMosaic

/-- An array of extended reals. -/
abbrev Arr (s : Shape) := s.Idx → EReal

/-- Whether a query may see a key, for every head. -/
def maskArr : IVec S8x4096x4096 1 :=
  broadcastInDim S8x4096x4096 ![1, 2] bcast_S4096x4096_S8x4096x4096_1_2 (cmpi .sge (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0))))

/-- Queries or keys, by head. -/
def headsArr (x : FVec Ideal S4096x2048 .bf16) : FVec Ideal S4096x8x256 .f32 :=
  shapeCast _ (extf .f32 x bitsLt_bf16_f32) shapeCasts_S4096x2048_S4096x8x256

/-- Values, by head. -/
def valuesArr (x : FVec Ideal S4096x1024 .bf16) : FVec Ideal S4096x8x128 .f32 :=
  shapeCast _ (extf .f32 x bitsLt_bf16_f32) shapeCasts_S4096x1024_S4096x8x128

/-- Output gradients, by head, with the positions last. -/
def outgradArr (x : FVec Ideal S4096x1024 .bf16) : FVec Ideal S8x128x4096 .f32 :=
  transpose S8x128x4096 [1, 2, 0] (shapeCast S4096x8x128 (extf .f32 x bitsLt_bf16_f32) shapeCasts_S4096x1024_S4096x8x128) transposes_S4096x8x128_S8x128x4096_1_2_0

/-- The masked scores. -/
def scoreArr (q k : FVec Ideal S4096x2048 .bf16) : FVec Ideal S8x4096x4096 .f32 :=
  select maskArr (Host.dotGeneral dot_S4096x8x256_S4096x8x256_S8x4096x4096_2_2_0_0_1_1 none (headsArr q) (headsArr k)) (broadcastInDim S8x4096x4096 ![] bcast_S_S8x4096x4096 (id (constant S_ .f32 0xFF800000#32)))

/-- The greatest value of each row. -/
def rowTop (s : FVec Ideal S8x4096x4096 .f32) : FVec Ideal S8x4096 .f32 :=
  Host.reduce FloatOps.maximumf s (constant S_ .f32 0xFF800000#32) reducesTo_S8x4096x4096_S8x4096_d2 h_S_

/-- The greatest score of each row. -/
def topArr (s : FVec Ideal S8x4096x4096 .f32) : FVec Ideal S8x4096 .f32 :=
  maximumf (broadcastInDim S8x4096 ![] bcast_S_S8x4096 (constant S_ .f32 0xFF800000#32)) (rowTop s)

/-- The exponentials of the scores above the greatest. -/
def expArr (s : FVec Ideal S8x4096x4096 .f32) (t : FVec Ideal S8x4096 .f32) : FVec Ideal S8x4096x4096 .f32 :=
  Host.exp (subf s (broadcastInDim S8x4096x4096 ![0, 1, 2] bcast_S8x4096x1_S8x4096x4096_0_1_2 (broadcastInDim S8x4096x1 ![0, 1] bcast_S8x4096_S8x4096x1_0_1 t)))

/-- Each row's sum. -/
def sumArr (e : FVec Ideal S8x4096x4096 .f32) : FVec Ideal S8x4096x1 .f32 :=
  broadcastInDim S8x4096x1 ![0, 1] bcast_S8x4096_S8x4096x1_0_1 (Host.reduceAdd e (constant S_ .f32 0x00000000#32) reducesTo_S8x4096x4096_S8x4096_d2 h_S_)

/-- The attention's weights. -/
def weightArr (e : FVec Ideal S8x4096x4096 .f32) (l : FVec Ideal S8x4096x1 .f32) : FVec Ideal S8x4096x4096 .f32 :=
  Host.divf e (broadcastInDim S8x4096x4096 ![0, 1, 2] bcast_S8x4096x1_S8x4096x4096_0_1_2 l)

/-- The gradients of the weights. -/
def dweightArr (v d : FVec Ideal S4096x1024 .bf16) : FVec Ideal S8x4096x4096 .f32 :=
  Host.dotGeneral dot_S8x128x4096_S4096x8x128_S8x4096x4096_1_2_2_0_0_1 none (outgradArr d) (valuesArr v)

/-- The gradients of the scores. -/
def dscoreArr (w e : FVec Ideal S8x4096x4096 .f32) (l : FVec Ideal S8x4096x1 .f32) : FVec Ideal S8x4096x4096 .f32 :=
  select maskArr (mulf (addf (Host.divf w (broadcastInDim S8x4096x4096 ![0, 1, 2] bcast_S8x4096x1_S8x4096x4096_0_1_2 l))
    (broadcastInDim S8x4096x4096 ![0, 1] bcast_S8x4096_S8x4096x4096_0_1 (Host.reduceAdd (Host.negf (shapeCast S8x4096x1 (Host.reduceAdd (mulf (mulf w (broadcastInDim S8x4096x4096 ![0, 1, 2] bcast_S8x4096x1_S8x4096x4096_0_1_2 (Host.divf (broadcastInDim S8x4096x1 ![] bcast_S_S8x4096x1 (constant S_ .f32 0x3F800000#32)) (mulf l l)))) e) (constant S_ .f32 0x00000000#32) reducesTo_S8x4096x4096_S8x4096_d2 h_S_) shapeCasts_S8x4096_S8x4096x1)) (constant S_ .f32 0x00000000#32) reducesTo_S8x4096x1_S8x4096_d2 h_S_))) e)
    (broadcastInDim S8x4096x4096 ![] bcast_S_S8x4096x4096 (id (constant S_ .f32 0x00000000#32)))

/-- The queries' gradient. -/
def dqArr (s : FVec Ideal S8x4096x4096 .f32) (k : FVec Ideal S4096x2048 .bf16) : FVec Ideal S4096x2048 .f32 :=
  shapeCast _ (transpose S4096x8x256 [1, 0, 2] (Host.dotGeneral dot_S8x4096x4096_S4096x8x256_S8x4096x256_2_0_1_2_0_1 none s (headsArr k)) transposes_S8x4096x256_S4096x8x256_1_0_2) shapeCasts_S4096x8x256_S4096x2048

/-- The keys' gradient. -/
def dkArr (s : FVec Ideal S8x4096x4096 .f32) (q : FVec Ideal S4096x2048 .bf16) : FVec Ideal S4096x2048 .f32 :=
  shapeCast _ (transpose S4096x8x256 [1, 0, 2] (Host.dotGeneral dot_S8x4096x4096_S4096x8x256_S8x4096x256_1_0_2_2_0_1 none s (headsArr q)) transposes_S8x4096x256_S4096x8x256_1_0_2) shapeCasts_S4096x8x256_S4096x2048

/-- The values' gradient. -/
def dvArr (p : FVec Ideal S8x4096x4096 .f32) (d : FVec Ideal S4096x1024 .bf16) : FVec Ideal S4096x1024 .f32 :=
  shapeCast _ (transpose S4096x8x128 [2, 0, 1] (Host.dotGeneral dot_S8x128x4096_S8x4096x4096_S8x128x4096_2_1_1_2_0_0 none (outgradArr d) p) transposes_S8x128x4096_S4096x8x128_2_0_1) shapeCasts_S4096x8x128_S4096x1024

/-- The attention's outputs. -/
def outArr (p : FVec Ideal S8x4096x4096 .f32) (v : FVec Ideal S4096x1024 .bf16) : FVec Ideal S4096x1024 .bf16 :=
  truncf .bf16 (shapeCast S4096x1024 (transpose S4096x8x128 [2, 0, 1] (Host.dotGeneral dot_S4096x8x128_S8x4096x4096_S8x128x4096_0_2_2_1_1_0 none (valuesArr v) p) transposes_S8x128x4096_S4096x8x128_2_0_1) shapeCasts_S4096x8x128_S4096x1024) bitsLt_bf16_f32

/-- The logarithms of the rows' sums, beside the greatest scores. -/
def lseArr (s : FVec Ideal S8x4096x4096 .f32) : FVec Ideal S8x4096 .f32 :=
  addf (rowTop s) (Host.log (Host.reduceAdd (expArr s (rowTop s)) (constant S_ .f32 0x00000000#32) reducesTo_S8x4096x4096_S8x4096_d2 h_S_))

/-- Arrays of reals, and the greatest score of each row. -/
structure Reals (a : Data) (q₀ k₀ : Arr S4096x2048) (v₀ d₀ : Arr S4096x1024) : Prop where
  q : ∀ i x, q₀ (ix2 i x) = ((a.q i x : ℝ) : EReal)
  k : ∀ i x, k₀ (ix2 i x) = ((a.k i x : ℝ) : EReal)
  v : ∀ i y, v₀ (ix2 i y) = ((a.v i y : ℝ) : EReal)
  d : ∀ i y, d₀ (ix2 i y) = ((a.d i y : ℝ) : EReal)
  top : ∀ h i, rowTop (scoreArr q₀ k₀) (ix2 h i) = ((a.top h i : ℝ) : EReal)

/-- The masked scores of arrays of reals. -/
theorem scoreArr_at' {a : Data} {q k : Arr S4096x2048} (hq : ∀ i x, q (ix2 i x) = ((a.q i x : ℝ) : EReal)) (hk : ∀ i x, k (ix2 i x) = ((a.k i x : ℝ) : EReal)) (h : Fin 8) (i j : Fin 4096) :
    scoreArr q k (ix3 h i j) = if j ≤ i then ((score a h i j : ℝ) : EReal) else ⊥ := by
  have hc : (id (constant (F := Ideal) S_ FTy.f32 0xFF800000#32) ix0 : EReal) = ⊥ := ofBits_bot
  pointwise [scoreArr, maskArr, headsArr]
  rw [select_sge _ _ (by omega) (by omega), hc]
  refine ite_congr (propext Fin.le_def.symm) (fun _ => ?_) (fun _ => rfl)
  simp only [hq, hk, ← EReal.coe_mul, coe_sum]
  rfl

/-- Scores are below positive infinity. -/
theorem scoreArr_ne_top {a : Data} {q k : Arr S4096x2048} (hq : ∀ i x, q (ix2 i x) = ((a.q i x : ℝ) : EReal)) (hk : ∀ i x, k (ix2 i x) = ((a.k i x : ℝ) : EReal)) (b : S8x4096x4096.Idx) :
    scoreArr q k b ≠ ⊤ := by
  have e : ∃ h i j, b = ix3 (n0 := 8) (n1 := 4096) (n2 := 4096) h i j := ⟨b 0, b 1, b 2, by funext c; fin_cases c <;> rfl⟩
  obtain ⟨h, i, j, rfl⟩ := e
  rw [scoreArr_at' (a := a) hq hk]
  split_ifs
  exacts [EReal.coe_ne_top _, bot_ne_top]

/-- A greatest element of values below positive infinity, one of them above negative infinity, is a real. -/
theorem fold_max_real {ι : Type} [DecidableEq ι] (s : Finset ι) (f : ι → EReal) (h : ∀ i, f i ≠ ⊤) (j : ι) (hj : j ∈ s) (hb : f j ≠ ⊥) :
    s.fold max ⊥ f = (((s.fold max ⊥ f).toReal : ℝ) : EReal) := by
  refine (EReal.coe_toReal ?_ ?_).symm
  · refine (Finset.fold_max_lt (c := ⊤)).2 ⟨bot_lt_top, fun i _ => lt_top_iff_ne_top.2 (h i)⟩ |>.ne
  · exact ((bot_lt_iff_ne_bot.2 hb).trans_le ((Finset.le_fold_max (f j)).2 (.inr ⟨j, hj, le_rfl⟩))).ne'

/-- The greatest score of each row is a real. -/
theorem top_real {a : Data} {q k : Arr S4096x2048} (hq : ∀ i x, q (ix2 i x) = ((a.q i x : ℝ) : EReal)) (hk : ∀ i x, k (ix2 i x) = ((a.k i x : ℝ) : EReal)) (h : Fin 8) (i : Fin 4096) :
    rowTop (scoreArr q k) (ix2 h i)
      = (((rowTop (scoreArr q k) (ix2 h i) : EReal).toReal : ℝ) : EReal) := by
  have e : rowTop (scoreArr q k) (ix2 h i)
      = (Finset.univ.filter fun b => reducesTo_S8x4096x4096_S8x4096_d2.drop b = ix2 h i).fold max ⊥ (scoreArr q k) := by
    unfold rowTop
    rw [Host.reduce_eq_fold]
    exact congrArg (fun z => Finset.fold max z (scoreArr q k) _) ofBits_bot
  rw [e]
  refine fold_max_real _ _ (scoreArr_ne_top (a := a) hq hk) (ix3 h i i) (Finset.mem_filter.2 ⟨Finset.mem_univ _, ?_⟩) ?_
  · funext c
    fin_cases c <;> rfl
  · rw [scoreArr_at' (a := a) hq hk, if_pos le_rfl]
    exact EReal.coe_ne_bot _

section
variable {a : Data} {q k : Arr S4096x2048} {v d : Arr S4096x1024} (R : Reals a q k v d) (h : Fin 8) (i j : Fin 4096)
include R

/-- The masked scores at an index. -/
theorem scoreArr_at : scoreArr q k (ix3 h i j) = if j ≤ i then ((score a h i j : ℝ) : EReal) else ⊥ := scoreArr_at' (a := a) R.q R.k h i j

omit R in
/-- Values bounded below by negative infinity are themselves. -/
theorem max_bot_at (t : FVec Ideal S8x4096 .f32) : maximumf (broadcastInDim S8x4096 ![] bcast_S_S8x4096 (constant S_ .f32 0xFF800000#32)) t (ix2 h i) = max (Ideal.ofBits .f32 0xFF800000#32) (t (ix2 h i)) := by
  pointwise

/-- The greatest score of each row, of arrays of reals. -/
theorem topArr_at : topArr (scoreArr q k) (ix2 h i) = ((a.top h i : ℝ) : EReal) := by
  unfold topArr
  rw [max_bot_at, R.top, ofBits_bot]
  exact max_bot_left _

/-- The exponentials of arrays of reals. -/
theorem expArr_at (t : FVec Ideal S8x4096 .f32) (ht : t (ix2 h i) = ((a.top h i : ℝ) : EReal)) : expArr (scoreArr q k) t (ix3 h i j) = ((ex a h i j : ℝ) : EReal) := by
  have e : expArr (scoreArr q k) t (ix3 h i j) = Ideal.exp (scoreArr q k (ix3 h i j) - t (ix2 h i)) := by
    generalize scoreArr q k = s
    pointwise [expArr]
  rw [e, scoreArr_at R, ht]
  unfold ex
  split_ifs
  · rw [← EReal.coe_sub, exp_coe]
  · rw [EReal.bot_sub, exp_bot]; rfl

omit R in
/-- Rows of reals sum to reals. -/
theorem sumArr_at (e : FVec Ideal S8x4096x4096 .f32) (he : ∀ j, e (ix3 h i j) = ((ex a h i j : ℝ) : EReal)) : sumArr e (ix3 h i 0) = ((tot a h i : ℝ) : EReal) := by
  have e : sumArr e (ix3 h i 0) = ∑ x, e (ix3 h i x) := by pointwise [sumArr]
  rw [e]
  simp only [he, coe_sum]
  rfl

omit R in
/-- The weights of arrays of reals. -/
theorem weightArr_at (e : FVec Ideal S8x4096x4096 .f32) (l : FVec Ideal S8x4096x1 .f32) (he : e (ix3 h i j) = ((ex a h i j : ℝ) : EReal)) (hl : l (ix3 h i 0) = ((tot a h i : ℝ) : EReal)) :
    weightArr e l (ix3 h i j) = ((wt a h i j : ℝ) : EReal) := by
  have e' : weightArr e l (ix3 h i j) = Ideal.div (e (ix3 h i j)) (l (ix3 h i 0)) := by pointwise [weightArr]
  rw [e', he, hl, div_coe _ _ (tot_ne a h i)]
  rfl

/-- The gradients of the weights, of arrays of reals. -/
theorem dweightArr_at : dweightArr v d (ix3 h i j) = ((dwt a h i j : ℝ) : EReal) := by
  have e : dweightArr v d (ix3 h i j) = ∑ x : Fin 128, d (ix2 i (vcol h x)) * v (ix2 j (vcol h x)) := by pointwise [dweightArr, outgradArr, valuesArr]
  rw [e]
  simp only [R.d, R.v, ← EReal.coe_mul, coe_sum]
  rfl

omit R in
/-- The gradients of the scores, of arrays of reals. -/
theorem dscoreArr_at (w e : FVec Ideal S8x4096x4096 .f32) (l : FVec Ideal S8x4096x1 .f32) (hw : ∀ j, w (ix3 h i j) = ((dwt a h i j : ℝ) : EReal))
    (he : ∀ j, e (ix3 h i j) = ((ex a h i j : ℝ) : EReal)) (hl : l (ix3 h i 0) = ((tot a h i : ℝ) : EReal)) :
    dscoreArr w e l (ix3 h i j) = ((dsc a h i j : ℝ) : EReal) := by
  have hc : (id (constant (F := Ideal) S_ FTy.f32 0x00000000#32) ix0 : EReal) = ((0 : ℝ) : EReal) := Ideal.ofBits_zero_f32
  have e' : dscoreArr w e l (ix3 h i j) = Scalar.select (IntOp.cmpi CmpIPredicate.sge (BitVec.ofNat 32 ↑i) (BitVec.ofNat 32 ↑j))
      ((Ideal.div (w (ix3 h i j)) (l (ix3 h i 0)) +
          ∑ x : Fin 1, -∑ x, w (ix3 h i x) * Ideal.div 1 (l (ix3 h i 0) * l (ix3 h i 0)) * e (ix3 h i x)) * e (ix3 h i j))
      (id (constant (F := Ideal) S_ FTy.f32 0x00000000#32) ix0 : EReal) := by
    pointwise [dscoreArr, maskArr]
  have h1 : Ideal.div 1 ((tot a h i * tot a h i : ℝ) : EReal) = ((1 / (tot a h i * tot a h i) : ℝ) : EReal) := by
    exact div_coe 1 _ (mul_ne_zero (tot_ne a h i) (tot_ne a h i))
  rw [e', select_sge _ _ (by omega) (by omega), hc]
  simp only [hw, he, hl, h1, div_coe _ _ (tot_ne a h i), ← EReal.coe_mul, coe_sum, ← EReal.coe_neg, ← EReal.coe_add, Finset.univ_unique, Finset.sum_singleton]
  split_ifs with hij
  · rw [dsc_eq]
  · rw [dsc_masked a h i j hij]

/-- The queries' gradient, of arrays of reals. -/
theorem dqArr_at (s : FVec Ideal S8x4096x4096 .f32) (hs : ∀ h i j, s (ix3 h i j) = ((dsc a h i j : ℝ) : EReal)) (x : Fin 2048) :
    dqArr s k (ix2 i x) = ((dq a i x : ℝ) : EReal) := by
  have e : dqArr s k (ix2 i x) = ∑ j, s (ix3 (hd x) i j) * k (ix2 j x) := by pointwise [dqArr, headsArr]
  rw [e]
  simp only [hs, R.k, ← EReal.coe_mul, coe_sum]
  rfl

/-- The keys' gradient, of arrays of reals. -/
theorem dkArr_at (s : FVec Ideal S8x4096x4096 .f32) (hs : ∀ h i j, s (ix3 h i j) = ((dsc a h i j : ℝ) : EReal)) (x : Fin 2048) :
    dkArr s q (ix2 j x) = ((dk a j x : ℝ) : EReal) := by
  have e : dkArr s q (ix2 j x) = ∑ i, s (ix3 (hd x) i j) * q (ix2 i x) := by pointwise [dkArr, headsArr]
  rw [e]
  simp only [hs, R.q, ← EReal.coe_mul, coe_sum]
  rfl

/-- The values' gradient, of arrays of reals. -/
theorem dvArr_at (p : FVec Ideal S8x4096x4096 .f32) (hp : ∀ h i j, p (ix3 h i j) = ((wt a h i j : ℝ) : EReal)) (y : Fin 1024) :
    dvArr p d (ix2 j y) = ((dv a j y : ℝ) : EReal) := by
  have e : dvArr p d (ix2 j y) = ∑ i, d (ix2 i y) * p (ix3 (vhd y) i j) := by pointwise [dvArr, outgradArr]
  rw [e]
  simp only [hp, R.d, ← EReal.coe_mul, coe_sum]
  rfl

/-- The outputs, of arrays of reals. -/
theorem outArr_at (p : FVec Ideal S8x4096x4096 .f32) (hp : ∀ h i j, p (ix3 h i j) = ((wt a h i j : ℝ) : EReal)) (y : Fin 1024) :
    outArr p v (ix2 i y) = ((out a i y : ℝ) : EReal) := by
  have e : outArr p v (ix2 i y) = ∑ j, v (ix2 j y) * p (ix3 (vhd y) i j) := by pointwise [outArr, valuesArr]
  rw [e]
  simp only [hp, R.v, ← EReal.coe_mul, coe_sum]
  rfl

omit R in
/-- The logarithms of the rows' sums at an index. -/
theorem log_sum_at (t : FVec Ideal S8x4096 .f32) (z : FVec Ideal S8x4096x4096 .f32) :
    addf t (Host.log (Host.reduceAdd z (constant S_ .f32 0x00000000#32) reducesTo_S8x4096x4096_S8x4096_d2 h_S_)) (ix2 h i) = (t (ix2 h i) + Ideal.log (sumArr z (ix3 h i 0)) : EReal) := by
  pointwise [sumArr]

/-- The logarithms of the rows' sums, of arrays of reals. -/
theorem lseArr_at : lseArr (scoreArr q k) (ix2 h i) = ((lse a h i : ℝ) : EReal) := by
  unfold lseArr
  rw [log_sum_at, sumArr_at (a := a) h i _ fun j => expArr_at R h i j _ (R.top h i), R.top, log_coe _ (tot_pos a h i), ← EReal.coe_add]
  rfl

end

end Cert.Grad

end
-- ==== Proof.Attn.Ref.lean ====
/- The reference's three results, of arguments that are arrays of reals. -/
module

public import proofs.«01_k».proof.Proof.Gen.ReferenceIdeal.Run
public import proofs.«01_k».proof.Proof.Attn.Stages

@[expose] public section

set_option maxRecDepth 16384

noncomputable section

namespace Cert.Grad

open Cert.ReferenceIdeal Cert.ReferenceIdeal.Gen
open Idealize.ShloMosaic Idealize.SL.Sem
open Idealize.ShloMosaic.TcCoe

/-- The exponentials of the scores. -/
def refExp (q k : Arr S4096x2048) : FVec Ideal S8x4096x4096 .f32 := expArr (scoreArr q k) (topArr (scoreArr q k))

/-- The gradients of the scores. -/
def refDs (q k : Arr S4096x2048) (v d : Arr S4096x1024) : FVec Ideal S8x4096x4096 .f32 :=
  dscoreArr (dweightArr v d) (refExp q k) (sumArr (refExp q k))

/-- The weights. -/
def refP (q k : Arr S4096x2048) : FVec Ideal S8x4096x4096 .f32 := weightArr (refExp q k) (sumArr (refExp q k))

section
variable (m : (ℓ : Loc nD τ sig) → Buf (Elt Ideal) ℓ) (c : Dev nD)

/-- An argument. -/
abbrev argQ : Arr S4096x2048 := m ((c.tc : Thread nD τ).loc main_arg0)
abbrev argK : Arr S4096x2048 := m ((c.tc : Thread nD τ).loc main_arg1)
abbrev argV : Arr S4096x1024 := m ((c.tc : Thread nD τ).loc main_arg2)
abbrev argD : Arr S4096x1024 := m ((c.tc : Thread nD τ).loc main_arg3)

set_option maxHeartbeats 1600000 in
/-- The values' gradient, by stages. -/
theorem res_dv : Value.res_main_v51 (F := Ideal) m c = dvArr (refP (argQ m c) (argK m c)) (argD m c) := by
  unfold Value.res_main_v51
  rfl

set_option maxHeartbeats 1600000 in
/-- The keys' gradient, by stages. -/
theorem res_dk : Value.res_main_v69 (F := Ideal) m c = dkArr (refDs (argQ m c) (argK m c) (argV m c) (argD m c)) (argQ m c) := by
  unfold Value.res_main_v69
  rfl

set_option maxHeartbeats 1600000 in
/-- The queries' gradient, by stages. -/
theorem res_dq : Value.res_main_v70 (F := Ideal) m c = dqArr (refDs (argQ m c) (argK m c) (argV m c) (argD m c)) (argK m c) := by
  unfold Value.res_main_v70
  rfl

end

section
variable {a : Data} {q k : Arr S4096x2048} {v d : Arr S4096x1024} (R : Reals a q k v d) (h : Fin 8) (i j : Fin 4096)
include R

/-- An exponential of the reference. -/
theorem refExp_at : refExp q k (ix3 h i j) = ((ex a h i j : ℝ) : EReal) := expArr_at R h i j _ (topArr_at R h i)

/-- A weight of the reference. -/
theorem refP_at : refP q k (ix3 h i j) = ((wt a h i j : ℝ) : EReal) :=
  weightArr_at h i j _ _ (refExp_at R h i j) (sumArr_at h i _ (refExp_at R h i))

/-- The gradient of a score of the reference. -/
theorem refDs_at : refDs q k v d (ix3 h i j) = ((dsc a h i j : ℝ) : EReal) :=
  dscoreArr_at h i j _ _ _ (dweightArr_at R h i) (refExp_at R h i) (sumArr_at h i _ (refExp_at R h i))

/-- The queries' gradient of the reference. -/
theorem refDq_at (x : Fin 2048) : dqArr (refDs q k v d) k (ix2 i x) = ((dq a i x : ℝ) : EReal) := dqArr_at R i _ (refDs_at R) x

/-- The keys' gradient of the reference. -/
theorem refDk_at (x : Fin 2048) : dkArr (refDs q k v d) q (ix2 j x) = ((dk a j x : ℝ) : EReal) := dkArr_at R j _ (refDs_at R) x

/-- The values' gradient of the reference. -/
theorem refDv_at (y : Fin 1024) : dvArr (refP q k) d (ix2 j y) = ((dv a j y : ℝ) : EReal) := dvArr_at R j _ (refP_at R) y

end

end Cert.Grad

end
-- ==== Proof.Attn.Host.lean ====
/- What the host computes before the call: the attention's output and the logarithms of the softmax's sums. -/
module

public import proofs.«01_k».proof.Proof.Attn.Launch
public import proofs.«01_k».proof.Proof.Attn.Ref

@[expose] public section

set_option maxRecDepth 16384

noncomputable section

namespace Cert.Proof

open Idealize.ShloMosaic
open Idealize.ShloMosaic.TcCoe
open Cert.KernelIdeal Cert.KernelIdeal.Gen Cert.KernelIdeal.Attn

variable (m : (ℓ : Loc nD τ sig) → Buf (Elt Ideal) ℓ) (c : Dev nD)

set_option maxHeartbeats 6400000 in
/-- The attention's output. -/
theorem entry_out :
    (atEntry m c main_v36 : S4096x1024.Idx → EReal)
      = Cert.Grad.outArr (Cert.Grad.refP (m ((c.tc : Thread nD τ).loc main_arg0)) (m ((c.tc : Thread nD τ).loc main_arg1))) (m ((c.tc : Thread nD τ).loc main_arg2)) := by
  simp only [atEntry, hostOps, hostOps0, hostOps0_1, hostOps0_2, List.flatten_cons, List.flatten_nil, List.cons_append, List.nil_append, List.append_nil,
      StableHlo.TRef.nullary, StableHlo.TRef.ternary, StableHlo.TRef.unary, StableHlo.TRef.toBuf, StableHlo.TRef.ofBuf, cast_eq]
  after_results_simp <;> rfl

set_option maxHeartbeats 6400000 in
/-- The logarithms of the softmax's sums. -/
theorem entry_lse (h : Fin 8) (i : Fin 4096) :
    (atEntry m c main_v37 : S8x1x4096.Idx → EReal) (ix3 h 0 i)
      = Cert.Grad.lseArr (Cert.Grad.scoreArr (m ((c.tc : Thread nD τ).loc main_arg0)) (m ((c.tc : Thread nD τ).loc main_arg1))) (ix2 h i) := by
  have e : (atEntry m c main_v37 : S8x1x4096.Idx → EReal)
      = broadcastInDim S8x1x4096 ![0, 2] bcast_S8x4096_S8x1x4096_0_2 (Cert.Grad.lseArr (Cert.Grad.scoreArr (m ((c.tc : Thread nD τ).loc main_arg0)) (m ((c.tc : Thread nD τ).loc main_arg1)))) := by
    simp only [atEntry, hostOps, hostOps0, hostOps0_1, hostOps0_2, List.flatten_cons, List.flatten_nil, List.cons_append, List.nil_append, List.append_nil,
      StableHlo.TRef.nullary, StableHlo.TRef.ternary, StableHlo.TRef.unary, StableHlo.TRef.toBuf, StableHlo.TRef.ofBuf, cast_eq]
    after_results_simp <;> rfl
  rw [e]
  generalize Cert.Grad.lseArr (Cert.Grad.scoreArr (m ((c.tc : Thread nD τ).loc main_arg0)) (m ((c.tc : Thread nD τ).loc main_arg1))) = l
  refine congrArg l ?_
  funext a
  fin_cases a <;> rfl

end Cert.Proof

end
-- ==== Proof.Attn.Pay.lean ====
/- What one grid point adds to the three running gradients, of blocks that are arrays of reals. -/
module

public import proofs.«01_k».proof.Proof.Attn.Tile
public import proofs.«01_k».proof.Proof.Attn.Model
public import Idealize.ShloMosaic.Lib.Pointwise

@[expose] public section

set_option maxRecDepth 16384

noncomputable section

namespace Cert.KernelIdeal.Attn

open Cert.KernelIdeal Cert.KernelIdeal.Gen
open Idealize.ShloMosaic
open Cert.Grad (Data score wt lse out dwt dsc)

/-! ### The payloads at an index -/

/-- The weights of a part of a tile. -/
theorem pA_at (k : S512x256.Idx → EReal) (q : S1024x256.Idx → EReal) (l : S1x1x1024.Idx → EReal) (j : Fin 512) (i : Fin 1024) :
    (k0_pay12 (F := Ideal) k q l (ix2 j i) : EReal) = Ideal.exp (Scalar.select (IntOp.cmpi .sge (IntOp.addi 0#32 (BitVec.ofNat 32 i.val)) (IntOp.addi 0#32 (BitVec.ofNat 32 j.val))) (∑ x : Fin 256, k (ix2 j x) * q (ix2 i x)) (Ideal.ofBits .f32 0xFF800000#32) - l (ix3 0 0 i)) := by
  pointwise [k0_pay12, k0_pay10]

/-- The gradients of the scores of a part of a tile. -/
theorem sA_at (d o : S1024x128.Idx → EReal) (k : S512x256.Idx → EReal) (q : S1024x256.Idx → EReal) (l : S1x1x1024.Idx → EReal) (v : S512x128.Idx → EReal) (j : Fin 512) (i : Fin 1024) :
    (k0_pay11 (F := Ideal) d o k q l v (ix2 j i) : EReal) = k0_pay12 (F := Ideal) k q l (ix2 j i) * (∑ x : Fin 128, v (ix2 j x) * d (ix2 i x) - ∑ x : Fin 128, d (ix2 i x) * o (ix2 i x)) := by
  pointwise [k0_pay11, k0_pay12, k0_pay10]

/-- What a part of a tile adds to the values' gradient. -/
theorem vA_at (d : S1024x128.Idx → EReal) (a : S512x128.Idx → EReal) (k : S512x256.Idx → EReal) (q : S1024x256.Idx → EReal) (l : S1x1x1024.Idx → EReal) (j : Fin 512) (c : Fin 128) :
    (k0_pay13 (F := Ideal) d a (k0_pay12 (F := Ideal) k q l) (ix2 j c) : EReal) = a (ix2 j c) + ∑ i : Fin 1024, k0_pay12 (F := Ideal) k q l (ix2 j i) * d (ix2 i c) := by
  pointwise [k0_pay13, k0_pay12, k0_pay10]

/-- What a part of a tile adds to the keys' gradient. -/
theorem kA_at (s : S512x1024.Idx → EReal) (a : S512x256.Idx → EReal) (q : S1024x256.Idx → EReal) (j : Fin 512) (c : Fin 256) :
    (k0_pay14 (F := Ideal) s a q (ix2 j c) : EReal) = a (ix2 j c) + ∑ i : Fin 1024, s (ix2 j i) * q (ix2 i c) := by
  pointwise [k0_pay14]

/-- What a part of a tile adds to the queries' gradient. -/
theorem qA_at (s : S512x1024.Idx → EReal) (a : S1024x256.Idx → EReal) (k : S512x256.Idx → EReal) (i : Fin 1024) (c : Fin 256) :
    (k0_pay15 (F := Ideal) s a k (ix2 i c) : EReal) = a (ix2 i c) + ∑ j : Fin 512, s (ix2 j i) * k (ix2 j c) := by
  pointwise [k0_pay15]

/-- The weights of a part of a tile. -/
theorem pB_at (k : S512x256.Idx → EReal) (q : S512x256.Idx → EReal) (l : S1x1x1024.Idx → EReal) (j : Fin 512) (i : Fin 512) :
    (k0_pay24 (F := Ideal) k q l (ix2 j i) : EReal) = Ideal.exp (Scalar.select (IntOp.cmpi .sge (IntOp.addi 512#32 (BitVec.ofNat 32 i.val)) (IntOp.addi 512#32 (BitVec.ofNat 32 j.val))) (∑ x : Fin 256, k (ix2 j x) * q (ix2 i x)) (Ideal.ofBits .f32 0xFF800000#32) - l (ix3 0 0 ⟨512 + i.val, by omega⟩)) := by
  pointwise [k0_pay24]

/-- The gradients of the scores of a part of a tile. -/
theorem sB_at (d o : S512x128.Idx → EReal) (k : S512x256.Idx → EReal) (q : S512x256.Idx → EReal) (l : S1x1x1024.Idx → EReal) (v : S512x128.Idx → EReal) (j : Fin 512) (i : Fin 512) :
    (k0_pay25 (F := Ideal) d (k0_pay23 (F := Ideal) d o) (k0_pay24 (F := Ideal) k q l) v (ix2 j i) : EReal) = k0_pay24 (F := Ideal) k q l (ix2 j i) * (∑ x : Fin 128, v (ix2 j x) * d (ix2 i x) - ∑ x : Fin 128, d (ix2 i x) * o (ix2 i x)) := by
  pointwise [k0_pay25, k0_pay23, k0_pay24]

/-- What a part of a tile adds to the values' gradient. -/
theorem vB_at (d : S512x128.Idx → EReal) (a : S512x128.Idx → EReal) (k : S512x256.Idx → EReal) (q : S512x256.Idx → EReal) (l : S1x1x1024.Idx → EReal) (j : Fin 512) (c : Fin 128) :
    (k0_pay26 (F := Ideal) d (k0_pay24 (F := Ideal) k q l) a (ix2 j c) : EReal) = a (ix2 j c) + ∑ i : Fin 512, k0_pay24 (F := Ideal) k q l (ix2 j i) * d (ix2 i c) := by
  pointwise [k0_pay26, k0_pay24]

/-- What a part of a tile adds to the keys' gradient. -/
theorem kB_at (s : S512x512.Idx → EReal) (a : S512x256.Idx → EReal) (q : S512x256.Idx → EReal) (j : Fin 512) (c : Fin 256) :
    (k0_pay4 (F := Ideal) s a q (ix2 j c) : EReal) = a (ix2 j c) + ∑ i : Fin 512, s (ix2 j i) * q (ix2 i c) := by
  pointwise [k0_pay4]

/-- What a part of a tile adds to the queries' gradient. -/
theorem qB_at (s : S512x512.Idx → EReal) (a : S512x256.Idx → EReal) (k : S512x256.Idx → EReal) (i : Fin 512) (c : Fin 256) :
    (k0_pay5 (F := Ideal) s a k (ix2 i c) : EReal) = a (ix2 i c) + ∑ j : Fin 512, s (ix2 j i) * k (ix2 j c) := by
  pointwise [k0_pay5]

/-- The weights of a part of a tile. -/
theorem pO_at (k : S1024x256.Idx → EReal) (q : S1024x256.Idx → EReal) (l : S1x1x1024.Idx → EReal) (j : Fin 1024) (i : Fin 1024) :
    (k0_pay33 (F := Ideal) k q l (ix2 j i) : EReal) = Ideal.exp ((∑ x : Fin 256, k (ix2 j x) * q (ix2 i x)) - l (ix3 0 0 i)) := by
  pointwise [k0_pay33]

/-- The gradients of the scores of a part of a tile. -/
theorem sO_at (d o : S1024x128.Idx → EReal) (k : S1024x256.Idx → EReal) (q : S1024x256.Idx → EReal) (l : S1x1x1024.Idx → EReal) (v : S1024x128.Idx → EReal) (j : Fin 1024) (i : Fin 1024) :
    (k0_pay34 (F := Ideal) d o k q l v (ix2 j i) : EReal) = k0_pay33 (F := Ideal) k q l (ix2 j i) * (∑ x : Fin 128, v (ix2 j x) * d (ix2 i x) - ∑ x : Fin 128, d (ix2 i x) * o (ix2 i x)) := by
  pointwise [k0_pay34, k0_pay33]

/-- What a part of a tile adds to the values' gradient. -/
theorem vO_at (d : S1024x128.Idx → EReal) (a : S1024x128.Idx → EReal) (k : S1024x256.Idx → EReal) (q : S1024x256.Idx → EReal) (l : S1x1x1024.Idx → EReal) (j : Fin 1024) (c : Fin 128) :
    (k0_pay35 (F := Ideal) d k q l a (ix2 j c) : EReal) = a (ix2 j c) + ∑ i : Fin 1024, k0_pay33 (F := Ideal) k q l (ix2 j i) * d (ix2 i c) := by
  pointwise [k0_pay35, k0_pay33]

/-- What a part of a tile adds to the keys' gradient. -/
theorem kO_at (s : S1024x1024.Idx → EReal) (a : S1024x256.Idx → EReal) (q : S1024x256.Idx → EReal) (j : Fin 1024) (c : Fin 256) :
    (k0_pay36 (F := Ideal) s a q (ix2 j c) : EReal) = a (ix2 j c) + ∑ i : Fin 1024, s (ix2 j i) * q (ix2 i c) := by
  pointwise [k0_pay36]

/-- What a part of a tile adds to the queries' gradient. -/
theorem qO_at (s : S1024x1024.Idx → EReal) (a : S1024x256.Idx → EReal) (k : S1024x256.Idx → EReal) (i : Fin 1024) (c : Fin 256) :
    (k0_pay37 (F := Ideal) s a k (ix2 i c) : EReal) = a (ix2 i c) + ∑ j : Fin 1024, s (ix2 j i) * k (ix2 j c) := by
  pointwise [k0_pay37]

/-- A window at an index. -/
theorem win_at {R C R' C' : ℕ} (x : Shape.Idx ⟨2, ![R, C]⟩ → EReal) (r c : ℕ) (h : r + R' ≤ R ∧ c + C' ≤ C) (i : Fin R') (j : Fin C') :
    win x r c h (ix2 i j) = x (ix2 ⟨r + i.val, by omega⟩ ⟨c + j.val, by omega⟩) := by
  unfold win VecWindow.window
  congr 1
  funext a
  fin_cases a <;> apply Fin.ext
  · show r + 1 * i.val = r + i.val
    omega
  · show c + 1 * j.val = c + j.val
    omega

/-- A head's row of the block of logarithms of sums. -/
theorem winL_at (x : S2x1x1024.Idx → EReal) (g : Fin 2) (i : Fin 1024) : winL x g (ix3 0 0 i) = x (ix3 g 0 i) := by
  unfold winL VecWindow.window
  congr 1
  funext a
  fin_cases a <;> apply Fin.ext <;> simp

/-- An array after a window of it has been added to. -/
theorem putAt_at {R C R' C' : ℕ} (x : Shape.Idx ⟨2, ![R, C]⟩ → EReal) (r c : ℕ) (h : r + R' ≤ R ∧ c + C' ≤ C) (w : Shape.Idx ⟨2, ![R', C']⟩ → EReal)
    (G : Fin R → Fin C → ℝ)
    (hw : ∀ (i : Fin R') (j : Fin C'), w (ix2 i j) = win x r c h (ix2 i j) + ((G ⟨r + i.val, by omega⟩ ⟨c + j.val, by omega⟩ : ℝ) : EReal))
    (ρ : Fin R) (γ : Fin C) :
    putAt x r c w (ix2 ρ γ) = x (ix2 ρ γ) + ((if r ≤ ρ.val ∧ ρ.val < r + R' ∧ c ≤ γ.val ∧ γ.val < c + C' then G ρ γ else 0 : ℝ) : EReal) := by
  by_cases hc : r ≤ ρ.val ∧ ρ.val < r + R' ∧ c ≤ γ.val ∧ γ.val < c + C'
  · obtain ⟨h1, h2, h3, h4⟩ := hc
    have hc' : ∀ a : Fin 2, (![r, c] : Fin 2 → ℕ) a ≤ ((ix2 ρ γ : Shape.Idx ⟨2, ![R, C]⟩) a).val ∧ ((ix2 ρ γ : Shape.Idx ⟨2, ![R, C]⟩) a).val < (![r, c] : Fin 2 → ℕ) a + (![R', C'] : Fin 2 → ℕ) a :=
      Fin.forall_fin_two.mpr ⟨⟨h1, h2⟩, h3, h4⟩
    rw [if_pos ⟨h1, h2, h3, h4⟩]
    have e : putAt x r c w (ix2 ρ γ) = w (ix2 ⟨ρ.val - r, by omega⟩ ⟨γ.val - c, by omega⟩) := by
      unfold putAt VecWindow.put
      rw [dif_pos hc']
      congr 1
      funext a
      fin_cases a <;> rfl
    rw [e, hw, win_at]
    have e1 : (⟨r + (⟨ρ.val - r, by omega⟩ : Fin R').val, by show r + (ρ.val - r) < R; omega⟩ : Fin R) = ρ := Fin.ext (by show r + (ρ.val - r) = ρ.val; omega)
    have e2 : (⟨c + (⟨γ.val - c, by omega⟩ : Fin C').val, by show c + (γ.val - c) < C; omega⟩ : Fin C) = γ := Fin.ext (by show c + (γ.val - c) = γ.val; omega)
    rw [e1, e2]
  · rw [if_neg hc, EReal.coe_zero, add_zero]
    unfold putAt VecWindow.put
    exact dif_neg fun hh => hc ⟨(hh 0).1, (hh 0).2, (hh 1).1, (hh 1).2⟩

end Cert.KernelIdeal.Attn

end
-- ==== Proof.Attn.Unit.lean ====
/- What one grid point adds to the three running gradients, of blocks that are arrays of reals. -/
module

public import proofs.«01_k».proof.Proof.Attn.Pay

@[expose] public section

set_option maxRecDepth 16384

noncomputable section

namespace Cert.KernelIdeal.Attn

open Cert.KernelIdeal Cert.KernelIdeal.Gen
open Idealize.ShloMosaic
open Cert.Grad (Data score wt lse out dwt dsc coe_sum exp_coe exp_bot ofBits_bot exp_lse wt_masked dsc_masked)

/-! ### Where a block lies -/

/-- A position by its tile and its row there. -/
abbrev row (t : Fin 4) (r : Fin 1024) : Fin 4096 := ⟨1024 * t.val + r.val, by omega⟩

/-- A head by its pair and its place there. -/
abbrev head (hp : Fin 4) (g : Fin 2) : Fin 8 := ⟨2 * hp.val + g.val, by omega⟩

/-- A column of queries or keys by its pair of heads. -/
abbrev bcol (hp : Fin 4) (c : Fin 512) : Fin 2048 := ⟨512 * hp.val + c.val, by omega⟩

/-- A column of values by its pair of heads. -/
abbrev bvcol (hp : Fin 4) (c : Fin 256) : Fin 1024 := ⟨256 * hp.val + c.val, by omega⟩

/-- The blocks of the pair of heads `hp`, the queries of tile `n` and the keys of tile `p`. -/
structure Rep (a : Data) (hp n p : Fin 4) (b : Blocks Ideal) : Prop where
  q : ∀ r c, b.q (ix2 r c) = ((a.q (row n r) (bcol hp c) : ℝ) : EReal)
  k : ∀ r c, b.k (ix2 r c) = ((a.k (row p r) (bcol hp c) : ℝ) : EReal)
  v : ∀ r c, b.v (ix2 r c) = ((a.v (row p r) (bvcol hp c) : ℝ) : EReal)
  o : ∀ r c, b.o (ix2 r c) = ((out a (row n r) (bvcol hp c) : ℝ) : EReal)
  d : ∀ r c, b.d (ix2 r c) = ((a.d (row n r) (bvcol hp c) : ℝ) : EReal)
  l : ∀ g r, b.l (ix3 g 0 r) = ((lse a (head hp g) (row n r) : ℝ) : EReal)

/-- A head's column of its pair's columns. -/
theorem bcol_head (hp : Fin 4) (g : Fin 2) (x : Fin 256) : bcol hp ⟨256 * g.val + x.val, by omega⟩ = Cert.Grad.col (head hp g) x :=
  Fin.ext (by show 512 * hp.val + (256 * g.val + x.val) = (2 * hp.val + g.val) * 256 + x.val; omega)

/-- A head's column of its pair's columns of values. -/
theorem bvcol_head (hp : Fin 4) (g : Fin 2) (x : Fin 128) : bvcol hp ⟨128 * g.val + x.val, by omega⟩ = Cert.Grad.vcol (head hp g) x :=
  Fin.ext (by show 256 * hp.val + (128 * g.val + x.val) = (2 * hp.val + g.val) * 128 + x.val; omega)

/-- A sum over a tile's rows, by its halves. -/
theorem sum_halves {M : Type} [AddCommMonoid M] (f : Fin 1024 → M) :
    ∑ x, f x = ∑ x : Fin 512, f ⟨0 + x.val, by omega⟩ + ∑ x : Fin 512, f ⟨512 + x.val, by omega⟩ := by
  refine (Fin.sum_univ_add (a := 512) (b := 512) f).trans (congrArg₂ _ (Finset.sum_congr rfl fun x _ => congrArg f (Fin.ext ?_)) (Finset.sum_congr rfl fun x _ => congrArg f (Fin.ext rfl)))
  show x.val = 0 + x.val
  omega

/-- A sum over a tile's rows, counted from zero. -/
theorem sum_zero_add {M : Type} [AddCommMonoid M] (f : Fin 1024 → M) : ∑ x : Fin 1024, f ⟨0 + x.val, by omega⟩ = ∑ x, f x :=
  Finset.sum_congr rfl fun x _ => congrArg f (Fin.ext (Nat.zero_add _))

/-! ### The gradients' parts of one tile -/

/-- What the keys of tile `p` add to the gradient of the query at position `ρ`. -/
def tq' (a : Data) (hp p : Fin 4) (ρ : Fin 4096) (c : Fin 512) : ℝ :=
  ∑ j : Fin 1024, dsc a (Cert.Grad.hd (bcol hp c)) ρ (row p j) * a.k (row p j) (bcol hp c)

/-- What the queries of tile `n` add to the gradient of the key at position `ρ`. -/
def tk' (a : Data) (hp n : Fin 4) (ρ : Fin 4096) (c : Fin 512) : ℝ :=
  ∑ i : Fin 1024, dsc a (Cert.Grad.hd (bcol hp c)) (row n i) ρ * a.q (row n i) (bcol hp c)

/-- What the queries of tile `n` add to the gradient of the value at position `ρ`. -/
def tv' (a : Data) (hp n : Fin 4) (ρ : Fin 4096) (c : Fin 256) : ℝ :=
  ∑ i : Fin 1024, wt a (Cert.Grad.vhd (bvcol hp c)) (row n i) ρ * a.d (row n i) (bvcol hp c)

section
variable {a : Data} {hp n p : Fin 4} {b : Blocks Ideal} (R : Rep a hp n p b) (g : Fin 2)
include R

/-- Scores from windows of the blocks. -/
theorem score_win {rk rq nk nq : ℕ} (hk : rk + nk ≤ 1024 ∧ 256 * g.val + 256 ≤ 512) (hq : rq + nq ≤ 1024 ∧ 256 * g.val + 256 ≤ 512) (j : Fin nk) (i : Fin nq) :
    ∑ x : Fin 256, (win b.k rk (256 * g.val) (R' := nk) (C' := 256) hk (ix2 j x) * win b.q rq (256 * g.val) (R' := nq) (C' := 256) hq (ix2 i x) : EReal)
      = ((score a (head hp g) (row n ⟨rq + i.val, by omega⟩) (row p ⟨rk + j.val, by omega⟩) : ℝ) : EReal) := by
  unfold score
  rw [← coe_sum]
  refine Finset.sum_congr rfl fun x _ => ?_
  rw [win_at, win_at, R.k, R.q, ← EReal.coe_mul, bcol_head, mul_comm]

/-- Gradients of weights from windows of the blocks. -/
theorem dwt_win {rk rq nk nq : ℕ} (hk : rk + nk ≤ 1024 ∧ 128 * g.val + 128 ≤ 256) (hq : rq + nq ≤ 1024 ∧ 128 * g.val + 128 ≤ 256) (j : Fin nk) (i : Fin nq) :
    ∑ x : Fin 128, (win b.v rk (128 * g.val) (R' := nk) (C' := 128) hk (ix2 j x) * win b.d rq (128 * g.val) (R' := nq) (C' := 128) hq (ix2 i x) : EReal)
      = ((dwt a (head hp g) (row n ⟨rq + i.val, by omega⟩) (row p ⟨rk + j.val, by omega⟩) : ℝ) : EReal) := by
  unfold dwt
  rw [← coe_sum]
  refine Finset.sum_congr rfl fun x _ => ?_
  rw [win_at, win_at, R.v, R.d, ← EReal.coe_mul, bvcol_head, mul_comm]

/-- A row's weighted gradients of weights, from windows of the blocks. -/
theorem delta_win {rq nq : ℕ} (hq : rq + nq ≤ 1024 ∧ 128 * g.val + 128 ≤ 256) (i : Fin nq) :
    ∑ x : Fin 128, (win b.d rq (128 * g.val) (R' := nq) (C' := 128) hq (ix2 i x) * win b.o rq (128 * g.val) (R' := nq) (C' := 128) hq (ix2 i x) : EReal)
      = ((∑ j', dwt a (head hp g) (row n ⟨rq + i.val, by omega⟩) j' * wt a (head hp g) (row n ⟨rq + i.val, by omega⟩) j' : ℝ) : EReal) := by
  rw [← Cert.Grad.delta_out, ← coe_sum]
  refine Finset.sum_congr rfl fun x _ => ?_
  rw [win_at, win_at, R.d, R.o, ← EReal.coe_mul, bvcol_head]

omit R in
/-- A weight from its score. -/
theorem weight_masked (h : Fin 8) (i j : Fin 4096) :
    Ideal.exp ((if j ≤ i then ((score a h i j : ℝ) : EReal) else ⊥) - ((lse a h i : ℝ) : EReal)) = ((wt a h i j : ℝ) : EReal) := by
  split_ifs with hij
  · rw [← EReal.coe_sub, exp_coe, exp_lse a h i j hij]
  · rw [EReal.bot_sub, exp_bot, wt_masked a h i j hij, EReal.coe_zero]

omit R in
/-- The gradient of a score from its weight. -/
theorem ds_of (h : Fin 8) (i j : Fin 4096) :
    ((wt a h i j : ℝ) : EReal) * (((dwt a h i j : ℝ) : EReal) - ((∑ j', dwt a h i j' * wt a h i j' : ℝ) : EReal)) = ((dsc a h i j : ℝ) : EReal) := by
  rw [← EReal.coe_sub, ← EReal.coe_mul]
  rfl

end

/-- The masks' comparison, with the rows counted from `z`. -/
theorem mask_sge {α : Type} (z i j : ℕ) (hz : z ≤ 1024) (hi : i < 1024) (hj : j < 1024) (x y : α) :
    Scalar.select (IntOp.cmpi .sge (IntOp.addi (BitVec.ofNat 32 z) (BitVec.ofNat 32 i)) (IntOp.addi (BitVec.ofNat 32 z) (BitVec.ofNat 32 j))) x y = if z + j ≤ z + i then x else y := by
  have e : ∀ w, IntOp.addi (BitVec.ofNat 32 z) (BitVec.ofNat 32 w) = BitVec.ofNat 32 (z + w) := fun w => by
    show BitVec.ofNat 32 z + BitVec.ofNat 32 w = _
    rw [BitVec.ofNat_add]
  rw [e, e, Cert.Grad.select_sge _ _ (by omega) (by omega)]

/-- The weights of a part of a tile. -/
theorem wA_val {a : Data} {hp n : Fin 4} {b : Blocks Ideal} (R : Rep a hp n n b) (g : Fin 2) (j : Fin 512) (i : Fin 1024) :
    (k0_pay12 (F := Ideal) (win b.k 0 (256 * g.val) (R' := 512) (C' := 256) (by revert g; decide)) (win b.q 0 (256 * g.val) (R' := 1024) (C' := 256) (by revert g; decide)) (winL b.l g) (ix2 j i) : EReal) = ((wt a (head hp g) (row n ⟨0 + i.val, by omega⟩) (row n ⟨0 + j.val, by omega⟩) : ℝ) : EReal) := by
  rw [pA_at, score_win R g, winL_at, R.l, ofBits_bot]
  rw [← weight_masked]
  have hm := mask_sge (α := EReal) 0 i.val j.val (by decide) (by omega) (by omega) ((score a (head hp g) (row n ⟨0 + i.val, by omega⟩) (row n ⟨0 + j.val, by omega⟩) : ℝ) : EReal) ⊥
  have hle : (0 + j.val ≤ 0 + i.val) ↔ ((row n ⟨0 + j.val, by omega⟩) ≤ (row n ⟨0 + i.val, by omega⟩)) := by
    rw [Fin.le_def]
    show _ ↔ 1024 * n.val + (0 + j.val) ≤ 1024 * n.val + (0 + i.val)
    omega
  simp only [hle] at hm
  rw [← hm]
  have e : i = (⟨0 + i.val, by omega⟩ : Fin 1024) := Fin.ext (Nat.zero_add _).symm
  exact congrArg (fun z => Ideal.exp (_ - z)) (congrArg (fun r => ((lse a (head hp g) (row n r) : ℝ) : EReal)) e)

/-- The gradients of the scores of a part of a tile. -/
theorem dsA_val {a : Data} {hp n : Fin 4} {b : Blocks Ideal} (R : Rep a hp n n b) (g : Fin 2) (j : Fin 512) (i : Fin 1024) :
    dsA g b (ix2 j i) = ((dsc a (head hp g) (row n ⟨0 + i.val, by omega⟩) (row n ⟨0 + j.val, by omega⟩) : ℝ) : EReal) := by
  unfold dsA
  rw [sA_at, wA_val R g, dwt_win R g, delta_win R g, ds_of]

/-- What a part of a tile adds to the keys' gradient. -/
theorem dkA_val {a : Data} {hp n : Fin 4} {b : Blocks Ideal} (R : Rep a hp n n b) (g : Fin 2) (acc : S1024x512.Idx → EReal) (r : Fin 1024) (c : Fin 512) :
    dkA (F := Ideal) g b acc (ix2 r c) = acc (ix2 r c) + ((if 0 ≤ r.val ∧ r.val < 0 + 512 ∧ 256 * g.val ≤ c.val ∧ c.val < 256 * g.val + 256 then tk' a hp n (row n r) c else 0 : ℝ) : EReal) := by
  unfold dkA
  refine putAt_at acc 0 (256 * g.val) (by revert g; decide) _ (fun r c => tk' a hp n (row n r) c) (fun j c => ?_) r c
  rw [kA_at]
  congr 1
  unfold tk'
  rw [bcol_head, Cert.Grad.hd_col]
  rw [← coe_sum]
  refine Finset.sum_congr rfl fun i _ => ?_
  rw [dsA_val R g, win_at, R.q, bcol_head, ← EReal.coe_mul]
  have e0 : (⟨0 + i.val, by omega⟩ : Fin 1024) = i := Fin.ext (Nat.zero_add _)
  rw [e0]

/-- What a part of a tile adds to the values' gradient. -/
theorem dvA_val {a : Data} {hp n : Fin 4} {b : Blocks Ideal} (R : Rep a hp n n b) (g : Fin 2) (acc : S1024x256.Idx → EReal) (r : Fin 1024) (c : Fin 256) :
    dvA (F := Ideal) g b acc (ix2 r c) = acc (ix2 r c) + ((if 0 ≤ r.val ∧ r.val < 0 + 512 ∧ 128 * g.val ≤ c.val ∧ c.val < 128 * g.val + 128 then tv' a hp n (row n r) c else 0 : ℝ) : EReal) := by
  unfold dvA
  refine putAt_at acc 0 (128 * g.val) (by revert g; decide) _ (fun r c => tv' a hp n (row n r) c) (fun j c => ?_) r c
  rw [vA_at]
  congr 1
  unfold tv'
  rw [bvcol_head, Cert.Grad.vhd_vcol]
  rw [← coe_sum]
  refine Finset.sum_congr rfl fun i _ => ?_
  rw [wA_val R g, win_at, R.d, bvcol_head, ← EReal.coe_mul]
  have e0 : (⟨0 + i.val, by omega⟩ : Fin 1024) = i := Fin.ext (Nat.zero_add _)
  rw [e0]

/-- What a part of a tile adds to the queries' gradient. -/
theorem dqA_val {a : Data} {hp n : Fin 4} {b : Blocks Ideal} (R : Rep a hp n n b) (g : Fin 2) (acc : S4096x512.Idx → EReal) (ρ : Fin 4096) (c : Fin 512) :
    dqA (F := Ideal) n g b acc (ix2 ρ c) = acc (ix2 ρ c) + ((if 1024 * n.val + 0 ≤ ρ.val ∧ ρ.val < 1024 * n.val + 0 + 1024 ∧ 256 * g.val ≤ c.val ∧ c.val < 256 * g.val + 256
      then ∑ j : Fin 512, dsc a (Cert.Grad.hd (bcol hp c)) ρ (row n ⟨0 + j.val, by omega⟩) * a.k (row n ⟨0 + j.val, by omega⟩) (bcol hp c) else 0 : ℝ) : EReal) := by
  unfold dqA
  refine putAt_at acc (1024 * n.val + 0) (256 * g.val) ⟨by omega, by omega⟩ _ (fun ρ c => ∑ j : Fin 512, dsc a (Cert.Grad.hd (bcol hp c)) ρ (row n ⟨0 + j.val, by omega⟩) * a.k (row n ⟨0 + j.val, by omega⟩) (bcol hp c)) (fun i c => ?_) ρ c
  rw [qA_at]
  congr 1
  rw [bcol_head, Cert.Grad.hd_col, ← coe_sum]
  refine Finset.sum_congr rfl fun j _ => ?_
  rw [dsA_val R g, win_at, R.k, bcol_head, ← EReal.coe_mul]
  have e : row n ⟨0 + i.val, by omega⟩ = ⟨1024 * n.val + 0 + i.val, by omega⟩ := Fin.ext (by show 1024 * n.val + (0 + i.val) = 1024 * n.val + 0 + i.val; omega)
  rw [e]

/-- The weights of a part of a tile. -/
theorem wB_val {a : Data} {hp n : Fin 4} {b : Blocks Ideal} (R : Rep a hp n n b) (g : Fin 2) (j : Fin 512) (i : Fin 512) :
    (k0_pay24 (F := Ideal) (win b.k 512 (256 * g.val) (R' := 512) (C' := 256) (by revert g; decide)) (win b.q 512 (256 * g.val) (R' := 512) (C' := 256) (by revert g; decide)) (winL b.l g) (ix2 j i) : EReal) = ((wt a (head hp g) (row n ⟨512 + i.val, by omega⟩) (row n ⟨512 + j.val, by omega⟩) : ℝ) : EReal) := by
  rw [pB_at, score_win R g, winL_at, R.l, ofBits_bot]
  rw [← weight_masked]
  have hm := mask_sge (α := EReal) 512 i.val j.val (by decide) (by omega) (by omega) ((score a (head hp g) (row n ⟨512 + i.val, by omega⟩) (row n ⟨512 + j.val, by omega⟩) : ℝ) : EReal) ⊥
  have hle : (512 + j.val ≤ 512 + i.val) ↔ ((row n ⟨512 + j.val, by omega⟩) ≤ (row n ⟨512 + i.val, by omega⟩)) := by
    rw [Fin.le_def]
    show _ ↔ 1024 * n.val + (512 + j.val) ≤ 1024 * n.val + (512 + i.val)
    omega
  simp only [hle] at hm
  rw [← hm]

/-- The gradients of the scores of a part of a tile. -/
theorem dsB_val {a : Data} {hp n : Fin 4} {b : Blocks Ideal} (R : Rep a hp n n b) (g : Fin 2) (j : Fin 512) (i : Fin 512) :
    dsB g b (ix2 j i) = ((dsc a (head hp g) (row n ⟨512 + i.val, by omega⟩) (row n ⟨512 + j.val, by omega⟩) : ℝ) : EReal) := by
  unfold dsB
  rw [sB_at, wB_val R g, dwt_win R g, delta_win R g, ds_of]

/-- What a part of a tile adds to the keys' gradient. -/
theorem dkB_val {a : Data} {hp n : Fin 4} {b : Blocks Ideal} (R : Rep a hp n n b) (g : Fin 2) (acc : S1024x512.Idx → EReal) (r : Fin 1024) (c : Fin 512) :
    dkB (F := Ideal) g b acc (ix2 r c) = acc (ix2 r c) + ((if 512 ≤ r.val ∧ r.val < 512 + 512 ∧ 256 * g.val ≤ c.val ∧ c.val < 256 * g.val + 256 then tk' a hp n (row n r) c else 0 : ℝ) : EReal) := by
  unfold dkB
  refine putAt_at acc 512 (256 * g.val) (by revert g; decide) _ (fun r c => tk' a hp n (row n r) c) (fun j c => ?_) r c
  rw [kB_at]
  congr 1
  unfold tk'
  rw [bcol_head, Cert.Grad.hd_col, sum_halves]
  rw [Finset.sum_eq_zero (s := (Finset.univ : Finset (Fin 512))) (f := fun x : Fin 512 => dsc a (head hp g) (row n ⟨0 + x.val, by omega⟩) (row n ⟨512 + j.val, by omega⟩) * a.q (row n ⟨0 + x.val, by omega⟩) (Cert.Grad.col (head hp g) c)) (fun x _ => by
    rw [dsc_masked, zero_mul]
    rw [Fin.le_def]
    show ¬ 1024 * n.val + (512 + j.val) ≤ 1024 * n.val + (0 + x.val)
    omega), zero_add]
  rw [← coe_sum]
  refine Finset.sum_congr rfl fun i _ => ?_
  rw [dsB_val R g, win_at, R.q, bcol_head, ← EReal.coe_mul]

/-- What a part of a tile adds to the values' gradient. -/
theorem dvB_val {a : Data} {hp n : Fin 4} {b : Blocks Ideal} (R : Rep a hp n n b) (g : Fin 2) (acc : S1024x256.Idx → EReal) (r : Fin 1024) (c : Fin 256) :
    dvB (F := Ideal) g b acc (ix2 r c) = acc (ix2 r c) + ((if 512 ≤ r.val ∧ r.val < 512 + 512 ∧ 128 * g.val ≤ c.val ∧ c.val < 128 * g.val + 128 then tv' a hp n (row n r) c else 0 : ℝ) : EReal) := by
  unfold dvB
  refine putAt_at acc 512 (128 * g.val) (by revert g; decide) _ (fun r c => tv' a hp n (row n r) c) (fun j c => ?_) r c
  rw [vB_at]
  congr 1
  unfold tv'
  rw [bvcol_head, Cert.Grad.vhd_vcol, sum_halves]
  rw [Finset.sum_eq_zero (s := (Finset.univ : Finset (Fin 512))) (f := fun x : Fin 512 => wt a (head hp g) (row n ⟨0 + x.val, by omega⟩) (row n ⟨512 + j.val, by omega⟩) * a.d (row n ⟨0 + x.val, by omega⟩) (Cert.Grad.vcol (head hp g) c)) (fun x _ => by
    rw [wt_masked, zero_mul]
    rw [Fin.le_def]
    show ¬ 1024 * n.val + (512 + j.val) ≤ 1024 * n.val + (0 + x.val)
    omega), zero_add]
  rw [← coe_sum]
  refine Finset.sum_congr rfl fun i _ => ?_
  rw [wB_val R g, win_at, R.d, bvcol_head, ← EReal.coe_mul]

/-- What a part of a tile adds to the queries' gradient. -/
theorem dqB_val {a : Data} {hp n : Fin 4} {b : Blocks Ideal} (R : Rep a hp n n b) (g : Fin 2) (acc : S4096x512.Idx → EReal) (ρ : Fin 4096) (c : Fin 512) :
    dqB (F := Ideal) n g b acc (ix2 ρ c) = acc (ix2 ρ c) + ((if 1024 * n.val + 512 ≤ ρ.val ∧ ρ.val < 1024 * n.val + 512 + 512 ∧ 256 * g.val ≤ c.val ∧ c.val < 256 * g.val + 256
      then ∑ j : Fin 512, dsc a (Cert.Grad.hd (bcol hp c)) ρ (row n ⟨512 + j.val, by omega⟩) * a.k (row n ⟨512 + j.val, by omega⟩) (bcol hp c) else 0 : ℝ) : EReal) := by
  unfold dqB
  refine putAt_at acc (1024 * n.val + 512) (256 * g.val) ⟨by omega, by omega⟩ _ (fun ρ c => ∑ j : Fin 512, dsc a (Cert.Grad.hd (bcol hp c)) ρ (row n ⟨512 + j.val, by omega⟩) * a.k (row n ⟨512 + j.val, by omega⟩) (bcol hp c)) (fun i c => ?_) ρ c
  rw [qB_at]
  congr 1
  rw [bcol_head, Cert.Grad.hd_col, ← coe_sum]
  refine Finset.sum_congr rfl fun j _ => ?_
  rw [dsB_val R g, win_at, R.k, bcol_head, ← EReal.coe_mul]
  have e : row n ⟨512 + i.val, by omega⟩ = ⟨1024 * n.val + 512 + i.val, by omega⟩ := Fin.ext (by show 1024 * n.val + (512 + i.val) = 1024 * n.val + 512 + i.val; omega)
  rw [e]

/-- The weights of a part of a tile. -/
theorem wO_val {a : Data} {hp n p : Fin 4} {b : Blocks Ideal} (R : Rep a hp n p b) (g : Fin 2) (hlt : p.val < n.val) (j : Fin 1024) (i : Fin 1024) :
    (k0_pay33 (F := Ideal) (win b.k 0 (256 * g.val) (R' := 1024) (C' := 256) (by revert g; decide)) (win b.q 0 (256 * g.val) (R' := 1024) (C' := 256) (by revert g; decide)) (winL b.l g) (ix2 j i) : EReal) = ((wt a (head hp g) (row n ⟨0 + i.val, by omega⟩) (row p ⟨0 + j.val, by omega⟩) : ℝ) : EReal) := by
  rw [pO_at, score_win R g, winL_at, R.l]
  have hle : (row p ⟨0 + j.val, by omega⟩) ≤ (row n ⟨0 + i.val, by omega⟩) := by
    rw [Fin.le_def]
    show 1024 * p.val + (0 + j.val) ≤ 1024 * n.val + (0 + i.val)
    omega
  rw [← weight_masked, if_pos hle]
  have e : i = (⟨0 + i.val, by omega⟩ : Fin 1024) := Fin.ext (Nat.zero_add _).symm
  exact congrArg (fun z => Ideal.exp (_ - z)) (congrArg (fun r => ((lse a (head hp g) (row n r) : ℝ) : EReal)) e)

/-- The gradients of the scores of a part of a tile. -/
theorem dsO_val {a : Data} {hp n p : Fin 4} {b : Blocks Ideal} (R : Rep a hp n p b) (g : Fin 2) (hlt : p.val < n.val) (j : Fin 1024) (i : Fin 1024) :
    dsO g b (ix2 j i) = ((dsc a (head hp g) (row n ⟨0 + i.val, by omega⟩) (row p ⟨0 + j.val, by omega⟩) : ℝ) : EReal) := by
  unfold dsO
  rw [sO_at, wO_val R g hlt, dwt_win R g, delta_win R g, ds_of]

/-- What a part of a tile adds to the keys' gradient. -/
theorem dkO_val {a : Data} {hp n p : Fin 4} {b : Blocks Ideal} (R : Rep a hp n p b) (g : Fin 2) (hlt : p.val < n.val) (acc : S1024x512.Idx → EReal) (r : Fin 1024) (c : Fin 512) :
    dkO (F := Ideal) g b acc (ix2 r c) = acc (ix2 r c) + ((if 0 ≤ r.val ∧ r.val < 0 + 1024 ∧ 256 * g.val ≤ c.val ∧ c.val < 256 * g.val + 256 then tk' a hp n (row p r) c else 0 : ℝ) : EReal) := by
  unfold dkO
  refine putAt_at acc 0 (256 * g.val) (by revert g; decide) _ (fun r c => tk' a hp n (row p r) c) (fun j c => ?_) r c
  rw [kO_at]
  congr 1
  unfold tk'
  rw [bcol_head, Cert.Grad.hd_col]
  rw [← coe_sum]
  refine Finset.sum_congr rfl fun i _ => ?_
  rw [dsO_val R g hlt, win_at, R.q, bcol_head, ← EReal.coe_mul]
  have e0 : (⟨0 + i.val, by omega⟩ : Fin 1024) = i := Fin.ext (Nat.zero_add _)
  rw [e0]

/-- What a part of a tile adds to the values' gradient. -/
theorem dvO_val {a : Data} {hp n p : Fin 4} {b : Blocks Ideal} (R : Rep a hp n p b) (g : Fin 2) (hlt : p.val < n.val) (acc : S1024x256.Idx → EReal) (r : Fin 1024) (c : Fin 256) :
    dvO (F := Ideal) g b acc (ix2 r c) = acc (ix2 r c) + ((if 0 ≤ r.val ∧ r.val < 0 + 1024 ∧ 128 * g.val ≤ c.val ∧ c.val < 128 * g.val + 128 then tv' a hp n (row p r) c else 0 : ℝ) : EReal) := by
  unfold dvO
  refine putAt_at acc 0 (128 * g.val) (by revert g; decide) _ (fun r c => tv' a hp n (row p r) c) (fun j c => ?_) r c
  rw [vO_at]
  congr 1
  unfold tv'
  rw [bvcol_head, Cert.Grad.vhd_vcol]
  rw [← coe_sum]
  refine Finset.sum_congr rfl fun i _ => ?_
  rw [wO_val R g hlt, win_at, R.d, bvcol_head, ← EReal.coe_mul]
  have e0 : (⟨0 + i.val, by omega⟩ : Fin 1024) = i := Fin.ext (Nat.zero_add _)
  rw [e0]

/-- What a part of a tile adds to the queries' gradient. -/
theorem dqO_val {a : Data} {hp n p : Fin 4} {b : Blocks Ideal} (R : Rep a hp n p b) (g : Fin 2) (hlt : p.val < n.val) (acc : S4096x512.Idx → EReal) (ρ : Fin 4096) (c : Fin 512) :
    dqO (F := Ideal) n g b acc (ix2 ρ c) = acc (ix2 ρ c) + ((if 1024 * n.val + 0 ≤ ρ.val ∧ ρ.val < 1024 * n.val + 0 + 1024 ∧ 256 * g.val ≤ c.val ∧ c.val < 256 * g.val + 256
      then ∑ j : Fin 1024, dsc a (Cert.Grad.hd (bcol hp c)) ρ (row p ⟨0 + j.val, by omega⟩) * a.k (row p ⟨0 + j.val, by omega⟩) (bcol hp c) else 0 : ℝ) : EReal) := by
  unfold dqO
  refine putAt_at acc (1024 * n.val + 0) (256 * g.val) ⟨by omega, by omega⟩ _ (fun ρ c => ∑ j : Fin 1024, dsc a (Cert.Grad.hd (bcol hp c)) ρ (row p ⟨0 + j.val, by omega⟩) * a.k (row p ⟨0 + j.val, by omega⟩) (bcol hp c)) (fun i c => ?_) ρ c
  rw [qO_at]
  congr 1
  rw [bcol_head, Cert.Grad.hd_col, ← coe_sum]
  refine Finset.sum_congr rfl fun j _ => ?_
  rw [dsO_val R g hlt, win_at, R.k, bcol_head, ← EReal.coe_mul]
  have e : row n ⟨0 + i.val, by omega⟩ = ⟨1024 * n.val + 0 + i.val, by omega⟩ := Fin.ext (by show 1024 * n.val + (0 + i.val) = 1024 * n.val + 0 + i.val; omega)
  rw [e]

end Cert.KernelIdeal.Attn

end
-- ==== Proof.Attn.Geo.lean ====
/- Where each block of the kernel lies in its array. -/
module

public import proofs.«01_k».proof.Proof.Attn.Dats
public import proofs.«01_k».proof.Proof.Attn.Unit
public import Idealize.ShloMosaic.Lib.Pipeline.ValueKit.Point

@[expose] public section

set_option maxRecDepth 16384
set_option Elab.async false

noncomputable section

namespace Cert.KernelIdeal.Attn

open Cert.KernelIdeal Cert.KernelIdeal.Gen
open Idealize.ShloMosaic

/-- The key tile of the pair numbered `p`. -/
def kn : ℕ → Fin 4 := fun p => (![0, 0, 0, 0, 1, 1, 1, 2, 2, 3] : Fin 10 → Fin 4) (Fin.ofNat 10 p)

/-- The pair of heads of a point. -/
def hn : ℕ → Fin 4 := fun n => Fin.ofNat 4 (n / 10)

/-- Where the windows lie at a point. -/
abbrev placeAt (t : Fin (cfgA Ideal).N) : Prop :=
  (((cfgA Ideal).win (0 : Fin 9)).index t (0 : Fin 2) = (qn t.val).val ∧ ((cfgA Ideal).win (0 : Fin 9)).index t (1 : Fin 2) = (hn t.val).val)
  ∧ (((cfgA Ideal).win (1 : Fin 9)).index t (0 : Fin 2) = (kn t.val).val ∧ ((cfgA Ideal).win (1 : Fin 9)).index t (1 : Fin 2) = (hn t.val).val)
  ∧ (((cfgA Ideal).win (2 : Fin 9)).index t (0 : Fin 2) = (kn t.val).val ∧ ((cfgA Ideal).win (2 : Fin 9)).index t (1 : Fin 2) = (hn t.val).val)
  ∧ (((cfgA Ideal).win (3 : Fin 9)).index t (0 : Fin 2) = (qn t.val).val ∧ ((cfgA Ideal).win (3 : Fin 9)).index t (1 : Fin 2) = (hn t.val).val)
  ∧ (((cfgA Ideal).win (4 : Fin 9)).index t (0 : Fin 2) = (qn t.val).val ∧ ((cfgA Ideal).win (4 : Fin 9)).index t (1 : Fin 2) = (hn t.val).val)
  ∧ (((cfgA Ideal).win (5 : Fin 9)).index t (0 : Fin 3) = (hn t.val).val ∧ ((cfgA Ideal).win (5 : Fin 9)).index t (1 : Fin 3) = 0 ∧ ((cfgA Ideal).win (5 : Fin 9)).index t (2 : Fin 3) = (qn t.val).val)
  ∧ (((cfgA Ideal).win (6 : Fin 9)).index t (0 : Fin 2) = 0 ∧ ((cfgA Ideal).win (6 : Fin 9)).index t (1 : Fin 2) = (hn t.val).val)
  ∧ (((cfgA Ideal).win (7 : Fin 9)).index t (0 : Fin 2) = (kn t.val).val ∧ ((cfgA Ideal).win (7 : Fin 9)).index t (1 : Fin 2) = (hn t.val).val)
  ∧ (((cfgA Ideal).win (8 : Fin 9)).index t (0 : Fin 2) = (kn t.val).val ∧ ((cfgA Ideal).win (8 : Fin 9)).index t (1 : Fin 2) = (hn t.val).val)

/-- The windows' places at every point. -/
theorem place_all : ∀ t : Fin (cfgA Ideal).N, placeAt t := by decide +kernel

/-- The queries' gradients written back fill their array. -/
theorem covers6 : ((cfgA Ideal).win (6 : Fin 9)).Covers := by decide +kernel
/-- The keys' gradients written back fill their array. -/
theorem covers7 : ((cfgA Ideal).win (7 : Fin 9)).Covers := by decide +kernel
/-- The values' gradients written back fill their array. -/
theorem covers8 : ((cfgA Ideal).win (8 : Fin 9)).Covers := by decide +kernel

variable (V : (c : Dev nD) → (b : Ref sig .tc) → Buf (Elt Ideal) ((c.tc : Thread nD τ).loc b)) (c : Dev nD) (t : Fin (cfgA Ideal).N)

/-- The queries' block at an index. -/
theorem blk_q (r : Fin 1024) (x : Fin 512) : (blks V c t).q (ix2 r x) = (V c main_arg0 : S4096x2048.Idx → EReal) (ix2 (row (qn t.val) r) (bcol (hn t.val) x)) := by
  obtain ⟨⟨e0, e1⟩, -⟩ := place_all t
  unfold blks iblk
  refine congrArg (V c main_arg0 : S4096x2048.Idx → EReal) ?_
  funext a
  apply Fin.ext
  fin_cases a
  · refine (Pipeline.Window.rect_emb_val ((cfgA Ideal).win (0 : Fin 9)) t (ix2 r x) (0 : Fin 2)).trans ?_
    rw [e0]
    show (qn t.val).val * 1024 + r.val = 1024 * (qn t.val).val + r.val
    omega
  · refine (Pipeline.Window.rect_emb_val ((cfgA Ideal).win (0 : Fin 9)) t (ix2 r x) (1 : Fin 2)).trans ?_
    rw [e1]
    show (hn t.val).val * 512 + x.val = 512 * (hn t.val).val + x.val
    omega

/-- The keys' block at an index. -/
theorem blk_k (r : Fin 1024) (x : Fin 512) : (blks V c t).k (ix2 r x) = (V c main_arg1 : S4096x2048.Idx → EReal) (ix2 (row (kn t.val) r) (bcol (hn t.val) x)) := by
  obtain ⟨-, ⟨e0, e1⟩, -⟩ := place_all t
  unfold blks iblk
  refine congrArg (V c main_arg1 : S4096x2048.Idx → EReal) ?_
  funext a
  apply Fin.ext
  fin_cases a
  · refine (Pipeline.Window.rect_emb_val ((cfgA Ideal).win (1 : Fin 9)) t (ix2 r x) (0 : Fin 2)).trans ?_
    rw [e0]
    show (kn t.val).val * 1024 + r.val = 1024 * (kn t.val).val + r.val
    omega
  · refine (Pipeline.Window.rect_emb_val ((cfgA Ideal).win (1 : Fin 9)) t (ix2 r x) (1 : Fin 2)).trans ?_
    rw [e1]
    show (hn t.val).val * 512 + x.val = 512 * (hn t.val).val + x.val
    omega

/-- The values' block at an index. -/
theorem blk_v (r : Fin 1024) (x : Fin 256) : (blks V c t).v (ix2 r x) = (V c main_arg2 : S4096x1024.Idx → EReal) (ix2 (row (kn t.val) r) (bvcol (hn t.val) x)) := by
  obtain ⟨-, -, ⟨e0, e1⟩, -⟩ := place_all t
  unfold blks iblk
  refine congrArg (V c main_arg2 : S4096x1024.Idx → EReal) ?_
  funext a
  apply Fin.ext
  fin_cases a
  · refine (Pipeline.Window.rect_emb_val ((cfgA Ideal).win (2 : Fin 9)) t (ix2 r x) (0 : Fin 2)).trans ?_
    rw [e0]
    show (kn t.val).val * 1024 + r.val = 1024 * (kn t.val).val + r.val
    omega
  · refine (Pipeline.Window.rect_emb_val ((cfgA Ideal).win (2 : Fin 9)) t (ix2 r x) (1 : Fin 2)).trans ?_
    rw [e1]
    show (hn t.val).val * 256 + x.val = 256 * (hn t.val).val + x.val
    omega

/-- The output's block at an index. -/
theorem blk_o (r : Fin 1024) (x : Fin 256) : (blks V c t).o (ix2 r x) = (V c main_v36 : S4096x1024.Idx → EReal) (ix2 (row (qn t.val) r) (bvcol (hn t.val) x)) := by
  obtain ⟨-, -, -, ⟨e0, e1⟩, -⟩ := place_all t
  unfold blks iblk
  refine congrArg (V c main_v36 : S4096x1024.Idx → EReal) ?_
  funext a
  apply Fin.ext
  fin_cases a
  · refine (Pipeline.Window.rect_emb_val ((cfgA Ideal).win (3 : Fin 9)) t (ix2 r x) (0 : Fin 2)).trans ?_
    rw [e0]
    show (qn t.val).val * 1024 + r.val = 1024 * (qn t.val).val + r.val
    omega
  · refine (Pipeline.Window.rect_emb_val ((cfgA Ideal).win (3 : Fin 9)) t (ix2 r x) (1 : Fin 2)).trans ?_
    rw [e1]
    show (hn t.val).val * 256 + x.val = 256 * (hn t.val).val + x.val
    omega

/-- The output gradient's block at an index. -/
theorem blk_d (r : Fin 1024) (x : Fin 256) : (blks V c t).d (ix2 r x) = (V c main_arg3 : S4096x1024.Idx → EReal) (ix2 (row (qn t.val) r) (bvcol (hn t.val) x)) := by
  obtain ⟨-, -, -, -, ⟨e0, e1⟩, -⟩ := place_all t
  unfold blks iblk
  refine congrArg (V c main_arg3 : S4096x1024.Idx → EReal) ?_
  funext a
  apply Fin.ext
  fin_cases a
  · refine (Pipeline.Window.rect_emb_val ((cfgA Ideal).win (4 : Fin 9)) t (ix2 r x) (0 : Fin 2)).trans ?_
    rw [e0]
    show (qn t.val).val * 1024 + r.val = 1024 * (qn t.val).val + r.val
    omega
  · refine (Pipeline.Window.rect_emb_val ((cfgA Ideal).win (4 : Fin 9)) t (ix2 r x) (1 : Fin 2)).trans ?_
    rw [e1]
    show (hn t.val).val * 256 + x.val = 256 * (hn t.val).val + x.val
    omega

/-- The block of the softmax's logarithms at an index. -/
theorem blk_l (g : Fin 2) (r : Fin 1024) : (blks V c t).l (ix3 g 0 r) = (V c main_v37 : S8x1x4096.Idx → EReal) (ix3 (head (hn t.val) g) 0 (row (qn t.val) r)) := by
  obtain ⟨-, -, -, -, -, ⟨e0, e1, e2⟩, -⟩ := place_all t
  unfold blks iblk
  refine congrArg (V c main_v37 : S8x1x4096.Idx → EReal) ?_
  funext a
  apply Fin.ext
  fin_cases a
  · refine (Pipeline.Window.rect_emb_val ((cfgA Ideal).win (5 : Fin 9)) t (ix3 g 0 r) (0 : Fin 3)).trans ?_
    rw [e0]
    show (hn t.val).val * 2 + g.val = 2 * (hn t.val).val + g.val
    omega
  · refine (Pipeline.Window.rect_emb_val ((cfgA Ideal).win (5 : Fin 9)) t (ix3 g 0 r) (1 : Fin 3)).trans ?_
    rw [e1]
    rfl
  · refine (Pipeline.Window.rect_emb_val ((cfgA Ideal).win (5 : Fin 9)) t (ix3 g 0 r) (2 : Fin 3)).trans ?_
    rw [e2]
    show (qn t.val).val * 1024 + r.val = 1024 * (qn t.val).val + r.val
    omega

end Cert.KernelIdeal.Attn

end
-- ==== Proof.Attn.Steps.lean ====
/- What one grid point adds to the three running gradients, in all. -/
module

public import proofs.«01_k».proof.Proof.Attn.Unit

@[expose] public section

set_option maxRecDepth 16384

noncomputable section

namespace Cert.KernelIdeal.Attn

open Cert.KernelIdeal Cert.KernelIdeal.Gen
open Idealize.ShloMosaic
open Cert.Grad (Data dsc dsc_masked)

/-- Two numbers added one after the other. -/
theorem collect2 {x : EReal} {a b e : ℝ} (h : a + b = e) : x + (a : EReal) + (b : EReal) = x + (e : EReal) := by
  subst h
  rw [EReal.coe_add, add_assoc]

/-- Four numbers added one after the other. -/
theorem collect4 {x : EReal} {a b c d e : ℝ} (h : a + b + (c + d) = e) : x + (a : EReal) + (b : EReal) + (c : EReal) + (d : EReal) = x + (e : EReal) := by
  rw [collect2 (rfl : a + b = a + b), add_assoc, ← EReal.coe_add, collect2 h]

/-- Both heads' columns, of a tile below the diagonal. -/
theorem both (r c w : ℕ) (t : ℝ) (hr : r < 1024) (hc : c < 2 * w) :
    (if 0 ≤ r ∧ r < 0 + 1024 ∧ w * ((0 : Fin 2) : ℕ) ≤ c ∧ c < w * ((0 : Fin 2) : ℕ) + w then t else 0)
      + (if 0 ≤ r ∧ r < 0 + 1024 ∧ w * ((1 : Fin 2) : ℕ) ≤ c ∧ c < w * ((1 : Fin 2) : ℕ) + w then t else 0) = t := by
  have e0 : w * ((0 : Fin 2) : ℕ) = 0 := Nat.mul_zero w
  have e1 : w * ((1 : Fin 2) : ℕ) = w := Nat.mul_one w
  rw [e0, e1]
  split_ifs <;> first | (exfalso; omega) | simp

/-- Both heads' columns and both halves' rows, of a tile on the diagonal. -/
theorem both_halves (r c w : ℕ) (t : ℝ) (hr : r < 1024) (hc : c < 2 * w) :
    (if 0 ≤ r ∧ r < 0 + 512 ∧ w * ((0 : Fin 2) : ℕ) ≤ c ∧ c < w * ((0 : Fin 2) : ℕ) + w then t else 0)
      + (if 0 ≤ r ∧ r < 0 + 512 ∧ w * ((1 : Fin 2) : ℕ) ≤ c ∧ c < w * ((1 : Fin 2) : ℕ) + w then t else 0)
      + ((if 512 ≤ r ∧ r < 512 + 512 ∧ w * ((0 : Fin 2) : ℕ) ≤ c ∧ c < w * ((0 : Fin 2) : ℕ) + w then t else 0)
      + (if 512 ≤ r ∧ r < 512 + 512 ∧ w * ((1 : Fin 2) : ℕ) ≤ c ∧ c < w * ((1 : Fin 2) : ℕ) + w then t else 0)) = t := by
  have e0 : w * ((0 : Fin 2) : ℕ) = 0 := Nat.mul_zero w
  have e1 : w * ((1 : Fin 2) : ℕ) = w := Nat.mul_one w
  rw [e0, e1]
  split_ifs <;> first | (exfalso; omega) | simp

/-- Both heads' columns of a tile's queries, below the diagonal. -/
theorem both_q (n ρ c : ℕ) (t : ℝ) (hc : c < 512) :
    (if 1024 * n + 0 ≤ ρ ∧ ρ < 1024 * n + 0 + 1024 ∧ 256 * ((0 : Fin 2) : ℕ) ≤ c ∧ c < 256 * ((0 : Fin 2) : ℕ) + 256 then t else 0)
      + (if 1024 * n + 0 ≤ ρ ∧ ρ < 1024 * n + 0 + 1024 ∧ 256 * ((1 : Fin 2) : ℕ) ≤ c ∧ c < 256 * ((1 : Fin 2) : ℕ) + 256 then t else 0) = if ρ / 1024 = n then t else 0 := by
  have e0 : 256 * ((0 : Fin 2) : ℕ) = 0 := rfl
  have e1 : 256 * ((1 : Fin 2) : ℕ) = 256 := rfl
  rw [e0, e1]
  split_ifs <;> first | (exfalso; omega) | simp

/-- Both heads' columns of a tile's queries, on the diagonal: the second half of the keys is only for the second half of the queries. -/
theorem both_halves_q (n ρ c : ℕ) (s s' t : ℝ) (hc : c < 512) (hs : t = s + s') (hz : 1024 * n ≤ ρ → ρ < 1024 * n + 512 → s' = 0) :
    (if 1024 * n + 0 ≤ ρ ∧ ρ < 1024 * n + 0 + 1024 ∧ 256 * ((0 : Fin 2) : ℕ) ≤ c ∧ c < 256 * ((0 : Fin 2) : ℕ) + 256 then s else 0)
      + (if 1024 * n + 0 ≤ ρ ∧ ρ < 1024 * n + 0 + 1024 ∧ 256 * ((1 : Fin 2) : ℕ) ≤ c ∧ c < 256 * ((1 : Fin 2) : ℕ) + 256 then s else 0)
      + ((if 1024 * n + 512 ≤ ρ ∧ ρ < 1024 * n + 512 + 512 ∧ 256 * ((0 : Fin 2) : ℕ) ≤ c ∧ c < 256 * ((0 : Fin 2) : ℕ) + 256 then s' else 0)
      + (if 1024 * n + 512 ≤ ρ ∧ ρ < 1024 * n + 512 + 512 ∧ 256 * ((1 : Fin 2) : ℕ) ≤ c ∧ c < 256 * ((1 : Fin 2) : ℕ) + 256 then s' else 0)) = if ρ / 1024 = n then t else 0 := by
  have e0 : 256 * ((0 : Fin 2) : ℕ) = 0 := rfl
  have e1 : 256 * ((1 : Fin 2) : ℕ) = 256 := rfl
  rw [e0, e1, hs]
  by_cases hlow : 1024 * n ≤ ρ ∧ ρ < 1024 * n + 512
  · rw [hz hlow.1 hlow.2]
    split_ifs <;> first | (exfalso; omega) | simp
  · split_ifs <;> first | (exfalso; omega) | simp

/-- A tile below the diagonal. -/
theorem below_val {a : Data} {hp n p : Fin 4} {b : Blocks Ideal} (R : Rep a hp n p b) (hlt : p.val < n.val) (s : Grads Ideal) :
    (∀ (ρ : Fin 4096) (c : Fin 512), (below n b s).dq (ix2 ρ c) = (s.dq (ix2 ρ c) + ((if ρ.val / 1024 = n.val then tq' a hp p ρ c else 0 : ℝ) : EReal) : EReal))
    ∧ (∀ (r : Fin 1024) (c : Fin 512), (below n b s).dk (ix2 r c) = (s.dk (ix2 r c) + ((tk' a hp n (row p r) c : ℝ) : EReal) : EReal))
    ∧ (∀ (r : Fin 1024) (c : Fin 256), (below n b s).dv (ix2 r c) = (s.dv (ix2 r c) + ((tv' a hp n (row p r) c : ℝ) : EReal) : EReal)) := by
  unfold below
  refine ⟨fun ρ c => ?_, fun r c => ?_, fun r c => ?_⟩
  · dsimp only
    rw [dqO_val R 1 hlt, dqO_val R 0 hlt]
    refine collect2 ?_
    rw [sum_zero_add (fun x => dsc a (Cert.Grad.hd (bcol hp c)) ρ (row p x) * a.k (row p x) (bcol hp c))]
    exact both_q n.val ρ.val c.val _ c.isLt
  · dsimp only
    rw [dkO_val R 1 hlt, dkO_val R 0 hlt]
    exact collect2 (both r.val c.val 256 _ r.isLt c.isLt)
  · dsimp only
    rw [dvO_val R 1 hlt, dvO_val R 0 hlt]
    exact collect2 (both r.val c.val 128 _ r.isLt c.isLt)

/-- A tile on the diagonal. -/
theorem diag_val {a : Data} {hp n : Fin 4} {b : Blocks Ideal} (R : Rep a hp n n b) (s : Grads Ideal) :
    (∀ (ρ : Fin 4096) (c : Fin 512), (diag n b s).dq (ix2 ρ c) = (s.dq (ix2 ρ c) + ((if ρ.val / 1024 = n.val then tq' a hp n ρ c else 0 : ℝ) : EReal) : EReal))
    ∧ (∀ (r : Fin 1024) (c : Fin 512), (diag n b s).dk (ix2 r c) = (s.dk (ix2 r c) + ((tk' a hp n (row n r) c : ℝ) : EReal) : EReal))
    ∧ (∀ (r : Fin 1024) (c : Fin 256), (diag n b s).dv (ix2 r c) = (s.dv (ix2 r c) + ((tv' a hp n (row n r) c : ℝ) : EReal) : EReal)) := by
  unfold diag
  refine ⟨fun ρ c => ?_, fun r c => ?_, fun r c => ?_⟩
  · dsimp only
    rw [dqB_val R 1, dqB_val R 0, dqA_val R 1, dqA_val R 0]
    refine collect4 (both_halves_q n.val ρ.val c.val _ _ _ c.isLt (sum_halves _) fun _ hρ => ?_)
    refine Finset.sum_eq_zero fun j _ => ?_
    rw [dsc_masked, zero_mul]
    rw [Fin.le_def]
    show ¬ 1024 * n.val + (512 + j.val) ≤ ρ.val
    omega
  · dsimp only
    rw [dkB_val R 1, dkB_val R 0, dkA_val R 1, dkA_val R 0]
    exact collect4 (both_halves r.val c.val 256 _ r.isLt c.isLt)
  · dsimp only
    rw [dvB_val R 1, dvB_val R 0, dvA_val R 1, dvA_val R 0]
    exact collect4 (both_halves r.val c.val 128 _ r.isLt c.isLt)

end Cert.KernelIdeal.Attn

end
-- ==== Proof.Attn.Traj.lean ====
/- The running gradients after each pair of tiles, and what they are after the last. -/
module

public import proofs.«01_k».proof.Proof.Attn.Geo
public import proofs.«01_k».proof.Proof.Attn.Steps

@[expose] public section

set_option maxRecDepth 16384

noncomputable section

namespace Cert.KernelIdeal.Attn

open Cert.KernelIdeal Cert.KernelIdeal.Gen
open Idealize.ShloMosaic
open Cert.Grad (Data dsc wt dsc_masked wt_masked)

/-! ### The tables of pairs -/

/-- A point's number among ten depends on its remainder. -/
theorem ofNat_mod (n : ℕ) : Fin.ofNat 10 n = Fin.ofNat 10 (n % 10) := Fin.ext (Nat.mod_mod n 10).symm

/-- The queries' tile repeats every ten points. -/
theorem qn_mod (n : ℕ) : qn n = qn (n % 10) := congrArg (![0, 1, 2, 3, 1, 2, 3, 2, 3, 3] : Fin 10 → Fin 4) (ofNat_mod n)

/-- The keys' tile repeats every ten points. -/
theorem kn_mod (n : ℕ) : kn n = kn (n % 10) := congrArg (![0, 0, 0, 0, 1, 1, 1, 2, 2, 3] : Fin 10 → Fin 4) (ofNat_mod n)

/-- The queries' tiles of the ten pairs. -/
theorem qn_tab : qn 0 = 0 ∧ qn 1 = 1 ∧ qn 2 = 2 ∧ qn 3 = 3 ∧ qn 4 = 1 ∧ qn 5 = 2 ∧ qn 6 = 3 ∧ qn 7 = 2 ∧ qn 8 = 3 ∧ qn 9 = 3 :=
  ⟨rfl, rfl, rfl, rfl, rfl, rfl, rfl, rfl, rfl, rfl⟩

/-- The keys' tiles of the ten pairs. -/
theorem kn_tab : kn 0 = 0 ∧ kn 1 = 0 ∧ kn 2 = 0 ∧ kn 3 = 0 ∧ kn 4 = 1 ∧ kn 5 = 1 ∧ kn 6 = 1 ∧ kn 7 = 2 ∧ kn 8 = 2 ∧ kn 9 = 3 :=
  ⟨rfl, rfl, rfl, rfl, rfl, rfl, rfl, rfl, rfl, rfl⟩

/-- A diagonal pair. -/
theorem kn_diag {n : ℕ} (h : onDiag n) : kn n = qn n := by
  rw [qn_mod, kn_mod]
  obtain ⟨q0, q1, q2, q3, q4, q5, q6, q7, q8, q9⟩ := qn_tab
  obtain ⟨k0, k1, k2, k3, k4, k5, k6, k7, k8, k9⟩ := kn_tab
  rcases h with h | h | h | h <;> rw [h] <;> simp only [q0, q4, q7, q9, k0, k4, k7, k9]

/-- A pair below the diagonal. -/
theorem kn_below {n : ℕ} (h : ¬ onDiag n) : (kn n).val < (qn n).val := by
  rw [qn_mod, kn_mod]
  unfold onDiag at h
  have hlt : n % 10 < 10 := Nat.mod_lt _ (by decide)
  generalize n % 10 = p at *
  interval_cases p <;> first | (exfalso; omega) | decide

/-- A pair below the diagonal has the keys of the pair before it. -/
theorem kn_succ : ∀ p, p < 9 → ¬ onDiag (p + 1) → kn (p + 1) = kn p := by
  intro p hp h
  unfold onDiag at h
  interval_cases p <;> first | (exfalso; omega) | rfl

/-- A diagonal pair has keys that no earlier pair has. -/
theorem kn_new : ∀ p, p < 9 → onDiag (p + 1) → ∀ p', p' < p + 1 → kn p' ≠ kn (p + 1) := by
  intro p hp h p' hp'
  unfold onDiag at h
  interval_cases p <;> first | (exfalso; omega) | (interval_cases p' <;> decide)

/-! ### One point -/

/-- What a point does to the running gradients. -/
theorem step_val {a : Data} {hp : Fin 4} (n : ℕ) {b : Blocks Ideal} (R : Rep a hp (qn n) (kn n) b) (s : Grads Ideal) :
    (∀ (ρ : Fin 4096) (c : Fin 512), (step n b s).dq (ix2 ρ c) = ((if n % 10 = 0 then 0 else s.dq (ix2 ρ c) : EReal) + ((if ρ.val / 1024 = (qn n).val then tq' a hp (kn n) ρ c else 0 : ℝ) : EReal) : EReal))
    ∧ (∀ (r : Fin 1024) (c : Fin 512), (step n b s).dk (ix2 r c) = ((if onDiag n then 0 else s.dk (ix2 r c) : EReal) + ((tk' a hp (qn n) (row (kn n) r) c : ℝ) : EReal) : EReal))
    ∧ (∀ (r : Fin 1024) (c : Fin 256), (step n b s).dv (ix2 r c) = ((if onDiag n then 0 else s.dv (ix2 r c) : EReal) + ((tv' a hp (qn n) (row (kn n) r) c : ℝ) : EReal) : EReal)) := by
  have z1 : ∀ i, (k0_pay1 (F := Ideal) i : EReal) = 0 := fun i => by pointwise [k0_pay1]
  have z2 : ∀ i, (k0_pay2 (F := Ideal) i : EReal) = 0 := fun i => by pointwise [k0_pay2]
  have z3 : ∀ i, (k0_pay3 (F := Ideal) i : EReal) = 0 := fun i => by pointwise [k0_pay3]
  unfold step
  by_cases h : onDiag n
  · rw [if_pos h]
    simp only [if_pos h]
    rw [kn_diag h] at R ⊢
    obtain ⟨h1, h2, h3⟩ := diag_val R ⟨if n % 10 = 0 then k0_pay1 (F := Ideal) else s.dq, k0_pay2 (F := Ideal), k0_pay3 (F := Ideal)⟩
    refine ⟨fun ρ c => (h1 ρ c).trans ?_, fun r c => (h2 r c).trans ?_, fun r c => (h3 r c).trans ?_⟩
    · dsimp only
      split_ifs
      · rw [z1]
      · rw [z1]
      · rfl
      · rfl
    · dsimp only
      rw [z2]
    · dsimp only
      rw [z3]
  · have h0 : ¬ n % 10 = 0 := fun h0 => h (Or.inl h0)
    rw [if_neg h]
    simp only [if_neg h, if_neg h0]
    exact below_val R (kn_below h) s

/-! ### All points of a pair of heads -/

section
variable (V : (c : Dev nD) → (b : Ref sig .tc) → Buf (Elt Ideal) ((c.tc : Thread nD τ).loc b)) (c : Dev nD)

/-- The running gradients after the pair of tiles `p` of the pair of heads `g`. -/
theorem traj_at {a : Data} (hR : ∀ t : Fin (cfgA Ideal).N, Rep a (hn t.val) (qn t.val) (kn t.val) (blks V c t)) (g : Fin 4) : ∀ p, p < 10 →
    (∀ (ρ : Fin 4096) (x : Fin 512), (traj V c (10 * g.val + p + 1)).dq (ix2 ρ x) = ((∑ p' ∈ Finset.range (p + 1), if ρ.val / 1024 = (qn p').val then tq' a g (kn p') ρ x else 0 : ℝ) : EReal))
    ∧ (∀ (r : Fin 1024) (x : Fin 512), (traj V c (10 * g.val + p + 1)).dk (ix2 r x) = ((∑ p' ∈ Finset.range (p + 1), if kn p' = kn p then tk' a g (qn p') (row (kn p) r) x else 0 : ℝ) : EReal))
    ∧ (∀ (r : Fin 1024) (x : Fin 256), (traj V c (10 * g.val + p + 1)).dv (ix2 r x) = ((∑ p' ∈ Finset.range (p + 1), if kn p' = kn p then tv' a g (qn p') (row (kn p) r) x else 0 : ℝ) : EReal)) := by
  intro p
  induction p with
  | zero =>
    intro _
    have hN : 10 * g.val + 0 < (cfgA Ideal).N := by show _ < 40; omega
    have R := hR ⟨10 * g.val + 0, hN⟩
    have e := traj_succ V c ⟨10 * g.val + 0, hN⟩
    dsimp only at e R
    have hm : (10 * g.val + 0) % 10 = 0 := by omega
    have eq : qn (10 * g.val + 0) = qn (0) := (qn_mod _).trans (congrArg qn hm)
    have ek : kn (10 * g.val + 0) = kn (0) := (kn_mod _).trans (congrArg kn hm)
    rw [show hn (10 * g.val + 0) = g from Fin.ext (by show (10 * g.val + 0) / 10 % 4 = g.val; omega)] at R
    obtain ⟨h1, h2, h3⟩ := step_val _ R (traj V c (10 * g.val + 0))
    rw [← e] at h1 h2 h3
    refine ⟨fun ρ x => (h1 ρ x).trans ?_, fun r x => (h2 r x).trans ?_, fun r x => (h3 r x).trans ?_⟩
    · rw [if_pos hm, eq, ek, zero_add, Finset.sum_range_one]
    · rw [if_pos (Or.inl hm), eq, ek, zero_add, Finset.sum_range_one, if_pos rfl]
    · rw [if_pos (Or.inl hm), eq, ek, zero_add, Finset.sum_range_one, if_pos rfl]
  | succ p ih =>
    intro hp
    obtain ⟨i1, i2, i3⟩ := ih (by omega)
    have hN : 10 * g.val + p + 1 < (cfgA Ideal).N := by show _ < 40; omega
    have R := hR ⟨10 * g.val + p + 1, hN⟩
    have e := traj_succ V c ⟨10 * g.val + p + 1, hN⟩
    dsimp only at e R
    have hm : (10 * g.val + p + 1) % 10 = p + 1 := by omega
    have eq : qn (10 * g.val + p + 1) = qn (p + 1) := (qn_mod _).trans (congrArg qn hm)
    have ek : kn (10 * g.val + p + 1) = kn (p + 1) := (kn_mod _).trans (congrArg kn hm)
    have hd : onDiag (10 * g.val + p + 1) ↔ onDiag (p + 1) := by unfold onDiag; omega
    rw [show hn (10 * g.val + p + 1) = g from Fin.ext (by show (10 * g.val + p + 1) / 10 % 4 = g.val; omega)] at R
    obtain ⟨h1, h2, h3⟩ := step_val _ R (traj V c (10 * g.val + p + 1))
    rw [← e] at h1 h2 h3
    refine ⟨fun ρ x => (h1 ρ x).trans ?_, fun r x => (h2 r x).trans ?_, fun r x => (h3 r x).trans ?_⟩
    · rw [if_neg (by omega), eq, ek, i1, Finset.sum_range_succ _ (p + 1), EReal.coe_add]
    · rw [eq, ek, Finset.sum_range_succ _ (p + 1), EReal.coe_add, if_pos rfl]
      congr 1
      by_cases h : onDiag (p + 1)
      · rw [if_pos (hd.mpr h), Finset.sum_eq_zero fun p' hp' => if_neg (kn_new p (by omega) h p' (Finset.mem_range.mp hp'))]
        rfl
      · rw [if_neg (mt hd.mp h), i2, kn_succ p (by omega) h]
    · rw [eq, ek, Finset.sum_range_succ _ (p + 1), EReal.coe_add, if_pos rfl]
      congr 1
      by_cases h : onDiag (p + 1)
      · rw [if_pos (hd.mpr h), Finset.sum_eq_zero fun p' hp' => if_neg (kn_new p (by omega) h p' (Finset.mem_range.mp hp'))]
        rfl
      · rw [if_neg (mt hd.mp h), i3, kn_succ p (by omega) h]

end

/-! ### The last point -/

/-- A sum over the positions, by tiles. -/
theorem sum_tiles (f : Fin 4096 → ℝ) : ∑ i, f i = ∑ r, f (row 0 r) + ∑ r, f (row 1 r) + ∑ r, f (row 2 r) + ∑ r, f (row 3 r) := by
  refine ((Equiv.sum_comp (finProdFinEquiv (m := 4) (n := 1024)) f).symm.trans (Fintype.sum_prod_type _)).trans ?_
  refine (Fin.sum_univ_four _).trans ?_
  have e : ∀ (t : Fin 4) (r : Fin 1024), finProdFinEquiv (t, r) = row t r := fun t r => Fin.ext (by show r.val + 1024 * t.val = 1024 * t.val + r.val; omega)
  simp only [e]

/-- The ten pairs, at one tile of queries. -/
theorem pairs_q (f : Fin 4 → ℝ) (i : Fin 4) (hf : ∀ j, i < j → f j = 0) :
    (∑ p' ∈ Finset.range 10, if i.val = (qn p').val then f (kn p') else 0) = f 0 + f 1 + f 2 + f 3 := by
  obtain ⟨q0, q1, q2, q3, q4, q5, q6, q7, q8, q9⟩ := qn_tab
  obtain ⟨k0, k1, k2, k3, k4, k5, k6, k7, k8, k9⟩ := kn_tab
  fin_cases i
  · have h1 := hf 1 (by decide); have h2 := hf 2 (by decide); have h3 := hf 3 (by decide)
    simp [Finset.sum_range_succ, q0, q1, q2, q3, q4, q5, q6, q7, q8, q9, k0, k1, k2, k3, k4, k5, k6, k7, k8, k9, h1, h2, h3]
  · have h2 := hf 2 (by decide); have h3 := hf 3 (by decide)
    simp [Finset.sum_range_succ, q0, q1, q2, q3, q4, q5, q6, q7, q8, q9, k0, k1, k2, k3, k4, k5, k6, k7, k8, k9, h2, h3]
  · have h3 := hf 3 (by decide)
    simp [Finset.sum_range_succ, q0, q1, q2, q3, q4, q5, q6, q7, q8, q9, k0, k1, k2, k3, k4, k5, k6, k7, k8, k9, h3]
  · simp [Finset.sum_range_succ, q0, q1, q2, q3, q4, q5, q6, q7, q8, q9, k0, k1, k2, k3, k4, k5, k6, k7, k8, k9]

/-- The pairs up to the last of a tile of keys. -/
theorem pairs_k (f : Fin 4 → ℝ) (p : ℕ) (hp : p = 3 ∨ p = 6 ∨ p = 8 ∨ p = 9) (hf : ∀ i, i < kn p → f i = 0) :
    (∑ p' ∈ Finset.range (p + 1), if kn p' = kn p then f (qn p') else 0) = f 0 + f 1 + f 2 + f 3 := by
  obtain ⟨q0, q1, q2, q3, q4, q5, q6, q7, q8, q9⟩ := qn_tab
  obtain ⟨k0, k1, k2, k3, k4, k5, k6, k7, k8, k9⟩ := kn_tab
  rcases hp with rfl | rfl | rfl | rfl
  · simp [Finset.sum_range_succ, q0, q1, q2, q3, q4, q5, q6, q7, q8, q9, k0, k1, k2, k3, k4, k5, k6, k7, k8, k9]
  · have h0 := hf 0 (by decide)
    simp [Finset.sum_range_succ, q0, q1, q2, q3, q4, q5, q6, q7, q8, q9, k0, k1, k2, k3, k4, k5, k6, k7, k8, k9, h0]
  · have h0 := hf 0 (by decide); have h1 := hf 1 (by decide)
    simp [Finset.sum_range_succ, q0, q1, q2, q3, q4, q5, q6, q7, q8, q9, k0, k1, k2, k3, k4, k5, k6, k7, k8, k9, h0, h1]
  · have h0 := hf 0 (by decide); have h1 := hf 1 (by decide); have h2 := hf 2 (by decide)
    simp [Finset.sum_range_succ, q0, q1, q2, q3, q4, q5, q6, q7, q8, q9, k0, k1, k2, k3, k4, k5, k6, k7, k8, k9, h0, h1, h2]

/-- The gradient of a query, from the ten pairs. -/
theorem pairs_dq (a : Data) (g : Fin 4) (ρ : Fin 4096) (x : Fin 512) :
    (∑ p' ∈ Finset.range 10, if ρ.val / 1024 = (qn p').val then tq' a g (kn p') ρ x else 0) = Cert.Grad.dq a ρ (bcol g x) := by
  refine (pairs_q (fun j => tq' a g j ρ x) ⟨ρ.val / 1024, by omega⟩ fun j hj => ?_).trans ?_
  · refine Finset.sum_eq_zero fun r _ => ?_
    rw [dsc_masked, zero_mul]
    rw [Fin.le_def]
    have hj' : ρ.val / 1024 < j.val := hj
    show ¬ 1024 * j.val + r.val ≤ ρ.val
    omega
  · exact (sum_tiles fun j => dsc a (Cert.Grad.hd (bcol g x)) ρ j * a.k j (bcol g x)).symm

/-- The gradient of a key, from its tile's pairs. -/
theorem pairs_dk (a : Data) (g : Fin 4) (p : ℕ) (hp : p = 3 ∨ p = 6 ∨ p = 8 ∨ p = 9) (r : Fin 1024) (x : Fin 512) :
    (∑ p' ∈ Finset.range (p + 1), if kn p' = kn p then tk' a g (qn p') (row (kn p) r) x else 0) = Cert.Grad.dk a (row (kn p) r) (bcol g x) := by
  refine (pairs_k (fun i => tk' a g i (row (kn p) r) x) p hp fun i hi => ?_).trans ?_
  · refine Finset.sum_eq_zero fun s _ => ?_
    rw [dsc_masked, zero_mul]
    rw [Fin.le_def]
    have hi' : i.val < (kn p).val := hi
    show ¬ 1024 * (kn p).val + r.val ≤ 1024 * i.val + s.val
    omega
  · exact (sum_tiles fun i => dsc a (Cert.Grad.hd (bcol g x)) i (row (kn p) r) * a.q i (bcol g x)).symm

/-- The gradient of a value, from its tile's pairs. -/
theorem pairs_dv (a : Data) (g : Fin 4) (p : ℕ) (hp : p = 3 ∨ p = 6 ∨ p = 8 ∨ p = 9) (r : Fin 1024) (x : Fin 256) :
    (∑ p' ∈ Finset.range (p + 1), if kn p' = kn p then tv' a g (qn p') (row (kn p) r) x else 0) = Cert.Grad.dv a (row (kn p) r) (bvcol g x) := by
  refine (pairs_k (fun i => tv' a g i (row (kn p) r) x) p hp fun i hi => ?_).trans ?_
  · refine Finset.sum_eq_zero fun s _ => ?_
    rw [wt_masked, zero_mul]
    rw [Fin.le_def]
    have hi' : i.val < (kn p).val := hi
    show ¬ 1024 * (kn p).val + r.val ≤ 1024 * i.val + s.val
    omega
  · refine (sum_tiles fun i => wt a (Cert.Grad.vhd (bvcol g x)) i (row (kn p) r) * a.d i (bvcol g x)).symm.trans ?_
    exact Finset.sum_congr rfl fun i _ => mul_comm _ _

end Cert.KernelIdeal.Attn

end
-- ==== Proof.Attn.Final.lean ====
/- The three arrays of gradients the kernel writes. -/
module

public import proofs.«01_k».proof.Proof.Attn.Traj
public import Idealize.ShloMosaic.Lib.Pipeline.ValueKit.Geometry

@[expose] public section

set_option maxRecDepth 16384

noncomputable section

namespace Cert.KernelIdeal.Attn

open Cert.KernelIdeal Cert.KernelIdeal.Gen
open Idealize.ShloMosaic
open Cert.Grad (Data lse out)

variable (V : (c : Dev nD) → (b : Ref sig .tc) → Buf (Elt Ideal) ((c.tc : Thread nD τ).loc b)) (c : Dev nD)

/-- The arrays the kernel reads are those of `a`. -/
structure Entry (a : Data) : Prop where
  q : ∀ i x, (V c main_arg0 : S4096x2048.Idx → EReal) (ix2 i x) = ((a.q i x : ℝ) : EReal)
  k : ∀ i x, (V c main_arg1 : S4096x2048.Idx → EReal) (ix2 i x) = ((a.k i x : ℝ) : EReal)
  v : ∀ i y, (V c main_arg2 : S4096x1024.Idx → EReal) (ix2 i y) = ((a.v i y : ℝ) : EReal)
  o : ∀ i y, (V c main_v36 : S4096x1024.Idx → EReal) (ix2 i y) = ((out a i y : ℝ) : EReal)
  d : ∀ i y, (V c main_arg3 : S4096x1024.Idx → EReal) (ix2 i y) = ((a.d i y : ℝ) : EReal)
  l : ∀ h i, (V c main_v37 : S8x1x4096.Idx → EReal) (ix3 h 0 i) = ((lse a h i : ℝ) : EReal)

variable {V c}

/-- The blocks of a point are those of its tiles. -/
theorem Entry.rep {a : Data} (E : Entry V c a) (t : Fin (cfgA Ideal).N) : Rep a (hn t.val) (qn t.val) (kn t.val) (blks V c t) where
  q r x := (blk_q V c t r x).trans (E.q _ _)
  k r x := (blk_k V c t r x).trans (E.k _ _)
  v r x := (blk_v V c t r x).trans (E.v _ _)
  o r x := (blk_o V c t r x).trans (E.o _ _)
  d r x := (blk_d V c t r x).trans (E.d _ _)
  l g r := (blk_l V c t g r).trans (E.l _ _)

/-- The queries' gradient. -/
theorem final_dq {a : Data} (E : Entry V c a) :
    (dats V 0 c).arrAt (6 : Fin 9) (cfgA Ideal).N = ((fun i => ((Cert.Grad.dq a (i 0) (i 1) : ℝ) : EReal)) : S4096x2048.Idx → EReal) := by
  refine (dats V 0 c).arrAt_eq_of_covers (6 : Fin 9) _ covers6 fun t hf y => ?_
  obtain ⟨-, f, -⟩ := sched (F := Ideal) t
  have hp : t.val % 10 = 9 := of_decide_eq_true (f.symm.trans hf)
  obtain ⟨-, -, -, -, -, -, ⟨e0, e1⟩, -⟩ := place_all t
  obtain ⟨ρ, x, hy⟩ : ∃ (ρ : Fin 4096) (x : Fin 512), ((cfgA Ideal).win (6 : Fin 9)).xinj ((cfgA Ideal).grid.coords t) y = ix2 ρ x :=
    ⟨_, _, funext fun a => by fin_cases a <;> rfl⟩
  have y0 : (y (0 : Fin 2)).val = ρ.val := congrArg (fun z : S4096x512.Idx => (z (0 : Fin 2)).val) hy
  have y1 : (y (1 : Fin 2)).val = x.val := congrArg (fun z : S4096x512.Idx => (z (1 : Fin 2)).val) hy
  have i0 : ((((cfgA Ideal).win (6 : Fin 9)).blk t).view.emb y (0 : Fin 2)) = ρ := by
    apply Fin.ext
    refine (Pipeline.Window.rect_emb_val ((cfgA Ideal).win (6 : Fin 9)) t y (0 : Fin 2)).trans ?_
    rw [e0, y0]
    show 0 * 4096 + ρ.val = ρ.val
    omega
  have i1 : ((((cfgA Ideal).win (6 : Fin 9)).blk t).view.emb y (1 : Fin 2)) = bcol (hn t.val) x := by
    apply Fin.ext
    refine (Pipeline.Window.rect_emb_val ((cfgA Ideal).win (6 : Fin 9)) t y (1 : Fin 2)).trans ?_
    rw [e1, y1]
    show (hn t.val).val * 512 + x.val = 512 * (hn t.val).val + x.val
    omega
  have hv := (traj_at (V := V) (c := c) (fun t => E.rep t) (hn t.val) (t.val % 10) (Nat.mod_lt _ (by decide))).1
  have ht : 10 * (hn t.val).val + t.val % 10 = t.val := by
    have hlt : t.val < 40 := t.isLt
    show 10 * (t.val / 10 % 4) + t.val % 10 = t.val
    omega
  rw [ht] at hv
  refine (show _ = ((Cert.Grad.dq a (ρ) (bcol (hn t.val) x) : ℝ) : EReal) from ?_).trans ?_
  · show (traj V c (t.val + 1)).dq (((cfgA Ideal).win (6 : Fin 9)).xinj ((cfgA Ideal).grid.coords t) y) = _
    refine (congrArg (traj V c (t.val + 1)).dq hy).trans ?_
    rw [hp] at hv
    refine (hv ρ x).trans (congrArg _ ?_)
    exact pairs_dq a (hn t.val) ρ x
  · show _ = ((Cert.Grad.dq a (((((cfgA Ideal).win (6 : Fin 9)).blk t).view.emb y (0 : Fin 2))) (((((cfgA Ideal).win (6 : Fin 9)).blk t).view.emb y (1 : Fin 2))) : ℝ) : EReal)
    rw [i0, i1]

/-- The keys' gradient. -/
theorem final_dk {a : Data} (E : Entry V c a) :
    (dats V 0 c).arrAt (7 : Fin 9) (cfgA Ideal).N = ((fun i => ((Cert.Grad.dk a (i 0) (i 1) : ℝ) : EReal)) : S4096x2048.Idx → EReal) := by
  refine (dats V 0 c).arrAt_eq_of_covers (7 : Fin 9) _ covers7 fun t hf y => ?_
  obtain ⟨-, -, -, f, -⟩ := sched (F := Ideal) t
  have hp : onLast t.val := of_decide_eq_true (f.symm.trans hf)
  obtain ⟨-, -, -, -, -, -, -, ⟨e0, e1⟩, -⟩ := place_all t
  obtain ⟨ρ, x, hy⟩ : ∃ (ρ : Fin 1024) (x : Fin 512), ((cfgA Ideal).win (7 : Fin 9)).xinj ((cfgA Ideal).grid.coords t) y = ix2 ρ x :=
    ⟨_, _, funext fun a => by fin_cases a <;> rfl⟩
  have y0 : (y (0 : Fin 2)).val = ρ.val := congrArg (fun z : S1024x512.Idx => (z (0 : Fin 2)).val) hy
  have y1 : (y (1 : Fin 2)).val = x.val := congrArg (fun z : S1024x512.Idx => (z (1 : Fin 2)).val) hy
  have i0 : ((((cfgA Ideal).win (7 : Fin 9)).blk t).view.emb y (0 : Fin 2)) = row (kn t.val) ρ := by
    apply Fin.ext
    refine (Pipeline.Window.rect_emb_val ((cfgA Ideal).win (7 : Fin 9)) t y (0 : Fin 2)).trans ?_
    rw [e0, y0]
    show (kn t.val).val * 1024 + ρ.val = 1024 * (kn t.val).val + ρ.val
    omega
  have i1 : ((((cfgA Ideal).win (7 : Fin 9)).blk t).view.emb y (1 : Fin 2)) = bcol (hn t.val) x := by
    apply Fin.ext
    refine (Pipeline.Window.rect_emb_val ((cfgA Ideal).win (7 : Fin 9)) t y (1 : Fin 2)).trans ?_
    rw [e1, y1]
    show (hn t.val).val * 512 + x.val = 512 * (hn t.val).val + x.val
    omega
  have hv := (traj_at (V := V) (c := c) (fun t => E.rep t) (hn t.val) (t.val % 10) (Nat.mod_lt _ (by decide))).2.1
  have ht : 10 * (hn t.val).val + t.val % 10 = t.val := by
    have hlt : t.val < 40 := t.isLt
    show 10 * (t.val / 10 % 4) + t.val % 10 = t.val
    omega
  rw [ht] at hv
  refine (show _ = ((Cert.Grad.dk a (row (kn t.val) ρ) (bcol (hn t.val) x) : ℝ) : EReal) from ?_).trans ?_
  · show (traj V c (t.val + 1)).dk (((cfgA Ideal).win (7 : Fin 9)).xinj ((cfgA Ideal).grid.coords t) y) = _
    refine (congrArg (traj V c (t.val + 1)).dk hy).trans ?_
    refine (hv ρ x).trans (congrArg _ ?_)
    rw [kn_mod t.val]
    exact pairs_dk a (hn t.val) (t.val % 10) hp ρ x
  · show _ = ((Cert.Grad.dk a (((((cfgA Ideal).win (7 : Fin 9)).blk t).view.emb y (0 : Fin 2))) (((((cfgA Ideal).win (7 : Fin 9)).blk t).view.emb y (1 : Fin 2))) : ℝ) : EReal)
    rw [i0, i1]

/-- The values' gradient. -/
theorem final_dv {a : Data} (E : Entry V c a) :
    (dats V 0 c).arrAt (8 : Fin 9) (cfgA Ideal).N = ((fun i => ((Cert.Grad.dv a (i 0) (i 1) : ℝ) : EReal)) : S4096x1024.Idx → EReal) := by
  refine (dats V 0 c).arrAt_eq_of_covers (8 : Fin 9) _ covers8 fun t hf y => ?_
  obtain ⟨-, -, -, -, -, f⟩ := sched (F := Ideal) t
  have hp : onLast t.val := of_decide_eq_true (f.symm.trans hf)
  obtain ⟨-, -, -, -, -, -, -, -, ⟨e0, e1⟩⟩ := place_all t
  obtain ⟨ρ, x, hy⟩ : ∃ (ρ : Fin 1024) (x : Fin 256), ((cfgA Ideal).win (8 : Fin 9)).xinj ((cfgA Ideal).grid.coords t) y = ix2 ρ x :=
    ⟨_, _, funext fun a => by fin_cases a <;> rfl⟩
  have y0 : (y (0 : Fin 2)).val = ρ.val := congrArg (fun z : S1024x256.Idx => (z (0 : Fin 2)).val) hy
  have y1 : (y (1 : Fin 2)).val = x.val := congrArg (fun z : S1024x256.Idx => (z (1 : Fin 2)).val) hy
  have i0 : ((((cfgA Ideal).win (8 : Fin 9)).blk t).view.emb y (0 : Fin 2)) = row (kn t.val) ρ := by
    apply Fin.ext
    refine (Pipeline.Window.rect_emb_val ((cfgA Ideal).win (8 : Fin 9)) t y (0 : Fin 2)).trans ?_
    rw [e0, y0]
    show (kn t.val).val * 1024 + ρ.val = 1024 * (kn t.val).val + ρ.val
    omega
  have i1 : ((((cfgA Ideal).win (8 : Fin 9)).blk t).view.emb y (1 : Fin 2)) = bvcol (hn t.val) x := by
    apply Fin.ext
    refine (Pipeline.Window.rect_emb_val ((cfgA Ideal).win (8 : Fin 9)) t y (1 : Fin 2)).trans ?_
    rw [e1, y1]
    show (hn t.val).val * 256 + x.val = 256 * (hn t.val).val + x.val
    omega
  have hv := (traj_at (V := V) (c := c) (fun t => E.rep t) (hn t.val) (t.val % 10) (Nat.mod_lt _ (by decide))).2.2
  have ht : 10 * (hn t.val).val + t.val % 10 = t.val := by
    have hlt : t.val < 40 := t.isLt
    show 10 * (t.val / 10 % 4) + t.val % 10 = t.val
    omega
  rw [ht] at hv
  refine (show _ = ((Cert.Grad.dv a (row (kn t.val) ρ) (bvcol (hn t.val) x) : ℝ) : EReal) from ?_).trans ?_
  · show (traj V c (t.val + 1)).dv (((cfgA Ideal).win (8 : Fin 9)).xinj ((cfgA Ideal).grid.coords t) y) = _
    refine (congrArg (traj V c (t.val + 1)).dv hy).trans ?_
    refine (hv ρ x).trans (congrArg _ ?_)
    rw [kn_mod t.val]
    exact pairs_dv a (hn t.val) (t.val % 10) hp ρ x
  · show _ = ((Cert.Grad.dv a (((((cfgA Ideal).win (8 : Fin 9)).blk t).view.emb y (0 : Fin 2))) (((((cfgA Ideal).win (8 : Fin 9)).blk t).view.emb y (1 : Fin 2))) : ℝ) : EReal)
    rw [i0, i1]

end Cert.KernelIdeal.Attn

end
-- ==== Proof.Attn.Value.lean ====
/- The kernel's three results are the reference's, of finite arguments. -/
module

public import proofs.«01_k».proof.Defs
public import proofs.«01_k».proof.Proof.Attn.Frames
public import proofs.«01_k».proof.Proof.Attn.Host
public import proofs.«01_k».proof.Proof.Attn.Final
public import Idealize.ShloMosaic.Lib.ReduceAll
public import Idealize.ShloMosaic.Lib.Affine

@[expose] public section

set_option maxRecDepth 16384

noncomputable section

namespace Cert.Proof

open Idealize.ShloMosaic Idealize.SL.Sem
open Idealize.ShloMosaic.TcCoe
open Cert.Grad (Arr Data Reals)

/-! ### Finite arrays are arrays of reals -/

/-- A number below the greatest, and its negative too, is a real. -/
theorem real_of_olt (x : EReal) (e : BitVec.ofBool (decide (max x (-x) < Ideal.ofBits .f32 0x7F800000#32)) = 1#1) : x = ((x.toReal : ℝ) : EReal) := by
  rw [Cert.Grad.ofBits_top] at e
  have hlt : max x (-x) < ⊤ := by
    by_contra hn
    rw [decide_eq_false hn] at e
    exact absurd e (by decide)
  have h1 : x ≠ ⊤ := (lt_of_le_of_lt (le_max_left _ _) hlt).ne
  have h2 : x ≠ ⊥ := fun h => by
    rw [h, EReal.neg_bot] at hlt
    exact absurd (lt_of_le_of_lt (le_max_right _ _) hlt) (lt_irrefl _)
  exact (EReal.coe_toReal h1 h2).symm

/-- Arrays of reals, with the greatest score of each row. -/
theorem reals_of {q k : Arr Cert.Pre_finite.S4096x2048} {v d : Arr Cert.Pre_finite.S4096x1024} {fq fk : Fin 4096 → Fin 2048 → ℝ} {fv fd : Fin 4096 → Fin 1024 → ℝ}
    (hq : ∀ i x, q (ix2 i x) = ((fq i x : ℝ) : EReal)) (hk : ∀ i x, k (ix2 i x) = ((fk i x : ℝ) : EReal))
    (hv : ∀ i y, v (ix2 i y) = ((fv i y : ℝ) : EReal)) (hd : ∀ i y, d (ix2 i y) = ((fd i y : ℝ) : EReal)) : ∃ a : Data, Reals a q k v d := by
  obtain ⟨t, ht⟩ : ∃ t : Fin 8 → Fin 4096 → ℝ, ∀ h i, Cert.Grad.rowTop (Cert.Grad.scoreArr q k) (ix2 h i) = ((t h i : ℝ) : EReal) :=
    ⟨_, fun h i => Cert.Grad.top_real (a := ⟨fq, fk, fv, fd, fun _ _ => 0⟩) hq hk h i⟩
  exact ⟨⟨fq, fk, fv, fd, t⟩, hq, hk, hv, hd, ht⟩

section
variable [Cert.Pre_finite.Facts]

/-- A wide array whose every entry is found finite. -/
theorem wide_real (x : Arr Cert.Pre_finite.S4096x2048) (z : Cert.Pre_finite.S_.Idx)
    (e : Host.reduce IntOp.andi (cmpf .olt (Host.absf (extf (F := Ideal) .f32 x Cert.Pre_finite.Facts.bitsLt_bf16_f32))
      (broadcastInDim Cert.Pre_finite.S4096x2048 ![] Cert.Pre_finite.Facts.bcast_S_S4096x2048 (constant Cert.Pre_finite.S_ .f32 0x7F800000#32)))
      (constantI Cert.Pre_finite.S_ 1 1#1) Cert.Pre_finite.Facts.reducesTo_S4096x2048_S_d0_1 Cert.Pre_finite.Facts.h_S_ z = 1#1)
    (i : Cert.Pre_finite.S4096x2048.Idx) : x i = (((x i).toReal : ℝ) : EReal) :=
  real_of_olt (x i) (Host.reduce_andi_all _ _ _ _ z e i)

/-- A narrow array whose every entry is found finite. -/
theorem narrow_real (x : Arr Cert.Pre_finite.S4096x1024) (z : Cert.Pre_finite.S_.Idx)
    (e : Host.reduce IntOp.andi (cmpf .olt (Host.absf (extf (F := Ideal) .f32 x Cert.Pre_finite.Facts.bitsLt_bf16_f32))
      (broadcastInDim Cert.Pre_finite.S4096x1024 ![] Cert.Pre_finite.Facts.bcast_S_S4096x1024 (constant Cert.Pre_finite.S_ .f32 0x7F800000#32)))
      (constantI Cert.Pre_finite.S_ 1 1#1) Cert.Pre_finite.Facts.reducesTo_S4096x1024_S_d0_1 Cert.Pre_finite.Facts.h_S_ z = 1#1)
    (i : Cert.Pre_finite.S4096x1024.Idx) : x i = (((x i).toReal : ℝ) : EReal) :=
  real_of_olt (x i) (Host.reduce_andi_all _ _ _ _ z e i)

/-- Arguments that the precondition holds of are arrays of reals. -/
theorem finite_reals (q k : Arr Cert.Pre_finite.S4096x2048) (v d : Arr Cert.Pre_finite.S4096x1024)
    (h : Cert.Pre_finite.fn (F := Ideal) q k v d = fun _ => 1#1) : ∃ a : Data, Reals a q k v d := by
  have e := congrFun h (fun a => a.elim0)
  unfold Cert.Pre_finite.fn Cert.Pre_finite.fn_part1 at e
  dsimp only at e
  obtain ⟨e123, e4⟩ := IntOp.andi_eq_one.1 e
  obtain ⟨e12, e3⟩ := IntOp.andi_eq_one.1 e123
  obtain ⟨e1, e2⟩ := IntOp.andi_eq_one.1 e12
  have hq := wide_real q _ e1
  have hk := wide_real k _ e2
  have hv := narrow_real v _ e3
  have hd := narrow_real d _ e4
  clear h e e123 e12 e1 e2 e3 e4
  exact reals_of (fun i x => hq (ix2 i x)) (fun i x => hk (ix2 i x)) (fun i y => hv (ix2 i y)) (fun i y => hd (ix2 i y))

end

/-! ### The two programs -/

section
open Cert.KernelIdeal Cert.KernelIdeal.Gen Cert.KernelIdeal.Attn

/-- What the kernel's call reads, of arguments that are arrays of reals. -/
theorem entry_of (m : (ℓ : Loc nD τ sig) → Buf (Elt Ideal) ℓ) (c : Dev nD) {a : Data}
    (R : Reals a (m ((c.tc : Thread nD τ).loc main_arg0)) (m ((c.tc : Thread nD τ).loc main_arg1)) (m ((c.tc : Thread nD τ).loc main_arg2)) (m ((c.tc : Thread nD τ).loc main_arg3))) :
    Entry (atEntry m) c a where
  q i x := (congrFun (entry_arg m c).1 (ix2 i x)).trans (R.q i x)
  k i x := (congrFun (entry_arg m c).2.1 (ix2 i x)).trans (R.k i x)
  v i y := (congrFun (entry_arg m c).2.2.1 (ix2 i y)).trans (R.v i y)
  d i y := (congrFun (entry_arg m c).2.2.2 (ix2 i y)).trans (R.d i y)
  o i y := (congrFun (entry_out m c) (ix2 i y)).trans (Cert.Grad.outArr_at R i _ (Cert.Grad.refP_at R) y)
  l h i := (entry_lse m c h i).trans (Cert.Grad.lseArr_at R h i)

end

/-- The reference's results, of arguments that are arrays of reals. -/
theorem reference_of (m : (ℓ : Loc Cert.ReferenceIdeal.nD Cert.ReferenceIdeal.τ Cert.ReferenceIdeal.sig) → Buf (Elt Ideal) ℓ) (c : Dev Cert.ReferenceIdeal.nD) {a : Data}
    (R : Reals a (Cert.Grad.argQ m c) (Cert.Grad.argK m c) (Cert.Grad.argV m c) (Cert.Grad.argD m c)) :
    Cert.ReferenceIdeal.Value.res_main_v70 (F := Ideal) m c = ((fun i => ((Cert.Grad.dq a (i 0) (i 1) : ℝ) : EReal)) : Cert.ReferenceIdeal.S4096x2048.Idx → EReal)
    ∧ Cert.ReferenceIdeal.Value.res_main_v69 (F := Ideal) m c = ((fun i => ((Cert.Grad.dk a (i 0) (i 1) : ℝ) : EReal)) : Cert.ReferenceIdeal.S4096x2048.Idx → EReal)
    ∧ Cert.ReferenceIdeal.Value.res_main_v51 (F := Ideal) m c = ((fun i => ((Cert.Grad.dv a (i 0) (i 1) : ℝ) : EReal)) : Cert.ReferenceIdeal.S4096x1024.Idx → EReal) := by
  have w : ∀ i : Cert.ReferenceIdeal.S4096x2048.Idx, i = ix2 (n0 := 4096) (n1 := 2048) (i 0) (i 1) := fun i => by funext b; fin_cases b <;> rfl
  have n : ∀ i : Cert.ReferenceIdeal.S4096x1024.Idx, i = ix2 (n0 := 4096) (n1 := 1024) (i 0) (i 1) := fun i => by funext b; fin_cases b <;> rfl
  refine ⟨(Cert.Grad.res_dq m c).trans (funext fun i => ?_), (Cert.Grad.res_dk m c).trans (funext fun i => ?_), (Cert.Grad.res_dv m c).trans (funext fun i => ?_)⟩
  · exact (congrArg _ (w i)).trans (Cert.Grad.refDq_at R (i 0) (i 1))
  · exact (congrArg _ (w i)).trans (Cert.Grad.refDk_at R (i 0) (i 1))
  · exact (congrArg _ (n i)).trans (Cert.Grad.refDv_at R (i 0) (i 1))

section
open Cert.KernelIdeal Cert.KernelIdeal.Gen Cert.KernelIdeal.Attn

set_option maxHeartbeats 6400000 in
/-- The kernel's results, of arguments that are arrays of reals. -/
theorem kernel_of (m : (ℓ : Loc nD τ sig) → Buf (Elt Ideal) ℓ) (ρ : Dev nD → PrngReg) {a : Dev nD → Data}
    (R : ∀ c : Dev nD, Reals (a c) (m ((c.tc : Thread nD τ).loc main_arg0)) (m ((c.tc : Thread nD τ).loc main_arg1)) (m ((c.tc : Thread nD τ).loc main_arg2)) (m ((c.tc : Thread nD τ).loc main_arg3))) :
    θ_run (defs (F := Ideal)) (onTc (τ := τ) (main (F := Ideal))) ⟨m, fun _ => 0, ρ⟩ (fun r => ∀ c : Dev nD,
      r.2.mem ((c.tc : Thread nD τ).loc main_v38_0) = ((fun i => ((Cert.Grad.dq (a c) (i 0) (i 1) : ℝ) : EReal)) : S4096x2048.Idx → EReal)
      ∧ r.2.mem ((c.tc : Thread nD τ).loc main_v38_1) = ((fun i => ((Cert.Grad.dk (a c) (i 0) (i 1) : ℝ) : EReal)) : S4096x2048.Idx → EReal)
      ∧ r.2.mem ((c.tc : Thread nD τ).loc main_v38_2) = ((fun i => ((Cert.Grad.dv (a c) (i 0) (i 1) : ℝ) : EReal)) : S4096x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h.1 c).1 (6 : Fin 9)).trans (final_dq (entry_of m c (R c))), ((h.1 c).1 (7 : Fin 9)).trans (final_dk (entry_of m c (R c))),
      ((h.1 c).1 (8 : Fin 9)).trans (final_dv (entry_of m c (R c))),
      ((h.1 c).1 (0 : Fin 9)).trans (((dats (atEntry m) 0 c).arrAt_in (0 : Fin 9) rfl _).trans (entry_arg m c).1),
      ((h.1 c).1 (1 : Fin 9)).trans (((dats (atEntry m) 0 c).arrAt_in (1 : Fin 9) rfl _).trans (entry_arg m c).2.1),
      ((h.1 c).1 (2 : Fin 9)).trans (((dats (atEntry m) 0 c).arrAt_in (2 : Fin 9) rfl _).trans (entry_arg m c).2.2.1),
      ((h.1 c).1 (4 : Fin 9)).trans (((dats (atEntry m) 0 c).arrAt_in (4 : Fin 9) rfl _).trans (entry_arg m c).2.2.2)⟩)
    (run_main m ρ)

end

set_option maxHeartbeats 1600000 in
/-- The kernel's results and the reference's are equal, of finite arguments. -/
theorem results_equal [hPre_finite : Cert.Pre_finite.Facts] : Cert.algebraic_KernelIdeal_ReferenceIdeal_pre_finite := by
  intro m g m' g' hpre harg
  choose a R using fun c => finite_reals _ _ _ _ (hpre c)
  refine ⟨fun c => ((fun i => ((Cert.Grad.dq (a c) (i 0) (i 1) : ℝ) : EReal)) : Cert.KernelIdeal.S4096x2048.Idx → EReal),
    fun c => ((fun i => ((Cert.Grad.dk (a c) (i 0) (i 1) : ℝ) : EReal)) : Cert.KernelIdeal.S4096x2048.Idx → EReal),
    fun c => ((fun i => ((Cert.Grad.dv (a c) (i 0) (i 1) : ℝ) : EReal)) : Cert.KernelIdeal.S4096x1024.Idx → EReal), kernel_of m g R, ?_⟩
  refine (θ_run Cert.ReferenceIdeal.defs _ _).mono (fun r h c => ?_) (Cert.ReferenceIdeal.Value.run (F := Ideal) m' g')
  have R' : Reals (a c) (Cert.Grad.argQ m' c) (Cert.Grad.argK m' c) (Cert.Grad.argV m' c) (Cert.Grad.argD m' c) := by
    have e := R c
    rw [← (harg c).1, ← (harg c).2.1, ← (harg c).2.2.1, ← (harg c).2.2.2] at e
    exact e
  obtain ⟨e1, e2, e3⟩ := reference_of m' c R'
  obtain ⟨h1, h2, h3, hrest⟩ := h c
  exact ⟨h1.trans e1, h2.trans e2, h3.trans e3, hrest⟩

end Cert.Proof

end
-- ==== Proof.Mlp.DownDx.lean ====
/- The gradient that goes back through the block's second product: the call and its reference leave the same array. -/
module

public import proofs.«01_k».proof.Defs
public import proofs.«01_k».proof.Proof.Gen.Kernel2Ideal.Value
public import proofs.«01_k».proof.Proof.Gen.Reference2Ideal.Run
public import Idealize.ShloMosaic.Lib.Pointwise
public import Idealize.ShloMosaic.Lib.Tactic.CleanTypes
public import Idealize.ShloMosaic.Lib.IdealHost
public import Idealize.ShloMosaic.Lib.Pipeline.ValueKit.Geometry
public import Idealize.ShloMosaic.Lib.Pipeline.ValueKit.Point
public import Idealize.ShloMosaic.Lib.Pipeline.ValueKit.Acc

@[expose] public section

set_option maxRecDepth 16384

noncomputable section

/-! ### The mathematics -/

namespace Cert.Mlp.DownDx

open Idealize.ShloMosaic

/-- The word of the number two. -/
theorem two_word : Ideal.ofBits .f32 0x40000000#32 = (2 : EReal) := by
  rw [show (2 : EReal) = ((2 : ℝ) : EReal) by norm_cast]
  simp [Ideal.ofBits, Ideal.ieee, -EReal.coe_mul]
  norm_num

/-- The product of the incoming gradient's row `i` with the weight's row `j`. -/
def dot (w d : (⟨2, ![4096, 1024]⟩ : Shape).Idx → EReal) (i j : Fin 4096) : EReal := ∑ k : Fin 1024, d (ix2 i k) * w (ix2 j k)

/-- The gradient: the product, times twice the positive part. -/
def grad (z : (⟨2, ![4096, 4096]⟩ : Shape).Idx → EReal) (w d : (⟨2, ![4096, 1024]⟩ : Shape).Idx → EReal) (i j : Fin 4096) : EReal :=
  dot w d i j * (2 * max (z (ix2 i j)) 0)

/-- The square's rule, taken where the number is positive, is the product with twice the positive part. -/
theorem square_rule (x y : EReal) : (if 0 < x then max x 0 * y + y * max x 0 else 0) = y * (2 * max x 0) := by
  by_cases h : 0 < x
  · rw [if_pos h, mul_comm (max x 0) y, mul_left_comm, ← one_add_one_eq_two, EReal.right_distrib_of_nonneg zero_le_one zero_le_one, one_mul]
  · rw [if_neg h, max_eq_right (not_lt.1 h), mul_zero, mul_zero]

end Cert.Mlp.DownDx

/-! ### The kernel -/

namespace Cert.Kernel2Ideal.Mlp

open Cert.Kernel2Ideal Cert.Kernel2Ideal.Gen
open Idealize.ShloMosaic Idealize.ShloMosaic.TcCoe
open Cert.Mlp.DownDx (dot grad two_word)

/-- What the body stores, at an index. -/
theorem pay_at (x0 : S2048x1024.Idx → EReal) (x1 : S1024x1024.Idx → EReal) (x2 : S2048x1024.Idx → EReal) (p : Fin 2048) (q : Fin 1024) :
    (k0_pay1 (F := Ideal) x0 x1 x2 (ix2 p q) : EReal) = (∑ k : Fin 1024, x0 (ix2 p k) * x1 (ix2 q k)) * (Ideal.ofBits .f32 0x40000000#32 * x2 (ix2 p q)) := by
  pointwise [k0_pay1]

variable (m : (ℓ : Loc nD τ sig) → Buf (Elt Ideal) ℓ) (c : Dev nD)

/-- A positive part, computed by the host. -/
def relu (z : FVec Ideal S4096x4096 .bf16) : FVec Ideal S4096x4096 .bf16 :=
  truncf .bf16 (maximumf (extf .f32 z bitsLt_bf16_f32) (broadcastInDim S4096x4096 ![] bcast_S_S4096x4096 (constant S_ .f32 0x00000000#32))) bitsLt_bf16_f32

/-- A positive part at an index. -/
theorem relu_at (z : FVec Ideal S4096x4096 .bf16) (i j : Fin 4096) : (relu z (ix2 i j) : EReal) = max (z (ix2 i j)) 0 := by
  pointwise [relu]

/-- The call reads the positive part of the first argument. -/
theorem host_relu : (V m c main_v3 : S4096x4096.Idx → EReal) = relu (m ((c.tc : Thread nD τ).loc main_arg0)) := by
  simp only [V, hostOps0]
  after_results_simp <;> rfl

/-- Where the windows lie at a point. -/
abbrev placeAt (t : Fin cfg0.N) : Prop :=
  (win0_0.index t (0 : Fin 2) = t.val / 4 ∧ win0_0.index t (1 : Fin 2) = 0)
  ∧ (win0_1.index t (0 : Fin 2) = t.val % 4 ∧ win0_1.index t (1 : Fin 2) = 0)
  ∧ (win0_2.index t (0 : Fin 2) = t.val / 4 ∧ win0_2.index t (1 : Fin 2) = t.val % 4)
  ∧ (win0_3.index t (0 : Fin 2) = t.val / 4 ∧ win0_3.index t (1 : Fin 2) = t.val % 4)

/-- The windows' places at every point. -/
theorem place_all : ∀ t : Fin cfg0.N, placeAt t := by decide +kernel

/-- The blocks written back fill the array. -/
theorem covers : (cfg0.win 3).Covers := by decide +kernel

/-- A row of the array, of a row block. -/
abbrev row (t : Fin cfg0.N) (p : Fin 2048) : Fin 4096 := ⟨t.val / 4 * 2048 + p.val, by have := t.isLt; have h : cfg0.N = 8 := rfl; omega⟩
/-- A column of the array, of a column block. -/
abbrev col (t : Fin cfg0.N) (q : Fin 1024) : Fin 4096 := ⟨t.val % 4 * 1024 + q.val, by omega⟩

variable (t : Fin cfg0.N)

/-- The incoming gradient's block at an index. -/
theorem blk0 (p : Fin 2048) (k : Fin 1024) : (iblk m c 0 t : S2048x1024.Idx → EReal) (ix2 p k) = (V m c main_arg2 : S4096x1024.Idx → EReal) (ix2 (row t p) k) := by
  obtain ⟨⟨e0, e1⟩, -⟩ := place_all t
  unfold iblk
  refine congrArg (V m c main_arg2 : S4096x1024.Idx → EReal) ?_
  funext a
  apply Fin.ext
  fin_cases a
  · refine (Pipeline.Window.rect_emb_val win0_0 t (ix2 p k) (0 : Fin 2)).trans ?_
    rw [e0]
    rfl
  · refine (Pipeline.Window.rect_emb_val win0_0 t (ix2 p k) (1 : Fin 2)).trans ?_
    rw [e1]
    show 0 * 1024 + k.val = k.val
    omega

/-- The weight's block at an index. -/
theorem blk1 (q : Fin 1024) (k : Fin 1024) : (iblk m c 1 t : S1024x1024.Idx → EReal) (ix2 q k) = (V m c main_arg1 : S4096x1024.Idx → EReal) (ix2 (col t q) k) := by
  obtain ⟨-, ⟨e0, e1⟩, -⟩ := place_all t
  unfold iblk
  refine congrArg (V m c main_arg1 : S4096x1024.Idx → EReal) ?_
  funext a
  apply Fin.ext
  fin_cases a
  · refine (Pipeline.Window.rect_emb_val win0_1 t (ix2 q k) (0 : Fin 2)).trans ?_
    rw [e0]
    rfl
  · refine (Pipeline.Window.rect_emb_val win0_1 t (ix2 q k) (1 : Fin 2)).trans ?_
    rw [e1]
    show 0 * 1024 + k.val = k.val
    omega

/-- The positive part's block at an index. -/
theorem blk2 (p : Fin 2048) (q : Fin 1024) : (iblk m c 2 t : S2048x1024.Idx → EReal) (ix2 p q) = (V m c main_v3 : S4096x4096.Idx → EReal) (ix2 (row t p) (col t q)) := by
  obtain ⟨-, -, ⟨e0, e1⟩, -⟩ := place_all t
  unfold iblk
  refine congrArg (V m c main_v3 : S4096x4096.Idx → EReal) ?_
  funext a
  apply Fin.ext
  fin_cases a
  · refine (Pipeline.Window.rect_emb_val win0_2 t (ix2 p q) (0 : Fin 2)).trans ?_
    rw [e0]
    rfl
  · refine (Pipeline.Window.rect_emb_val win0_2 t (ix2 p q) (1 : Fin 2)).trans ?_
    rw [e1]
    rfl

/-- The array after the call. -/
theorem final : ((dats m 0 c).arrAt 3 cfg0.N : S4096x4096.Idx → EReal)
    = fun i => grad (m ((c.tc : Thread nD τ).loc main_arg0)) (m ((c.tc : Thread nD τ).loc main_arg1)) (m ((c.tc : Thread nD τ).loc main_arg2)) (i 0) (i 1) := by
  refine (dats m 0 c).arrAt_eq_of_covers 3 _ covers fun t hf y => ?_
  obtain ⟨-, -, -, ⟨e0, e1⟩⟩ := place_all t
  obtain ⟨p, q, hy⟩ : ∃ (p : Fin 2048) (q : Fin 1024), (cfg0.win 3).xinj (cfg0.grid.coords t) y = ix2 p q :=
    ⟨_, _, funext fun a => by fin_cases a <;> rfl⟩
  have y0 : (y (0 : Fin 2)).val = p.val := congrArg (fun z : S2048x1024.Idx => (z (0 : Fin 2)).val) hy
  have y1 : (y (1 : Fin 2)).val = q.val := congrArg (fun z : S2048x1024.Idx => (z (1 : Fin 2)).val) hy
  have i0 : (((cfg0.win 3).blk t).view.emb y (0 : Fin 2)) = row t p := by
    apply Fin.ext
    refine (Pipeline.Window.rect_emb_val win0_3 t y (0 : Fin 2)).trans ?_
    rw [e0, y0]
    rfl
  have i1 : (((cfg0.win 3).blk t).view.emb y (1 : Fin 2)) = col t q := by
    apply Fin.ext
    refine (Pipeline.Window.rect_emb_val win0_3 t y (1 : Fin 2)).trans ?_
    rw [e1, y1]
    rfl
  refine (show _ = grad (m ((c.tc : Thread nD τ).loc main_arg0)) (m ((c.tc : Thread nD τ).loc main_arg1)) (m ((c.tc : Thread nD τ).loc main_arg2)) (row t p) (col t q) from ?_).trans ?_
  · show ((dats m 0 c).after 3 t : S2048x1024.Idx → EReal) ((cfg0.win 3).xinj (cfg0.grid.coords t) y) = _
    rw [hy, after0_3]
    frame_out
    rw [pay_at, two_word, blk2, host_relu, relu_at]
    simp only [blk0, blk1]
    rw [V_main_arg1, V_main_arg2]
    rfl
  · exact (congr (congrArg _ i0) i1).symm

end Cert.Kernel2Ideal.Mlp

/-! ### The reference -/

namespace Cert.Reference2Ideal.Mlp

open Cert.Reference2Ideal Cert.Reference2Ideal.Gen
open Idealize.ShloMosaic
open Cert.Mlp.DownDx (dot grad square_rule)

/-- The reference's product. -/
def prod (w d : FVec Ideal S4096x1024 .bf16) : FVec Ideal S4096x4096 .f32 :=
  Host.dotGeneral dot_S4096x1024_S4096x1024_S4096x4096_1_1_0_0_n_n none (extf .f32 d bitsLt_bf16_f32) (extf .f32 w bitsLt_bf16_f32)

/-- The reference's product at an index. -/
theorem prod_at (w d : FVec Ideal S4096x1024 .bf16) (i j : Fin 4096) : (prod w d (ix2 i j) : EReal) = dot w d i j := by
  unfold dot
  pointwise [prod]

/-- The reference's result, over its product. -/
def res (z : FVec Ideal S4096x4096 .bf16) (g : FVec Ideal S4096x4096 .f32) : FVec Ideal S4096x4096 .bf16 :=
  truncf .bf16 (select (cmpf .ogt (extf .f32 z bitsLt_bf16_f32) (broadcastInDim S4096x4096 ![] bcast_S_S4096x4096 (constant S_ .f32 0x00000000#32))) (addf (mulf (maximumf (extf .f32 z bitsLt_bf16_f32) (broadcastInDim S4096x4096 ![] bcast_S_S4096x4096 (constant S_ .f32 0x00000000#32))) g) (mulf g (maximumf (extf .f32 z bitsLt_bf16_f32) (broadcastInDim S4096x4096 ![] bcast_S_S4096x4096 (constant S_ .f32 0x00000000#32))))) (broadcastInDim S4096x4096 ![] bcast_S_S4096x4096 (constant S_ .f32 0x00000000#32))) bitsLt_bf16_f32

/-- The reference's result at an index. -/
theorem res_at (z : FVec Ideal S4096x4096 .bf16) (g : FVec Ideal S4096x4096 .f32) (i j : Fin 4096) :
    (res z g (ix2 i j) : EReal) = g (ix2 i j) * (2 * max (z (ix2 i j)) 0) := by
  refine Eq.trans ?_ (square_rule (z (ix2 i j)) (g (ix2 i j)))
  pointwise [res]

end Cert.Reference2Ideal.Mlp

/-! ### The two together -/

namespace Cert.Mlp.DownDx

open Idealize.ShloMosaic Idealize.SL.Sem
open Idealize.ShloMosaic.TcCoe

set_option maxHeartbeats 1600000 in
/-- The call's result and the reference's are equal. -/
theorem results_equal : Cert.algebraic_Kernel2Ideal_Reference2Ideal := by
  intro m g m' g' _ harg
  refine ⟨fun c => ((fun i => grad (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (i 0) (i 1)) : Cert.Kernel2Ideal.S4096x4096.Idx → EReal), ?_, ?_⟩
  · refine (θ_run Cert.Kernel2Ideal.defs _ _).mono (fun r h c => ?_) (Cert.Kernel2Ideal.Value.run_blocks (F := Ideal) m g)
    obtain ⟨h1, hrest⟩ := h c
    exact ⟨h1.trans (Cert.Kernel2Ideal.Mlp.final m c), hrest⟩
  · refine (θ_run Cert.Reference2Ideal.defs _ _).mono (fun r h c => ?_) (Cert.Reference2Ideal.Value.run (F := Ideal) m' g')
    obtain ⟨h1, hrest⟩ := h c
    refine ⟨h1.trans ?_, hrest⟩
    rw [(harg c).1, (harg c).2.1, (harg c).2.2]
    funext i
    obtain ⟨p, q, rfl⟩ : ∃ p q : Fin 4096, i = ix2 p q := ⟨i 0, i 1, by funext a; fin_cases a <;> rfl⟩
    refine (Cert.Reference2Ideal.Mlp.res_at _ (Cert.Reference2Ideal.Mlp.prod _ _) p q).trans ?_
    rw [Cert.Reference2Ideal.Mlp.prod_at]
    rfl

end Cert.Mlp.DownDx

end
-- ==== Proof.Mlp.DownDw.lean ====
/- The gradient of the weight of the block's second product: the call and its reference leave the same array. -/
module

public import proofs.«01_k».proof.Defs
public import proofs.«01_k».proof.Proof.Gen.Kernel3Ideal.Value
public import proofs.«01_k».proof.Proof.Gen.Reference3Ideal.Run
public import Idealize.ShloMosaic.Lib.Pointwise
public import Idealize.ShloMosaic.Lib.Tactic.CleanTypes
public import Idealize.ShloMosaic.Lib.IdealHost
public import Idealize.ShloMosaic.Lib.Pipeline.ValueKit.Geometry
public import Idealize.ShloMosaic.Lib.Pipeline.ValueKit.Point
public import Idealize.ShloMosaic.Lib.Pipeline.ValueKit.Acc

@[expose] public section

set_option maxRecDepth 16384

noncomputable section

/-! ### The mathematics -/

namespace Cert.Mlp.DownDw

open Idealize.ShloMosaic

/-- The gradient: the squared positive parts' column `i` with the incoming gradient's column `j`. -/
def grad (z : (⟨2, ![4096, 4096]⟩ : Shape).Idx → EReal) (d : (⟨2, ![4096, 1024]⟩ : Shape).Idx → EReal) (i : Fin 4096) (j : Fin 1024) : EReal :=
  ∑ k : Fin 4096, (max (z (ix2 k i)) 0 * max (z (ix2 k i)) 0) * d (ix2 k j)

end Cert.Mlp.DownDw

/-! ### The kernel -/

namespace Cert.Kernel3Ideal.Mlp

open Cert.Kernel3Ideal Cert.Kernel3Ideal.Gen
open Idealize.ShloMosaic Idealize.ShloMosaic.TcCoe
open Cert.Mlp.DownDw (grad)

/-- What the body stores, at an index. -/
theorem pay_at (x0 x1 : S4096x1024.Idx → EReal) (p q : Fin 1024) :
    (k0_pay1 (F := Ideal) x0 x1 (ix2 p q) : EReal) = ∑ k : Fin 4096, x0 (ix2 k p) * x1 (ix2 k q) := by
  pointwise [k0_pay1]

variable (m : (ℓ : Loc nD τ sig) → Buf (Elt Ideal) ℓ) (c : Dev nD)

/-- The squared positive part, computed by the host. -/
def act (z : FVec Ideal S4096x4096 .bf16) : FVec Ideal S4096x4096 .bf16 :=
  truncf .bf16 (mulf (maximumf (extf .f32 z bitsLt_bf16_f32) (broadcastInDim S4096x4096 ![] bcast_S_S4096x4096 (constant S_ .f32 0x00000000#32))) (maximumf (extf .f32 z bitsLt_bf16_f32) (broadcastInDim S4096x4096 ![] bcast_S_S4096x4096 (constant S_ .f32 0x00000000#32)))) bitsLt_bf16_f32

/-- The squared positive part at an index. -/
theorem act_at (z : FVec Ideal S4096x4096 .bf16) (i j : Fin 4096) : (act z (ix2 i j) : EReal) = max (z (ix2 i j)) 0 * max (z (ix2 i j)) 0 := by
  pointwise [act]

/-- The call reads the squared positive part of the first argument. -/
theorem host_act : (V m c main_v4 : S4096x4096.Idx → EReal) = act (m ((c.tc : Thread nD τ).loc main_arg0)) := by
  simp only [V, hostOps0]
  after_results_simp <;> rfl

/-- Where the windows lie at a point. -/
abbrev placeAt (t : Fin cfg0.N) : Prop :=
  (win0_0.index t (0 : Fin 2) = 0 ∧ win0_0.index t (1 : Fin 2) = t.val)
  ∧ (win0_1.index t (0 : Fin 2) = 0 ∧ win0_1.index t (1 : Fin 2) = 0)
  ∧ (win0_2.index t (0 : Fin 2) = t.val ∧ win0_2.index t (1 : Fin 2) = 0)

/-- The windows' places at every point. -/
theorem place_all : ∀ t : Fin cfg0.N, placeAt t := by decide +kernel

/-- The blocks written back fill the array. -/
theorem covers : (cfg0.win 2).Covers := by decide +kernel

/-- The place in the array of a place in a block. -/
abbrev at4 (t : Fin cfg0.N) (p : Fin 1024) : Fin 4096 := ⟨t.val * 1024 + p.val, by have := t.isLt; have h : cfg0.N = 4 := rfl; omega⟩

variable (t : Fin cfg0.N)

/-- The squared positive part's block at an index. -/
theorem blk0 (k : Fin 4096) (p : Fin 1024) : (iblk m c 0 t : S4096x1024.Idx → EReal) (ix2 k p) = (V m c main_v4 : S4096x4096.Idx → EReal) (ix2 k (at4 t p)) := by
  obtain ⟨⟨e0, e1⟩, -⟩ := place_all t
  unfold iblk
  refine congrArg (V m c main_v4 : S4096x4096.Idx → EReal) ?_
  funext a
  apply Fin.ext
  fin_cases a
  · refine (Pipeline.Window.rect_emb_val win0_0 t (ix2 k p) (0 : Fin 2)).trans ?_
    rw [e0]
    show 0 * 4096 + k.val = k.val
    omega
  · refine (Pipeline.Window.rect_emb_val win0_0 t (ix2 k p) (1 : Fin 2)).trans ?_
    rw [e1]
    rfl

/-- The incoming gradient's block at an index. -/
theorem blk1 (k : Fin 4096) (q : Fin 1024) : (iblk m c 1 t : S4096x1024.Idx → EReal) (ix2 k q) = (V m c main_arg1 : S4096x1024.Idx → EReal) (ix2 k q) := by
  obtain ⟨-, ⟨e0, e1⟩, -⟩ := place_all t
  unfold iblk
  refine congrArg (V m c main_arg1 : S4096x1024.Idx → EReal) ?_
  funext a
  apply Fin.ext
  fin_cases a
  · refine (Pipeline.Window.rect_emb_val win0_1 t (ix2 k q) (0 : Fin 2)).trans ?_
    rw [e0]
    show 0 * 4096 + k.val = k.val
    omega
  · refine (Pipeline.Window.rect_emb_val win0_1 t (ix2 k q) (1 : Fin 2)).trans ?_
    rw [e1]
    show 0 * 1024 + q.val = q.val
    omega

/-- The array after the call. -/
theorem final : ((dats m 0 c).arrAt 2 cfg0.N : S4096x1024.Idx → EReal)
    = fun i => grad (m ((c.tc : Thread nD τ).loc main_arg0)) (m ((c.tc : Thread nD τ).loc main_arg1)) (i 0) (i 1) := by
  refine (dats m 0 c).arrAt_eq_of_covers 2 _ covers fun t hf y => ?_
  obtain ⟨-, -, ⟨e0, e1⟩⟩ := place_all t
  obtain ⟨p, q, hy⟩ : ∃ (p : Fin 1024) (q : Fin 1024), (cfg0.win 2).xinj (cfg0.grid.coords t) y = ix2 p q :=
    ⟨_, _, funext fun a => by fin_cases a <;> rfl⟩
  have y0 : (y (0 : Fin 2)).val = p.val := congrArg (fun z : S1024x1024.Idx => (z (0 : Fin 2)).val) hy
  have y1 : (y (1 : Fin 2)).val = q.val := congrArg (fun z : S1024x1024.Idx => (z (1 : Fin 2)).val) hy
  have i0 : (((cfg0.win 2).blk t).view.emb y (0 : Fin 2)) = at4 t p := by
    apply Fin.ext
    refine (Pipeline.Window.rect_emb_val win0_2 t y (0 : Fin 2)).trans ?_
    rw [e0, y0]
    rfl
  have i1 : (((cfg0.win 2).blk t).view.emb y (1 : Fin 2)) = q := by
    apply Fin.ext
    refine (Pipeline.Window.rect_emb_val win0_2 t y (1 : Fin 2)).trans ?_
    rw [e1, y1]
    show 0 * 1024 + q.val = q.val
    omega
  refine (show _ = grad (m ((c.tc : Thread nD τ).loc main_arg0)) (m ((c.tc : Thread nD τ).loc main_arg1)) (at4 t p) q from ?_).trans ?_
  · show ((dats m 0 c).after 2 t : S1024x1024.Idx → EReal) ((cfg0.win 2).xinj (cfg0.grid.coords t) y) = _
    rw [hy, after0_2]
    unfold outsAt0
    frame_out
    rw [pay_at]
    simp only [blk0, blk1]
    rw [V_main_arg1, host_act]
    simp only [act_at]
    rfl
  · exact (congr (congrArg _ i0) i1).symm

end Cert.Kernel3Ideal.Mlp

/-! ### The reference -/

namespace Cert.Reference3Ideal.Mlp

open Cert.Reference3Ideal Cert.Reference3Ideal.Gen
open Idealize.ShloMosaic
open Cert.Mlp.DownDw (grad)

/-- The reference's squared positive part. -/
def act (z : FVec Ideal S4096x4096 .bf16) : FVec Ideal S4096x4096 .f32 :=
  mulf (maximumf (extf .f32 z bitsLt_bf16_f32) (broadcastInDim S4096x4096 ![] bcast_S_S4096x4096 (constant S_ .f32 0x00000000#32))) (maximumf (extf .f32 z bitsLt_bf16_f32) (broadcastInDim S4096x4096 ![] bcast_S_S4096x4096 (constant S_ .f32 0x00000000#32)))

/-- The reference's squared positive part at an index. -/
theorem act_at (z : FVec Ideal S4096x4096 .bf16) (i j : Fin 4096) : (act z (ix2 i j) : EReal) = max (z (ix2 i j)) 0 * max (z (ix2 i j)) 0 := by
  pointwise [act]

/-- The reference's result, over the squared positive part. -/
def res (a : FVec Ideal S4096x4096 .f32) (d : FVec Ideal S4096x1024 .bf16) : FVec Ideal S4096x1024 .bf16 :=
  truncf .bf16 (transpose S4096x1024 [1, 0] (Host.dotGeneral dot_S4096x1024_S4096x4096_S1024x4096_0_0_1_1_n_n none (extf .f32 d bitsLt_bf16_f32) a) transposes_S1024x4096_S4096x1024_1_0) bitsLt_bf16_f32

/-- The reference's result at an index. -/
theorem res_at (a : FVec Ideal S4096x4096 .f32) (d : FVec Ideal S4096x1024 .bf16) (i : Fin 4096) (j : Fin 1024) :
    (res a d (ix2 i j) : EReal) = ∑ k : Fin 4096, (d (ix2 k j) : EReal) * a (ix2 k i) := by
  pointwise [res]

end Cert.Reference3Ideal.Mlp

/-! ### The two together -/

namespace Cert.Mlp.DownDw

open Idealize.ShloMosaic Idealize.SL.Sem
open Idealize.ShloMosaic.TcCoe

set_option maxHeartbeats 1600000 in
/-- The call's result and the reference's are equal. -/
theorem results_equal : Cert.algebraic_Kernel3Ideal_Reference3Ideal := by
  intro m g m' g' _ harg
  refine ⟨fun c => ((fun i => grad (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (i 0) (i 1)) : Cert.Kernel3Ideal.S4096x1024.Idx → EReal), ?_, ?_⟩
  · refine (θ_run Cert.Kernel3Ideal.defs _ _).mono (fun r h c => ?_) (Cert.Kernel3Ideal.Value.run_blocks (F := Ideal) m g)
    obtain ⟨h1, hrest⟩ := h c
    exact ⟨h1.trans (Cert.Kernel3Ideal.Mlp.final m c), hrest⟩
  · refine (θ_run Cert.Reference3Ideal.defs _ _).mono (fun r h c => ?_) (Cert.Reference3Ideal.Value.run (F := Ideal) m' g')
    obtain ⟨h1, hrest⟩ := h c
    refine ⟨h1.trans ?_, hrest⟩
    rw [(harg c).1, (harg c).2.1]
    funext i
    obtain ⟨p, q, rfl⟩ : ∃ (p : Fin 4096) (q : Fin 1024), i = ix2 p q := ⟨i 0, i 1, by funext a; fin_cases a <;> rfl⟩
    refine (Cert.Reference3Ideal.Mlp.res_at (Cert.Reference3Ideal.Mlp.act _) _ p q).trans ?_
    refine Finset.sum_congr rfl fun k _ => ?_
    rw [Cert.Reference3Ideal.Mlp.act_at, mul_comm]
    rfl

end Cert.Mlp.DownDw

end
-- ==== Proof.Mlp.UpDw.lean ====
/- The gradient of the weight of the block's first product: the call and its reference leave the same array. -/
module

public import proofs.«01_k».proof.Defs
public import proofs.«01_k».proof.Proof.Gen.Kernel4Ideal.Value
public import proofs.«01_k».proof.Proof.Gen.Reference4Ideal.Run
public import Idealize.ShloMosaic.Lib.Pointwise
public import Idealize.ShloMosaic.Lib.Tactic.CleanTypes
public import Idealize.ShloMosaic.Lib.IdealHost
public import Idealize.ShloMosaic.Lib.Pipeline.ValueKit.Geometry
public import Idealize.ShloMosaic.Lib.Pipeline.ValueKit.Point
public import Idealize.ShloMosaic.Lib.Pipeline.ValueKit.Acc

@[expose] public section

set_option maxRecDepth 16384

noncomputable section

/-! ### The mathematics -/

namespace Cert.Mlp.UpDw

open Idealize.ShloMosaic

/-- The gradient: row `i` of the result is row `i % 1024` of the product, its columns those of the column block `i / 1024`. -/
def grad (a : (⟨2, ![4096, 1024]⟩ : Shape).Idx → EReal) (d : (⟨2, ![4096, 4096]⟩ : Shape).Idx → EReal) (i : Fin 4096) (j : Fin 1024) : EReal :=
  ∑ k : Fin 4096, a (ix2 k (⟨i.val % 1024, by omega⟩ : Fin 1024)) * d (ix2 k (⟨i.val / 1024 * 1024 + j.val, by omega⟩ : Fin 4096))

end Cert.Mlp.UpDw

/-! ### The kernel -/

namespace Cert.Kernel4Ideal.Mlp

open Cert.Kernel4Ideal Cert.Kernel4Ideal.Gen
open Idealize.ShloMosaic Idealize.ShloMosaic.TcCoe
open Cert.Mlp.UpDw (grad)

/-- What the body stores, at an index. -/
theorem pay_at (x0 x1 : S4096x1024.Idx → EReal) (p q : Fin 1024) :
    (k0_pay1 (F := Ideal) x0 x1 (ix2 p q) : EReal) = ∑ k : Fin 4096, x0 (ix2 k p) * x1 (ix2 k q) := by
  pointwise [k0_pay1]

variable (m : (ℓ : Loc nD τ sig) → Buf (Elt Ideal) ℓ) (c : Dev nD)

/-- Where the windows lie at a point. -/
abbrev placeAt (t : Fin cfg0.N) : Prop :=
  (win0_0.index t (0 : Fin 2) = 0 ∧ win0_0.index t (1 : Fin 2) = 0)
  ∧ (win0_1.index t (0 : Fin 2) = 0 ∧ win0_1.index t (1 : Fin 2) = t.val)
  ∧ (win0_2.index t (0 : Fin 2) = t.val ∧ win0_2.index t (1 : Fin 2) = 0)

/-- The windows' places at every point. -/
theorem place_all : ∀ t : Fin cfg0.N, placeAt t := by decide +kernel

/-- The blocks written back fill the array. -/
theorem covers : (cfg0.win 2).Covers := by decide +kernel

/-- The place in the array of a place in a block. -/
abbrev at4 (t : Fin cfg0.N) (p : Fin 1024) : Fin 4096 := ⟨t.val * 1024 + p.val, by have := t.isLt; have h : cfg0.N = 4 := rfl; omega⟩

variable (t : Fin cfg0.N)

/-- The activation's block at an index. -/
theorem blk0 (k : Fin 4096) (p : Fin 1024) : (iblk m c 0 t : S4096x1024.Idx → EReal) (ix2 k p) = (V m c main_arg0 : S4096x1024.Idx → EReal) (ix2 k p) := by
  obtain ⟨⟨e0, e1⟩, -⟩ := place_all t
  unfold iblk
  refine congrArg (V m c main_arg0 : S4096x1024.Idx → EReal) ?_
  funext a
  apply Fin.ext
  fin_cases a
  · refine (Pipeline.Window.rect_emb_val win0_0 t (ix2 k p) (0 : Fin 2)).trans ?_
    rw [e0]
    show 0 * 4096 + k.val = k.val
    omega
  · refine (Pipeline.Window.rect_emb_val win0_0 t (ix2 k p) (1 : Fin 2)).trans ?_
    rw [e1]
    show 0 * 1024 + p.val = p.val
    omega

/-- The incoming gradient's block at an index. -/
theorem blk1 (k : Fin 4096) (p : Fin 1024) : (iblk m c 1 t : S4096x1024.Idx → EReal) (ix2 k p) = (V m c main_arg1 : S4096x4096.Idx → EReal) (ix2 k (at4 t p)) := by
  obtain ⟨-, ⟨e0, e1⟩, -⟩ := place_all t
  unfold iblk
  refine congrArg (V m c main_arg1 : S4096x4096.Idx → EReal) ?_
  funext a
  apply Fin.ext
  fin_cases a
  · refine (Pipeline.Window.rect_emb_val win0_1 t (ix2 k p) (0 : Fin 2)).trans ?_
    rw [e0]
    show 0 * 4096 + k.val = k.val
    omega
  · refine (Pipeline.Window.rect_emb_val win0_1 t (ix2 k p) (1 : Fin 2)).trans ?_
    rw [e1]
    rfl

/-- The gradient at a place of a block. -/
theorem grad_at (a : S4096x1024.Idx → EReal) (d : S4096x4096.Idx → EReal) (p q : Fin 1024) :
    grad a d (at4 t p) q = ∑ k : Fin 4096, a (ix2 k p) * d (ix2 k (at4 t q)) := by
  have h : (⟨(at4 t p).val % 1024, by omega⟩ : Fin 1024) = p :=
    Fin.ext (show (t.val * 1024 + p.val) % 1024 = p.val by omega)
  have h' : (⟨(at4 t p).val / 1024 * 1024 + q.val, by have := (at4 t p).isLt; omega⟩ : Fin 4096) = at4 t q :=
    Fin.ext (show (t.val * 1024 + p.val) / 1024 * 1024 + q.val = t.val * 1024 + q.val by omega)
  unfold grad
  rw [h, h']

/-- The array after the call. -/
theorem final : ((dats m 0 c).arrAt 2 cfg0.N : S4096x1024.Idx → EReal)
    = fun i => grad (m ((c.tc : Thread nD τ).loc main_arg0)) (m ((c.tc : Thread nD τ).loc main_arg1)) (i 0) (i 1) := by
  refine (dats m 0 c).arrAt_eq_of_covers 2 _ covers fun t hf y => ?_
  obtain ⟨-, -, ⟨e0, e1⟩⟩ := place_all t
  obtain ⟨p, q, hy⟩ : ∃ (p : Fin 1024) (q : Fin 1024), (cfg0.win 2).xinj (cfg0.grid.coords t) y = ix2 p q :=
    ⟨_, _, funext fun a => by fin_cases a <;> rfl⟩
  have y0 : (y (0 : Fin 2)).val = p.val := congrArg (fun z : S1024x1024.Idx => (z (0 : Fin 2)).val) hy
  have y1 : (y (1 : Fin 2)).val = q.val := congrArg (fun z : S1024x1024.Idx => (z (1 : Fin 2)).val) hy
  have i0 : (((cfg0.win 2).blk t).view.emb y (0 : Fin 2)) = at4 t p := by
    apply Fin.ext
    refine (Pipeline.Window.rect_emb_val win0_2 t y (0 : Fin 2)).trans ?_
    rw [e0, y0]
    rfl
  have i1 : (((cfg0.win 2).blk t).view.emb y (1 : Fin 2)) = q := by
    apply Fin.ext
    refine (Pipeline.Window.rect_emb_val win0_2 t y (1 : Fin 2)).trans ?_
    rw [e1, y1]
    show 0 * 1024 + q.val = q.val
    omega
  refine (show _ = grad (m ((c.tc : Thread nD τ).loc main_arg0)) (m ((c.tc : Thread nD τ).loc main_arg1)) (at4 t p) q from ?_).trans ?_
  · show ((dats m 0 c).after 2 t : S1024x1024.Idx → EReal) ((cfg0.win 2).xinj (cfg0.grid.coords t) y) = _
    rw [hy, after0_2]
    unfold outsAt0
    frame_out
    rw [pay_at]
    simp only [blk0, blk1]
    rw [V_main_arg0, V_main_arg1]
    exact (grad_at t _ _ p q).symm
  · exact (congr (congrArg _ i0) i1).symm

end Cert.Kernel4Ideal.Mlp

/-! ### The reference -/

namespace Cert.Reference4Ideal.Mlp

open Cert.Reference4Ideal Cert.Reference4Ideal.Gen
open Idealize.ShloMosaic
open Cert.Mlp.UpDw (grad)

/-- The reference's product. -/
def prod (a : FVec Ideal S4096x1024 .bf16) (d : FVec Ideal S4096x4096 .bf16) : FVec Ideal S1024x4096 .bf16 :=
  truncf .bf16 (transpose S1024x4096 [1, 0] (Host.dotGeneral dot_S4096x4096_S4096x1024_S4096x1024_0_0_1_1_n_n none (extf .f32 d bitsLt_bf16_f32) (extf .f32 a bitsLt_bf16_f32)) transposes_S4096x1024_S1024x4096_1_0) bitsLt_bf16_f32

/-- The reference's product at an index. -/
theorem prod_at (a : FVec Ideal S4096x1024 .bf16) (d : FVec Ideal S4096x4096 .bf16) (i : Fin 1024) (j : Fin 4096) :
    (prod a d (ix2 i j) : EReal) = ∑ k : Fin 4096, (d (ix2 k j) : EReal) * a (ix2 k i) := by
  pointwise [prod]

/-- Column blocks laid one below the other. -/
def pack (x : FVec Ideal S1024x4096 .bf16) : FVec Ideal S4096x1024 .bf16 :=
  shapeCast _ (transpose S4x1024x1024 [1, 0, 2] (shapeCast _ x shapeCasts_S1024x4096_S1024x4x1024) transposes_S1024x4x1024_S4x1024x1024_1_0_2) shapeCasts_S4x1024x1024_S4096x1024

/-- Column blocks laid one below the other, at an index. -/
theorem pack_at (x : FVec Ideal S1024x4096 .bf16) (i : Fin 4096) (j : Fin 1024) :
    (pack x (ix2 i j) : EReal) = x (ix2 (⟨i.val % 1024, by omega⟩ : Fin 1024) (⟨i.val / 1024 * 1024 + j.val, by omega⟩ : Fin 4096)) := by
  pointwise [pack]

end Cert.Reference4Ideal.Mlp

/-! ### The two together -/

namespace Cert.Mlp.UpDw

open Idealize.ShloMosaic Idealize.SL.Sem
open Idealize.ShloMosaic.TcCoe

set_option maxHeartbeats 1600000 in
/-- The call's result and the reference's are equal. -/
theorem results_equal : Cert.algebraic_Kernel4Ideal_Reference4Ideal := by
  intro m g m' g' _ harg
  refine ⟨fun c => ((fun i => grad (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (i 0) (i 1)) : Cert.Kernel4Ideal.S4096x1024.Idx → EReal), ?_, ?_⟩
  · refine (θ_run Cert.Kernel4Ideal.defs _ _).mono (fun r h c => ?_) (Cert.Kernel4Ideal.Value.run_blocks (F := Ideal) m g)
    obtain ⟨h1, hrest⟩ := h c
    exact ⟨h1.trans (Cert.Kernel4Ideal.Mlp.final m c), hrest⟩
  · refine (θ_run Cert.Reference4Ideal.defs _ _).mono (fun r h c => ?_) (Cert.Reference4Ideal.Value.run (F := Ideal) m' g')
    obtain ⟨h1, hrest⟩ := h c
    refine ⟨h1.trans ?_, hrest⟩
    rw [(harg c).1, (harg c).2.1]
    funext i
    obtain ⟨p, q, rfl⟩ : ∃ (p : Fin 4096) (q : Fin 1024), i = ix2 p q := ⟨i 0, i 1, by funext a; fin_cases a <;> rfl⟩
    refine (Cert.Reference4Ideal.Mlp.pack_at (Cert.Reference4Ideal.Mlp.prod _ _) p q).trans ?_
    rw [Cert.Reference4Ideal.Mlp.prod_at]
    refine Finset.sum_congr rfl fun k _ => ?_
    exact mul_comm _ _

end Cert.Mlp.UpDw

end
-- ==== Proof.Mlp.UpDx.lean ====
/- The gradient that goes back through the block's first product: the call and its reference leave the same array. -/
module

public import proofs.«01_k».proof.Defs
public import proofs.«01_k».proof.Proof.Gen.Kernel5Ideal.Value
public import proofs.«01_k».proof.Proof.Gen.Reference5Ideal.Run
public import Idealize.ShloMosaic.Lib.Pointwise
public import Idealize.ShloMosaic.Lib.Tactic.CleanTypes
public import Idealize.ShloMosaic.Lib.IdealHost
public import Idealize.ShloMosaic.Lib.Pipeline.ValueKit.Geometry
public import Idealize.ShloMosaic.Lib.Pipeline.ValueKit.Point
public import Idealize.ShloMosaic.Lib.Pipeline.ValueKit.Acc

@[expose] public section

set_option maxRecDepth 16384

noncomputable section

/-! ### The mathematics -/

namespace Cert.Mlp.UpDx

open Idealize.ShloMosaic

/-- The gradient: the incoming gradient's row `i` with the weight's row `j`. -/
def grad (d : (⟨2, ![4096, 4096]⟩ : Shape).Idx → EReal) (w : (⟨2, ![1024, 4096]⟩ : Shape).Idx → EReal) (i : Fin 4096) (j : Fin 1024) : EReal :=
  ∑ k : Fin 4096, d (ix2 i k) * w (ix2 j k)

/-- The part of it that one of the four column blocks gives. -/
def part (d : (⟨2, ![4096, 4096]⟩ : Shape).Idx → EReal) (w : (⟨2, ![1024, 4096]⟩ : Shape).Idx → EReal) (i : Fin 4096) (j : Fin 1024) (s : Fin 4) : EReal :=
  ∑ k : Fin 1024, d (ix2 i (⟨s.val * 1024 + k.val, by omega⟩ : Fin 4096)) * w (ix2 j (⟨s.val * 1024 + k.val, by omega⟩ : Fin 4096))

/-- The four parts make the whole. -/
theorem parts_sum (d : (⟨2, ![4096, 4096]⟩ : Shape).Idx → EReal) (w : (⟨2, ![1024, 4096]⟩ : Shape).Idx → EReal) (i : Fin 4096) (j : Fin 1024) :
    ((part d w i j 0 + part d w i j 1) + part d w i j 2) + part d w i j 3 = grad d w i j := by
  refine (Fin.sum_univ_four (part d w i j)).symm.trans ?_
  unfold part grad
  exact Fin.sum_mul_add_fin 4 1024 (fun l : Fin 4096 => d (ix2 i l) * w (ix2 j l))

end Cert.Mlp.UpDx

/-! ### The kernel -/

namespace Cert.Kernel5Ideal.Mlp

open Cert.Kernel5Ideal Cert.Kernel5Ideal.Gen
open Idealize.ShloMosaic Idealize.ShloMosaic.TcCoe
open Cert.Mlp.UpDx (grad part parts_sum)

/-- The product of two blocks, at an index. -/
def blockDot (x0 : S2048x1024.Idx → EReal) (x1 : S1024x1024.Idx → EReal) (p : Fin 2048) (q : Fin 1024) : EReal := ∑ k : Fin 1024, x0 (ix2 p k) * x1 (ix2 q k)

/-- What the first of the four points stores, at an index. -/
theorem first_at (x0 : S2048x1024.Idx → EReal) (x1 : S1024x1024.Idx → EReal) (p : Fin 2048) (q : Fin 1024) :
    (k0_pay2 (F := Ideal) x0 x1 (ix2 p q) : EReal) = blockDot x0 x1 p q := by
  unfold blockDot
  pointwise [k0_pay2, k0_pay1]

/-- What the two middle points store, at an index. -/
theorem middle_at (x0 : S2048x1024.Idx → EReal) (x1 : S1024x1024.Idx → EReal) (s : S2048x1024.Idx → EReal) (p : Fin 2048) (q : Fin 1024) :
    (k0_pay3 (F := Ideal) x0 x1 s (ix2 p q) : EReal) = s (ix2 p q) + blockDot x0 x1 p q := by
  unfold blockDot
  pointwise [k0_pay3, k0_pay1]

/-- What the last of the four points stores, at an index. -/
theorem last_at (x0 : S2048x1024.Idx → EReal) (x1 : S1024x1024.Idx → EReal) (s : S2048x1024.Idx → EReal) (p : Fin 2048) (q : Fin 1024) :
    (k0_pay4 (F := Ideal) x0 x1 s (ix2 p q) : EReal) = s (ix2 p q) + blockDot x0 x1 p q := by
  unfold blockDot
  pointwise [k0_pay4, k0_pay1]

variable (m : (ℓ : Loc nD τ sig) → Buf (Elt Ideal) ℓ) (c : Dev nD)

/-- The weight's column blocks laid one below the other. -/
def pack (x : FVec Ideal S1024x4096 .bf16) : FVec Ideal S4096x1024 .bf16 :=
  shapeCast _ (transpose S4x1024x1024 [1, 0, 2] (shapeCast _ x shapeCasts_S1024x4096_S1024x4x1024) transposes_S1024x4x1024_S4x1024x1024_1_0_2) shapeCasts_S4x1024x1024_S4096x1024

/-- The weight's column blocks laid one below the other, at an index. -/
theorem pack_at (x : FVec Ideal S1024x4096 .bf16) (i : Fin 4096) (j : Fin 1024) :
    (pack x (ix2 i j) : EReal) = x (ix2 (⟨i.val % 1024, by omega⟩ : Fin 1024) (⟨i.val / 1024 * 1024 + j.val, by omega⟩ : Fin 4096)) := by
  pointwise [pack]

/-- The call reads the weight's column blocks. -/
theorem host_pack : (V m c main_v2 : S4096x1024.Idx → EReal) = pack (m ((c.tc : Thread nD τ).loc main_arg1)) := by
  simp only [V, hostOps0]
  after_results_simp <;> rfl

/-- Where the windows lie at a point. -/
abbrev placeAt (t : Fin cfg0.N) : Prop :=
  (win0_0.index t (0 : Fin 2) = t.val / 4 ∧ win0_0.index t (1 : Fin 2) = t.val % 4)
  ∧ (win0_1.index t (0 : Fin 2) = t.val % 4 ∧ win0_1.index t (1 : Fin 2) = 0)
  ∧ (win0_2.index t (0 : Fin 2) = t.val / 4 ∧ win0_2.index t (1 : Fin 2) = 0)

/-- The windows' places at every point. -/
theorem place_all : ∀ t : Fin cfg0.N, placeAt t := by decide +kernel

/-- The blocks written back fill the array. -/
theorem covers : (cfg0.win 2).Covers := by decide +kernel

/-- A row of the array, of a row block. -/
abbrev row (t : Fin cfg0.N) (p : Fin 2048) : Fin 4096 := ⟨t.val / 4 * 2048 + p.val, by have := t.isLt; have h : cfg0.N = 8 := rfl; omega⟩
/-- A column of the incoming gradient, of a column block. -/
abbrev col (t : Fin cfg0.N) (k : Fin 1024) : Fin 4096 := ⟨t.val % 4 * 1024 + k.val, by omega⟩

variable (t : Fin cfg0.N)

/-- The incoming gradient's block at an index. -/
theorem blk0 (p : Fin 2048) (k : Fin 1024) : (iblk m c 0 t : S2048x1024.Idx → EReal) (ix2 p k) = (V m c main_arg0 : S4096x4096.Idx → EReal) (ix2 (row t p) (col t k)) := by
  obtain ⟨⟨e0, e1⟩, -⟩ := place_all t
  unfold iblk
  refine congrArg (V m c main_arg0 : S4096x4096.Idx → EReal) ?_
  funext a
  apply Fin.ext
  fin_cases a
  · refine (Pipeline.Window.rect_emb_val win0_0 t (ix2 p k) (0 : Fin 2)).trans ?_
    rw [e0]
    rfl
  · refine (Pipeline.Window.rect_emb_val win0_0 t (ix2 p k) (1 : Fin 2)).trans ?_
    rw [e1]
    rfl

/-- The weight's block at an index. -/
theorem blk1 (q : Fin 1024) (k : Fin 1024) : (iblk m c 1 t : S1024x1024.Idx → EReal) (ix2 q k) = (V m c main_v2 : S4096x1024.Idx → EReal) (ix2 (col t q) k) := by
  obtain ⟨-, ⟨e0, e1⟩, -⟩ := place_all t
  unfold iblk
  refine congrArg (V m c main_v2 : S4096x1024.Idx → EReal) ?_
  funext a
  apply Fin.ext
  fin_cases a
  · refine (Pipeline.Window.rect_emb_val win0_1 t (ix2 q k) (0 : Fin 2)).trans ?_
    rw [e0]
    rfl
  · refine (Pipeline.Window.rect_emb_val win0_1 t (ix2 q k) (1 : Fin 2)).trans ?_
    rw [e1]
    show 0 * 1024 + k.val = k.val
    omega

/-- The product of a point's blocks is a part of the gradient. -/
theorem blockDot_part (p : Fin 2048) (q : Fin 1024) :
    blockDot (iblk m c 0 t) (iblk m c 1 t) p q = part (m ((c.tc : Thread nD τ).loc main_arg0)) (m ((c.tc : Thread nD τ).loc main_arg1)) (row t p) q ⟨t.val % 4, by omega⟩ := by
  unfold blockDot part
  refine Finset.sum_congr rfl fun k _ => ?_
  rw [blk0, blk1, V_main_arg0, host_pack, pack_at]
  have h : (⟨(col t q).val % 1024, by omega⟩ : Fin 1024) = q :=
    Fin.ext (show (t.val % 4 * 1024 + q.val) % 1024 = q.val by omega)
  have h' : (⟨(col t q).val / 1024 * 1024 + k.val, by have := (col t q).isLt; omega⟩ : Fin 4096) = col t k :=
    Fin.ext (show (t.val % 4 * 1024 + q.val) / 1024 * 1024 + k.val = t.val % 4 * 1024 + k.val by omega)
  rw [h, h']

/-- The running sum after the first of the four points. -/
theorem run_first (h0 : t.val % 4 = 0) (p : Fin 2048) (q : Fin 1024) :
    ((outsAt0 m c t.val t.isLt).2 (ix2 p q) : EReal) = blockDot (iblk m c 0 t) (iblk m c 1 t) p q := by
  rw [outsAt0_A m c t h0 (by omega) (by omega)]
  frame_out
  rw [first_at]

/-- The running sum after a middle point. -/
theorem run_middle (h1 : 1 ≤ t.val % 4 ∧ t.val % 4 ≤ 2) (p : Fin 2048) (q : Fin 1024) :
    ((outsAt0 m c t.val t.isLt).2 (ix2 p q) : EReal)
      = (outsAt0 m c (t.val - 1) (Nat.lt_of_le_of_lt (Nat.sub_le _ _) t.isLt)).2 (ix2 p q) + blockDot (iblk m c 0 t) (iblk m c 1 t) p q := by
  rw [outsAt0_B m c t (by omega) h1 (by omega)]
  frame_out
  rw [middle_at]
  exact congrArg (fun z : EReal => z + _) (congrFun ((Memref.isWhole_whole cc0_scratch0).read_unread _) _)

/-- The block after the last of the four points. -/
theorem run_last (h2 : t.val % 4 = 3) (p : Fin 2048) (q : Fin 1024) :
    ((outsAt0 m c t.val t.isLt).1 (ix2 p q) : EReal)
      = (outsAt0 m c (t.val - 1) (Nat.lt_of_le_of_lt (Nat.sub_le _ _) t.isLt)).2 (ix2 p q) + blockDot (iblk m c 0 t) (iblk m c 1 t) p q := by
  rw [outsAt0_C m c t (by omega) (by omega) h2]
  frame_out
  rw [last_at]
  exact congrArg (fun z : EReal => z + _) (congrFun ((Memref.isWhole_whole cc0_scratch0).read_unread _) _)

/-- The block that the last of the four points of a row block leaves. -/
theorem run_block (b : ℕ) (hb : 4 * b + 3 < cfg0.N) (p : Fin 2048) (q : Fin 1024) :
    ((outsAt0 m c (4 * b + 3) hb).1 (ix2 p q) : EReal)
      = grad (m ((c.tc : Thread nD τ).loc main_arg0)) (m ((c.tc : Thread nD τ).loc main_arg1)) (row ⟨4 * b + 3, hb⟩ p) q := by
  have hd : ∀ s (hs : s < 4), row (⟨4 * b + s, by omega⟩ : Fin cfg0.N) p = row ⟨4 * b + 3, hb⟩ p := fun s hs =>
    Fin.ext (show (4 * b + s) / 4 * 2048 + p.val = (4 * b + 3) / 4 * 2048 + p.val by omega)
  have hm : ∀ s (hs : s < 4), (⟨(4 * b + s) % 4, by omega⟩ : Fin 4) = ⟨s, hs⟩ := fun s hs => Fin.ext (show (4 * b + s) % 4 = s by omega)
  have e3 := run_last m c ⟨4 * b + 3, hb⟩ (show (4 * b + 3) % 4 = 3 by omega) p q
  have e2 := run_middle m c ⟨4 * b + 2, by omega⟩ (show 1 ≤ (4 * b + 2) % 4 ∧ (4 * b + 2) % 4 ≤ 2 by omega) p q
  have e1 := run_middle m c ⟨4 * b + 1, by omega⟩ (show 1 ≤ (4 * b + 1) % 4 ∧ (4 * b + 1) % 4 ≤ 2 by omega) p q
  have e0 := run_first m c ⟨4 * b + 0, by omega⟩ (show (4 * b + 0) % 4 = 0 by omega) p q
  rw [blockDot_part] at e0 e1 e2 e3
  rw [hd 0 (by omega)] at e0
  rw [hd 1 (by omega)] at e1
  rw [hd 2 (by omega)] at e2
  refine e3.trans (Eq.trans ?_ (parts_sum _ _ (row ⟨4 * b + 3, hb⟩ p) q))
  refine congr (congrArg HAdd.hAdd (e2.trans (congr (congrArg HAdd.hAdd (e1.trans (congr (congrArg HAdd.hAdd (e0.trans (congrArg _ (hm 0 (by omega))))) (congrArg _ (hm 1 (by omega)))))) (congrArg _ (hm 2 (by omega)))))) (congrArg _ (hm 3 (by omega)))

/-- The array after the call. -/
theorem final : ((dats m 0 c).arrAt 2 cfg0.N : S4096x1024.Idx → EReal)
    = fun i => grad (m ((c.tc : Thread nD τ).loc main_arg0)) (m ((c.tc : Thread nD τ).loc main_arg1)) (i 0) (i 1) := by
  refine (dats m 0 c).arrAt_eq_of_covers 2 _ covers fun t hf y => ?_
  have hm : t.val % 4 = 3 := (flush0_2 t).mp hf
  obtain ⟨-, -, ⟨e0, e1⟩⟩ := place_all t
  obtain ⟨p, q, hy⟩ : ∃ (p : Fin 2048) (q : Fin 1024), (cfg0.win 2).xinj (cfg0.grid.coords t) y = ix2 p q :=
    ⟨_, _, funext fun a => by fin_cases a <;> rfl⟩
  have y0 : (y (0 : Fin 2)).val = p.val := congrArg (fun z : S2048x1024.Idx => (z (0 : Fin 2)).val) hy
  have y1 : (y (1 : Fin 2)).val = q.val := congrArg (fun z : S2048x1024.Idx => (z (1 : Fin 2)).val) hy
  have i0 : (((cfg0.win 2).blk t).view.emb y (0 : Fin 2)) = row t p := by
    apply Fin.ext
    refine (Pipeline.Window.rect_emb_val win0_2 t y (0 : Fin 2)).trans ?_
    rw [e0, y0]
    rfl
  have i1 : (((cfg0.win 2).blk t).view.emb y (1 : Fin 2)) = q := by
    apply Fin.ext
    refine (Pipeline.Window.rect_emb_val win0_2 t y (1 : Fin 2)).trans ?_
    rw [e1, y1]
    show 0 * 1024 + q.val = q.val
    omega
  refine (show _ = grad (m ((c.tc : Thread nD τ).loc main_arg0)) (m ((c.tc : Thread nD τ).loc main_arg1)) (row t p) q from ?_).trans ?_
  · show ((dats m 0 c).after 2 t : S2048x1024.Idx → EReal) ((cfg0.win 2).xinj (cfg0.grid.coords t) y) = _
    rw [hy, after0_2]
    obtain ⟨b, hb⟩ : ∃ b, t.val = 4 * b + 3 := ⟨t.val / 4, by omega⟩
    obtain ⟨n, hn⟩ := t
    obtain rfl : n = 4 * b + 3 := hb
    exact run_block m c b hn p q
  · exact (congr (congrArg _ i0) i1).symm

end Cert.Kernel5Ideal.Mlp

/-! ### The reference -/

namespace Cert.Reference5Ideal.Mlp

open Cert.Reference5Ideal Cert.Reference5Ideal.Gen
open Idealize.ShloMosaic
open Cert.Mlp.UpDx (grad)

/-- The reference's result. -/
def res (d : FVec Ideal S4096x4096 .bf16) (w : FVec Ideal S1024x4096 .bf16) : FVec Ideal S4096x1024 .f32 :=
  Host.dotGeneral dot_S4096x4096_S1024x4096_S4096x1024_1_1_0_0_n_n none (extf .f32 d bitsLt_bf16_f32) (extf .f32 w bitsLt_bf16_f32)

/-- The reference's result at an index. -/
theorem res_at (d : FVec Ideal S4096x4096 .bf16) (w : FVec Ideal S1024x4096 .bf16) (i : Fin 4096) (j : Fin 1024) :
    (res d w (ix2 i j) : EReal) = grad d w i j := by
  unfold grad
  pointwise [res]

end Cert.Reference5Ideal.Mlp

/-! ### The two together -/

namespace Cert.Mlp.UpDx

open Idealize.ShloMosaic Idealize.SL.Sem
open Idealize.ShloMosaic.TcCoe

set_option maxHeartbeats 1600000 in
/-- The call's result and the reference's are equal. -/
theorem results_equal : Cert.algebraic_Kernel5Ideal_Reference5Ideal := by
  intro m g m' g' _ harg
  refine ⟨fun c => ((fun i => grad (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (i 0) (i 1)) : Cert.Kernel5Ideal.S4096x1024.Idx → EReal), ?_, ?_⟩
  · refine (θ_run Cert.Kernel5Ideal.defs _ _).mono (fun r h c => ?_) (Cert.Kernel5Ideal.Value.run_blocks (F := Ideal) m g)
    obtain ⟨h1, hrest⟩ := h c
    exact ⟨h1.trans (Cert.Kernel5Ideal.Mlp.final m c), hrest⟩
  · refine (θ_run Cert.Reference5Ideal.defs _ _).mono (fun r h c => ?_) (Cert.Reference5Ideal.Value.run (F := Ideal) m' g')
    obtain ⟨h1, hrest⟩ := h c
    refine ⟨h1.trans ?_, hrest⟩
    rw [(harg c).1, (harg c).2]
    funext i
    obtain ⟨p, q, rfl⟩ : ∃ (p : Fin 4096) (q : Fin 1024), i = ix2 p q := ⟨i 0, i 1, by funext a; fin_cases a <;> rfl⟩
    exact Cert.Reference5Ideal.Mlp.res_at _ _ p q

end Cert.Mlp.UpDx

end
-- ==== Proof.Mlp.Up.lean ====
/- The block's first product, its positive part and the square of that: the call and its reference leave the same arrays. -/
module

public import proofs.«01_k».proof.Defs
public import proofs.«01_k».proof.Proof.Gen.Kernel6Ideal.Value
public import proofs.«01_k».proof.Proof.Gen.Reference6Ideal.Run
public import Idealize.ShloMosaic.Lib.Pointwise
public import Idealize.ShloMosaic.Lib.Tactic.CleanTypes
public import Idealize.ShloMosaic.Lib.IdealHost
public import Idealize.ShloMosaic.Lib.Pipeline.ValueKit.Geometry
public import Idealize.ShloMosaic.Lib.Pipeline.ValueKit.Point
public import Idealize.ShloMosaic.Lib.Pipeline.ValueKit.Acc

@[expose] public section

set_option maxRecDepth 16384

noncomputable section

/-! ### The mathematics -/

namespace Cert.Mlp.Up

open Idealize.ShloMosaic

/-- The product of the input's row `i` with the weight's column `j`. -/
def dot (a : (⟨2, ![4096, 1024]⟩ : Shape).Idx → EReal) (w : (⟨2, ![1024, 4096]⟩ : Shape).Idx → EReal) (i j : Fin 4096) : EReal := ∑ k : Fin 1024, a (ix2 i k) * w (ix2 k j)

/-- The positive part of the product. -/
def relu (a : (⟨2, ![4096, 1024]⟩ : Shape).Idx → EReal) (w : (⟨2, ![1024, 4096]⟩ : Shape).Idx → EReal) (i j : Fin 4096) : EReal := max (dot a w i j) 0

/-- The square of the positive part. -/
def square (a : (⟨2, ![4096, 1024]⟩ : Shape).Idx → EReal) (w : (⟨2, ![1024, 4096]⟩ : Shape).Idx → EReal) (i j : Fin 4096) : EReal := max (dot a w i j) 0 * max (dot a w i j) 0

end Cert.Mlp.Up

/-! ### The kernel -/

namespace Cert.Kernel6Ideal.Mlp

open Cert.Kernel6Ideal Cert.Kernel6Ideal.Gen
open Idealize.ShloMosaic Idealize.ShloMosaic.TcCoe
open Cert.Mlp.Up (dot square relu)

/-- The product of two blocks, at an index. -/
def blockDot (x0 : S2048x1024.Idx → EReal) (x1 : S1024x1024.Idx → EReal) (p : Fin 2048) (q : Fin 1024) : EReal := ∑ k : Fin 1024, x0 (ix2 p k) * x1 (ix2 k q)

/-- What the body stores of the square, at an index. -/
theorem square_at (x0 : S2048x1024.Idx → EReal) (x1 : S1024x1024.Idx → EReal) (p : Fin 2048) (q : Fin 1024) :
    (k0_pay2 (F := Ideal) x0 x1 (ix2 p q) : EReal) = max (blockDot x0 x1 p q) 0 * max (blockDot x0 x1 p q) 0 := by
  unfold blockDot
  pointwise [k0_pay2, k0_pay1]

/-- What the body stores of the positive part, at an index. -/
theorem relu_at (x0 : S2048x1024.Idx → EReal) (x1 : S1024x1024.Idx → EReal) (p : Fin 2048) (q : Fin 1024) :
    (k0_pay3 (F := Ideal) x0 x1 (ix2 p q) : EReal) = max (blockDot x0 x1 p q) 0 := by
  unfold blockDot
  pointwise [k0_pay3, k0_pay1]

variable (m : (ℓ : Loc nD τ sig) → Buf (Elt Ideal) ℓ) (c : Dev nD)

/-- The weight's column blocks laid one below the other. -/
def pack (x : FVec Ideal S1024x4096 .bf16) : FVec Ideal S4096x1024 .bf16 :=
  shapeCast _ (transpose S4x1024x1024 [1, 0, 2] (shapeCast _ x shapeCasts_S1024x4096_S1024x4x1024) transposes_S1024x4x1024_S4x1024x1024_1_0_2) shapeCasts_S4x1024x1024_S4096x1024

/-- The weight's column blocks laid one below the other, at an index. -/
theorem pack_at (x : FVec Ideal S1024x4096 .bf16) (i : Fin 4096) (j : Fin 1024) :
    (pack x (ix2 i j) : EReal) = x (ix2 (⟨i.val % 1024, by omega⟩ : Fin 1024) (⟨i.val / 1024 * 1024 + j.val, by omega⟩ : Fin 4096)) := by
  pointwise [pack]

/-- The call reads the weight's column blocks. -/
theorem host_pack : (V m c main_v2 : S4096x1024.Idx → EReal) = pack (m ((c.tc : Thread nD τ).loc main_arg1)) := by
  simp only [V, hostOps0]
  after_results_simp <;> rfl

/-- Where the windows lie at a point. -/
abbrev placeAt (t : Fin cfg0.N) : Prop :=
  (win0_0.index t (0 : Fin 2) = t.val / 4 ∧ win0_0.index t (1 : Fin 2) = 0)
  ∧ (win0_1.index t (0 : Fin 2) = t.val % 4 ∧ win0_1.index t (1 : Fin 2) = 0)
  ∧ (win0_2.index t (0 : Fin 2) = t.val / 4 ∧ win0_2.index t (1 : Fin 2) = t.val % 4)
  ∧ (win0_3.index t (0 : Fin 2) = t.val / 4 ∧ win0_3.index t (1 : Fin 2) = t.val % 4)

/-- The windows' places at every point. -/
theorem place_all : ∀ t : Fin cfg0.N, placeAt t := by decide +kernel

/-- The blocks written back fill the array of window 2. -/
theorem covers2 : (cfg0.win 2).Covers := by decide +kernel

/-- The blocks written back fill the array of window 3. -/
theorem covers3 : (cfg0.win 3).Covers := by decide +kernel

/-- A row of the array, of a row block. -/
abbrev row (t : Fin cfg0.N) (p : Fin 2048) : Fin 4096 := ⟨t.val / 4 * 2048 + p.val, by have := t.isLt; have h : cfg0.N = 8 := rfl; omega⟩
/-- A column of the array, of a column block. -/
abbrev col (t : Fin cfg0.N) (q : Fin 1024) : Fin 4096 := ⟨t.val % 4 * 1024 + q.val, by omega⟩

variable (t : Fin cfg0.N)

/-- The input's block at an index. -/
theorem blk0 (p : Fin 2048) (k : Fin 1024) : (iblk m c 0 t : S2048x1024.Idx → EReal) (ix2 p k) = (V m c main_arg0 : S4096x1024.Idx → EReal) (ix2 (row t p) k) := by
  obtain ⟨⟨e0, e1⟩, -⟩ := place_all t
  unfold iblk
  refine congrArg (V m c main_arg0 : S4096x1024.Idx → EReal) ?_
  funext a
  apply Fin.ext
  fin_cases a
  · refine (Pipeline.Window.rect_emb_val win0_0 t (ix2 p k) (0 : Fin 2)).trans ?_
    rw [e0]
    rfl
  · refine (Pipeline.Window.rect_emb_val win0_0 t (ix2 p k) (1 : Fin 2)).trans ?_
    rw [e1]
    show 0 * 1024 + k.val = k.val
    omega

/-- The weight's block at an index. -/
theorem blk1 (k : Fin 1024) (q : Fin 1024) : (iblk m c 1 t : S1024x1024.Idx → EReal) (ix2 k q) = (V m c main_v2 : S4096x1024.Idx → EReal) (ix2 (col t k) q) := by
  obtain ⟨-, ⟨e0, e1⟩, -⟩ := place_all t
  unfold iblk
  refine congrArg (V m c main_v2 : S4096x1024.Idx → EReal) ?_
  funext a
  apply Fin.ext
  fin_cases a
  · refine (Pipeline.Window.rect_emb_val win0_1 t (ix2 k q) (0 : Fin 2)).trans ?_
    rw [e0]
    rfl
  · refine (Pipeline.Window.rect_emb_val win0_1 t (ix2 k q) (1 : Fin 2)).trans ?_
    rw [e1]
    show 0 * 1024 + q.val = q.val
    omega

/-- The product of a point's blocks is a block of the product. -/
theorem blockDot_dot (p : Fin 2048) (q : Fin 1024) :
    blockDot (iblk m c 0 t) (iblk m c 1 t) p q = dot (m ((c.tc : Thread nD τ).loc main_arg0)) (m ((c.tc : Thread nD τ).loc main_arg1)) (row t p) (col t q) := by
  unfold blockDot dot
  refine Finset.sum_congr rfl fun k _ => ?_
  rw [blk0, blk1, V_main_arg0, host_pack, pack_at]
  have h : (⟨(col t k).val % 1024, by omega⟩ : Fin 1024) = k :=
    Fin.ext (show (t.val % 4 * 1024 + k.val) % 1024 = k.val by omega)
  have h' : (⟨(col t k).val / 1024 * 1024 + q.val, by have := (col t k).isLt; omega⟩ : Fin 4096) = col t q :=
    Fin.ext (show (t.val % 4 * 1024 + k.val) / 1024 * 1024 + q.val = t.val % 4 * 1024 + q.val by omega)
  rw [h, h']

/-- The array of window 2 after the call. -/
theorem final2 : ((dats m 0 c).arrAt 2 cfg0.N : S4096x4096.Idx → EReal)
    = fun i => square (m ((c.tc : Thread nD τ).loc main_arg0)) (m ((c.tc : Thread nD τ).loc main_arg1)) (i 0) (i 1) := by
  refine (dats m 0 c).arrAt_eq_of_covers 2 _ covers2 fun t hf y => ?_
  obtain ⟨-, -, ⟨e0, e1⟩, -⟩ := place_all t
  obtain ⟨p, q, hy⟩ : ∃ (p : Fin 2048) (q : Fin 1024), (cfg0.win 2).xinj (cfg0.grid.coords t) y = ix2 p q :=
    ⟨_, _, funext fun a => by fin_cases a <;> rfl⟩
  have y0 : (y (0 : Fin 2)).val = p.val := congrArg (fun z : S2048x1024.Idx => (z (0 : Fin 2)).val) hy
  have y1 : (y (1 : Fin 2)).val = q.val := congrArg (fun z : S2048x1024.Idx => (z (1 : Fin 2)).val) hy
  have i0 : (((cfg0.win 2).blk t).view.emb y (0 : Fin 2)) = row t p := by
    apply Fin.ext
    refine (Pipeline.Window.rect_emb_val win0_2 t y (0 : Fin 2)).trans ?_
    rw [e0, y0]
    rfl
  have i1 : (((cfg0.win 2).blk t).view.emb y (1 : Fin 2)) = col t q := by
    apply Fin.ext
    refine (Pipeline.Window.rect_emb_val win0_2 t y (1 : Fin 2)).trans ?_
    rw [e1, y1]
    rfl
  refine (show _ = square (m ((c.tc : Thread nD τ).loc main_arg0)) (m ((c.tc : Thread nD τ).loc main_arg1)) (row t p) (col t q) from ?_).trans ?_
  · show ((dats m 0 c).after 2 t : S2048x1024.Idx → EReal) ((cfg0.win 2).xinj (cfg0.grid.coords t) y) = _
    rw [hy, after0_2]
    frame_out
    unfold square
    rw [square_at, blockDot_dot]
  · exact (congr (congrArg _ i0) i1).symm

/-- The array of window 3 after the call. -/
theorem final3 : ((dats m 0 c).arrAt 3 cfg0.N : S4096x4096.Idx → EReal)
    = fun i => relu (m ((c.tc : Thread nD τ).loc main_arg0)) (m ((c.tc : Thread nD τ).loc main_arg1)) (i 0) (i 1) := by
  refine (dats m 0 c).arrAt_eq_of_covers 3 _ covers3 fun t hf y => ?_
  obtain ⟨-, -, -, ⟨e0, e1⟩⟩ := place_all t
  obtain ⟨p, q, hy⟩ : ∃ (p : Fin 2048) (q : Fin 1024), (cfg0.win 3).xinj (cfg0.grid.coords t) y = ix2 p q :=
    ⟨_, _, funext fun a => by fin_cases a <;> rfl⟩
  have y0 : (y (0 : Fin 2)).val = p.val := congrArg (fun z : S2048x1024.Idx => (z (0 : Fin 2)).val) hy
  have y1 : (y (1 : Fin 2)).val = q.val := congrArg (fun z : S2048x1024.Idx => (z (1 : Fin 2)).val) hy
  have i0 : (((cfg0.win 3).blk t).view.emb y (0 : Fin 2)) = row t p := by
    apply Fin.ext
    refine (Pipeline.Window.rect_emb_val win0_3 t y (0 : Fin 2)).trans ?_
    rw [e0, y0]
    rfl
  have i1 : (((cfg0.win 3).blk t).view.emb y (1 : Fin 2)) = col t q := by
    apply Fin.ext
    refine (Pipeline.Window.rect_emb_val win0_3 t y (1 : Fin 2)).trans ?_
    rw [e1, y1]
    rfl
  refine (show _ = relu (m ((c.tc : Thread nD τ).loc main_arg0)) (m ((c.tc : Thread nD τ).loc main_arg1)) (row t p) (col t q) from ?_).trans ?_
  · show ((dats m 0 c).after 3 t : S2048x1024.Idx → EReal) ((cfg0.win 3).xinj (cfg0.grid.coords t) y) = _
    rw [hy, after0_3]
    frame_out
    unfold relu
    rw [relu_at, blockDot_dot]
  · exact (congr (congrArg _ i0) i1).symm

end Cert.Kernel6Ideal.Mlp

/-! ### The reference -/

namespace Cert.Reference6Ideal.Mlp

open Cert.Reference6Ideal Cert.Reference6Ideal.Gen
open Idealize.ShloMosaic
open Cert.Mlp.Up (dot square relu)

/-- The reference's product. -/
def prod (a : FVec Ideal S4096x1024 .bf16) (w : FVec Ideal S1024x4096 .bf16) : FVec Ideal S4096x4096 .f32 :=
  Host.dotGeneral dot_S4096x1024_S1024x4096_S4096x4096_1_0_0_1_n_n none (extf .f32 a bitsLt_bf16_f32) (extf .f32 w bitsLt_bf16_f32)

/-- The reference's product at an index. -/
theorem prod_at (a : FVec Ideal S4096x1024 .bf16) (w : FVec Ideal S1024x4096 .bf16) (i j : Fin 4096) : (prod a w (ix2 i j) : EReal) = dot a w i j := by
  unfold dot
  pointwise [prod]

/-- The reference's first result, over its product. -/
def squareArr (z : FVec Ideal S4096x4096 .f32) : FVec Ideal S4096x4096 .bf16 :=
  truncf .bf16 (mulf (maximumf z (broadcastInDim S4096x4096 ![] bcast_S_S4096x4096 (constant S_ .f32 0x00000000#32))) (maximumf z (broadcastInDim S4096x4096 ![] bcast_S_S4096x4096 (constant S_ .f32 0x00000000#32)))) bitsLt_bf16_f32

/-- The reference's second result, over its product. -/
def reluArr (z : FVec Ideal S4096x4096 .f32) : FVec Ideal S4096x4096 .bf16 :=
  truncf .bf16 (maximumf z (broadcastInDim S4096x4096 ![] bcast_S_S4096x4096 (constant S_ .f32 0x00000000#32))) bitsLt_bf16_f32

/-- The reference's first result at an index. -/
theorem squareArr_at (z : FVec Ideal S4096x4096 .f32) (i j : Fin 4096) : (squareArr z (ix2 i j) : EReal) = max (z (ix2 i j)) 0 * max (z (ix2 i j)) 0 := by
  pointwise [squareArr]

/-- The reference's second result at an index. -/
theorem reluArr_at (z : FVec Ideal S4096x4096 .f32) (i j : Fin 4096) : (reluArr z (ix2 i j) : EReal) = max (z (ix2 i j)) 0 := by
  pointwise [reluArr]

/-- The reference's first result is the square. -/
theorem square_res (a : FVec Ideal S4096x1024 .bf16) (w : FVec Ideal S1024x4096 .bf16) (i j : Fin 4096) :
    (squareArr (prod a w) (ix2 i j) : EReal) = square a w i j := by
  rw [squareArr_at, prod_at]
  rfl

/-- The reference's second result is the positive part. -/
theorem relu_res (a : FVec Ideal S4096x1024 .bf16) (w : FVec Ideal S1024x4096 .bf16) (i j : Fin 4096) :
    (reluArr (prod a w) (ix2 i j) : EReal) = relu a w i j := by
  rw [reluArr_at, prod_at]
  rfl

end Cert.Reference6Ideal.Mlp

/-! ### The two together -/

namespace Cert.Mlp.Up

open Idealize.ShloMosaic Idealize.SL.Sem
open Idealize.ShloMosaic.TcCoe

set_option maxHeartbeats 1600000 in
/-- The call's results and the reference's are equal. -/
theorem results_equal : Cert.algebraic_Kernel6Ideal_Reference6Ideal := by
  intro m g m' g' _ harg
  refine ⟨fun c => ((fun i => square (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (i 0) (i 1)) : Cert.Kernel6Ideal.S4096x4096.Idx → EReal), fun c => ((fun i => relu (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (i 0) (i 1)) : Cert.Kernel6Ideal.S4096x4096.Idx → EReal), ?_, ?_⟩
  · refine (θ_run Cert.Kernel6Ideal.defs _ _).mono (fun r h c => ?_) (Cert.Kernel6Ideal.Value.run_blocks (F := Ideal) m g)
    obtain ⟨h1, h2, hrest⟩ := h c
    exact ⟨h1.trans (Cert.Kernel6Ideal.Mlp.final2 m c), h2.trans (Cert.Kernel6Ideal.Mlp.final3 m c), hrest⟩
  · refine (θ_run Cert.Reference6Ideal.defs _ _).mono (fun r h c => ?_) (Cert.Reference6Ideal.Value.run (F := Ideal) m' g')
    obtain ⟨h1, h2, hrest⟩ := h c
    refine ⟨h1.trans ?_, h2.trans ?_, hrest⟩
    · rw [(harg c).1, (harg c).2]
      funext i
      obtain ⟨p, q, rfl⟩ : ∃ p q : Fin 4096, i = ix2 p q := ⟨i 0, i 1, by funext a; fin_cases a <;> rfl⟩
      exact Cert.Reference6Ideal.Mlp.square_res _ _ p q
    · rw [(harg c).1, (harg c).2]
      funext i
      obtain ⟨p, q, rfl⟩ : ∃ p q : Fin 4096, i = ix2 p q := ⟨i 0, i 1, by funext a; fin_cases a <;> rfl⟩
      exact Cert.Reference6Ideal.Mlp.relu_res _ _ p q

end Cert.Mlp.Up

end
-- ==== Proof.Hgrn.In.lean ====
/- The recurrent mixer's first product: the call and its reference leave the same array. -/
module

public import proofs.«01_k».proof.Defs
public import proofs.«01_k».proof.Proof.Gen.Kernel7Ideal.Value
public import proofs.«01_k».proof.Proof.Gen.Reference7Ideal.Run
public import Idealize.ShloMosaic.Lib.Pointwise
public import Idealize.ShloMosaic.Lib.Tactic.CleanTypes
public import Idealize.ShloMosaic.Lib.IdealHost
public import Idealize.ShloMosaic.Lib.Pipeline.ValueKit.Geometry
public import Idealize.ShloMosaic.Lib.Pipeline.ValueKit.Point
public import Idealize.ShloMosaic.Lib.Pipeline.ValueKit.Acc

@[expose] public section

set_option maxRecDepth 16384

noncomputable section

/-! ### The mathematics -/

namespace Cert.Hgrn.In

open Idealize.ShloMosaic

/-- The product of the input's row `i` with the weight's column `j`. -/
def dot (a : (⟨2, ![4096, 1024]⟩ : Shape).Idx → EReal) (w : (⟨2, ![1024, 4096]⟩ : Shape).Idx → EReal) (i j : Fin 4096) : EReal := ∑ k : Fin 1024, a (ix2 i k) * w (ix2 k j)

end Cert.Hgrn.In

/-! ### The kernel -/

namespace Cert.Kernel7Ideal.Hgrn

open Cert.Kernel7Ideal Cert.Kernel7Ideal.Gen
open Idealize.ShloMosaic Idealize.ShloMosaic.TcCoe
open Cert.Hgrn.In (dot)

/-- The product of two blocks, at an index. -/
def blockDot (x0 : S2048x1024.Idx → EReal) (x1 : S1024x1024.Idx → EReal) (p : Fin 2048) (q : Fin 1024) : EReal := ∑ k : Fin 1024, x0 (ix2 p k) * x1 (ix2 k q)

/-- What the body stores, at an index. -/
theorem pay_at (x0 : S2048x1024.Idx → EReal) (x1 : S1024x1024.Idx → EReal) (p : Fin 2048) (q : Fin 1024) :
    (k0_pay1 (F := Ideal) x0 x1 (ix2 p q) : EReal) = blockDot x0 x1 p q := by
  unfold blockDot
  pointwise [k0_pay1]

variable (m : (ℓ : Loc nD τ sig) → Buf (Elt Ideal) ℓ) (c : Dev nD)

/-- The weight's column blocks laid one below the other. -/
def pack (x : FVec Ideal S1024x4096 .bf16) : FVec Ideal S4096x1024 .bf16 :=
  shapeCast _ (transpose S4x1024x1024 [1, 0, 2] (shapeCast _ x shapeCasts_S1024x4096_S1024x4x1024) transposes_S1024x4x1024_S4x1024x1024_1_0_2) shapeCasts_S4x1024x1024_S4096x1024

/-- The weight's column blocks laid one below the other, at an index. -/
theorem pack_at (x : FVec Ideal S1024x4096 .bf16) (i : Fin 4096) (j : Fin 1024) :
    (pack x (ix2 i j) : EReal) = x (ix2 (⟨i.val % 1024, by omega⟩ : Fin 1024) (⟨i.val / 1024 * 1024 + j.val, by omega⟩ : Fin 4096)) := by
  pointwise [pack]

/-- The call reads the weight's column blocks. -/
theorem host_pack : (V m c main_v2 : S4096x1024.Idx → EReal) = pack (m ((c.tc : Thread nD τ).loc main_arg1)) := by
  simp only [V, hostOps0]
  after_results_simp <;> rfl

/-- Where the windows lie at a point. -/
abbrev placeAt (t : Fin cfg0.N) : Prop :=
  (win0_0.index t (0 : Fin 2) = t.val / 4 ∧ win0_0.index t (1 : Fin 2) = 0)
  ∧ (win0_1.index t (0 : Fin 2) = t.val % 4 ∧ win0_1.index t (1 : Fin 2) = 0)
  ∧ (win0_2.index t (0 : Fin 2) = t.val / 4 ∧ win0_2.index t (1 : Fin 2) = t.val % 4)

/-- The windows' places at every point. -/
theorem place_all : ∀ t : Fin cfg0.N, placeAt t := by decide +kernel

/-- The blocks written back fill the array of window 2. -/
theorem covers2 : (cfg0.win 2).Covers := by decide +kernel

/-- A row of the array, of a row block. -/
abbrev row (t : Fin cfg0.N) (p : Fin 2048) : Fin 4096 := ⟨t.val / 4 * 2048 + p.val, by have := t.isLt; have h : cfg0.N = 8 := rfl; omega⟩
/-- A column of the array, of a column block. -/
abbrev col (t : Fin cfg0.N) (q : Fin 1024) : Fin 4096 := ⟨t.val % 4 * 1024 + q.val, by omega⟩

variable (t : Fin cfg0.N)

/-- The input's block at an index. -/
theorem blk0 (p : Fin 2048) (k : Fin 1024) : (iblk m c 0 t : S2048x1024.Idx → EReal) (ix2 p k) = (V m c main_arg0 : S4096x1024.Idx → EReal) (ix2 (row t p) k) := by
  obtain ⟨⟨e0, e1⟩, -⟩ := place_all t
  unfold iblk
  refine congrArg (V m c main_arg0 : S4096x1024.Idx → EReal) ?_
  funext a
  apply Fin.ext
  fin_cases a
  · refine (Pipeline.Window.rect_emb_val win0_0 t (ix2 p k) (0 : Fin 2)).trans ?_
    rw [e0]
    rfl
  · refine (Pipeline.Window.rect_emb_val win0_0 t (ix2 p k) (1 : Fin 2)).trans ?_
    rw [e1]
    show 0 * 1024 + k.val = k.val
    omega

/-- The weight's block at an index. -/
theorem blk1 (k : Fin 1024) (q : Fin 1024) : (iblk m c 1 t : S1024x1024.Idx → EReal) (ix2 k q) = (V m c main_v2 : S4096x1024.Idx → EReal) (ix2 (col t k) q) := by
  obtain ⟨-, ⟨e0, e1⟩, -⟩ := place_all t
  unfold iblk
  refine congrArg (V m c main_v2 : S4096x1024.Idx → EReal) ?_
  funext a
  apply Fin.ext
  fin_cases a
  · refine (Pipeline.Window.rect_emb_val win0_1 t (ix2 k q) (0 : Fin 2)).trans ?_
    rw [e0]
    rfl
  · refine (Pipeline.Window.rect_emb_val win0_1 t (ix2 k q) (1 : Fin 2)).trans ?_
    rw [e1]
    show 0 * 1024 + q.val = q.val
    omega

/-- The product of a point's blocks is a block of the product. -/
theorem blockDot_dot (p : Fin 2048) (q : Fin 1024) :
    blockDot (iblk m c 0 t) (iblk m c 1 t) p q = dot (m ((c.tc : Thread nD τ).loc main_arg0)) (m ((c.tc : Thread nD τ).loc main_arg1)) (row t p) (col t q) := by
  unfold blockDot dot
  refine Finset.sum_congr rfl fun k _ => ?_
  rw [blk0, blk1, V_main_arg0, host_pack, pack_at]
  have h : (⟨(col t k).val % 1024, by omega⟩ : Fin 1024) = k :=
    Fin.ext (show (t.val % 4 * 1024 + k.val) % 1024 = k.val by omega)
  have h' : (⟨(col t k).val / 1024 * 1024 + q.val, by have := (col t k).isLt; omega⟩ : Fin 4096) = col t q :=
    Fin.ext (show (t.val % 4 * 1024 + k.val) / 1024 * 1024 + q.val = t.val % 4 * 1024 + q.val by omega)
  rw [h, h']

/-- The array of window 2 after the call. -/
theorem final2 : ((dats m 0 c).arrAt 2 cfg0.N : S4096x4096.Idx → EReal)
    = fun i => dot (m ((c.tc : Thread nD τ).loc main_arg0)) (m ((c.tc : Thread nD τ).loc main_arg1)) (i 0) (i 1) := by
  refine (dats m 0 c).arrAt_eq_of_covers 2 _ covers2 fun t hf y => ?_
  obtain ⟨-, -, ⟨e0, e1⟩⟩ := place_all t
  obtain ⟨p, q, hy⟩ : ∃ (p : Fin 2048) (q : Fin 1024), (cfg0.win 2).xinj (cfg0.grid.coords t) y = ix2 p q :=
    ⟨_, _, funext fun a => by fin_cases a <;> rfl⟩
  have y0 : (y (0 : Fin 2)).val = p.val := congrArg (fun z : S2048x1024.Idx => (z (0 : Fin 2)).val) hy
  have y1 : (y (1 : Fin 2)).val = q.val := congrArg (fun z : S2048x1024.Idx => (z (1 : Fin 2)).val) hy
  have i0 : (((cfg0.win 2).blk t).view.emb y (0 : Fin 2)) = row t p := by
    apply Fin.ext
    refine (Pipeline.Window.rect_emb_val win0_2 t y (0 : Fin 2)).trans ?_
    rw [e0, y0]
    rfl
  have i1 : (((cfg0.win 2).blk t).view.emb y (1 : Fin 2)) = col t q := by
    apply Fin.ext
    refine (Pipeline.Window.rect_emb_val win0_2 t y (1 : Fin 2)).trans ?_
    rw [e1, y1]
    rfl
  refine (show _ = dot (m ((c.tc : Thread nD τ).loc main_arg0)) (m ((c.tc : Thread nD τ).loc main_arg1)) (row t p) (col t q) from ?_).trans ?_
  · show ((dats m 0 c).after 2 t : S2048x1024.Idx → EReal) ((cfg0.win 2).xinj (cfg0.grid.coords t) y) = _
    rw [hy, after0_2]
    frame_out
    rw [pay_at, blockDot_dot]
  · exact (congr (congrArg _ i0) i1).symm

end Cert.Kernel7Ideal.Hgrn

/-! ### The reference -/

namespace Cert.Reference7Ideal.Hgrn

open Cert.Reference7Ideal Cert.Reference7Ideal.Gen
open Idealize.ShloMosaic
open Cert.Hgrn.In (dot)

/-- The reference's result. -/
def res (a : FVec Ideal S4096x1024 .bf16) (w : FVec Ideal S1024x4096 .bf16) : FVec Ideal S4096x4096 .f32 :=
  Host.dotGeneral dot_S4096x1024_S1024x4096_S4096x4096_1_0_0_1_n_n none (extf .f32 a bitsLt_bf16_f32) (extf .f32 w bitsLt_bf16_f32)

/-- The reference's result at an index. -/
theorem res_at (a : FVec Ideal S4096x1024 .bf16) (w : FVec Ideal S1024x4096 .bf16) (i j : Fin 4096) : (res a w (ix2 i j) : EReal) = dot a w i j := by
  unfold dot
  pointwise [res]

end Cert.Reference7Ideal.Hgrn

/-! ### The two together -/

namespace Cert.Hgrn.In

open Idealize.ShloMosaic Idealize.SL.Sem
open Idealize.ShloMosaic.TcCoe

set_option maxHeartbeats 1600000 in
/-- The call's results and the reference's are equal. -/
theorem results_equal : Cert.algebraic_Kernel7Ideal_Reference7Ideal := by
  intro m g m' g' _ harg
  refine ⟨fun c => ((fun i => dot (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (i 0) (i 1)) : Cert.Kernel7Ideal.S4096x4096.Idx → EReal), ?_, ?_⟩
  · refine (θ_run Cert.Kernel7Ideal.defs _ _).mono (fun r h c => ?_) (Cert.Kernel7Ideal.Value.run_blocks (F := Ideal) m g)
    obtain ⟨h1, hrest⟩ := h c
    exact ⟨h1.trans (Cert.Kernel7Ideal.Hgrn.final2 m c), hrest⟩
  · refine (θ_run Cert.Reference7Ideal.defs _ _).mono (fun r h c => ?_) (Cert.Reference7Ideal.Value.run (F := Ideal) m' g')
    obtain ⟨h1, hrest⟩ := h c
    refine ⟨h1.trans ?_, hrest⟩
    · rw [(harg c).1, (harg c).2]
      funext i
      obtain ⟨p, q, rfl⟩ : ∃ p q : Fin 4096, i = ix2 p q := ⟨i 0, i 1, by funext a; fin_cases a <;> rfl⟩
      exact Cert.Reference7Ideal.Hgrn.res_at _ _ p q

end Cert.Hgrn.In

end
-- ==== Proof.Hgrn.InDw.lean ====
/- The gradient of the recurrent mixer's first weight: the call and its reference leave the same array. -/
module

public import proofs.«01_k».proof.Defs
public import proofs.«01_k».proof.Proof.Gen.Kernel8Ideal.Value
public import proofs.«01_k».proof.Proof.Gen.Reference8Ideal.Run
public import Idealize.ShloMosaic.Lib.Pointwise
public import Idealize.ShloMosaic.Lib.Tactic.CleanTypes
public import Idealize.ShloMosaic.Lib.IdealHost
public import Idealize.ShloMosaic.Lib.Pipeline.ValueKit.Geometry
public import Idealize.ShloMosaic.Lib.Pipeline.ValueKit.Point
public import Idealize.ShloMosaic.Lib.Pipeline.ValueKit.Acc

@[expose] public section

set_option maxRecDepth 16384

noncomputable section

/-! ### The mathematics -/

namespace Cert.Hgrn.InDw

open Idealize.ShloMosaic

/-- The gradient: row `i` of the result is row `i % 1024` of the product, its columns those of the column block `i / 1024`. -/
def grad (a : (⟨2, ![4096, 1024]⟩ : Shape).Idx → EReal) (d : (⟨2, ![4096, 4096]⟩ : Shape).Idx → EReal) (i : Fin 4096) (j : Fin 1024) : EReal :=
  ∑ k : Fin 4096, a (ix2 k (⟨i.val % 1024, by omega⟩ : Fin 1024)) * d (ix2 k (⟨i.val / 1024 * 1024 + j.val, by omega⟩ : Fin 4096))

end Cert.Hgrn.InDw

/-! ### The kernel -/

namespace Cert.Kernel8Ideal.Hgrn

open Cert.Kernel8Ideal Cert.Kernel8Ideal.Gen
open Idealize.ShloMosaic Idealize.ShloMosaic.TcCoe
open Cert.Hgrn.InDw (grad)

/-- What the body stores, at an index. -/
theorem pay_at (x0 x1 : S4096x1024.Idx → EReal) (p q : Fin 1024) :
    (k0_pay1 (F := Ideal) x0 x1 (ix2 p q) : EReal) = ∑ k : Fin 4096, x0 (ix2 k p) * x1 (ix2 k q) := by
  pointwise [k0_pay1]

variable (m : (ℓ : Loc nD τ sig) → Buf (Elt Ideal) ℓ) (c : Dev nD)

/-- Where the windows lie at a point. -/
abbrev placeAt (t : Fin cfg0.N) : Prop :=
  (win0_0.index t (0 : Fin 2) = 0 ∧ win0_0.index t (1 : Fin 2) = 0)
  ∧ (win0_1.index t (0 : Fin 2) = 0 ∧ win0_1.index t (1 : Fin 2) = t.val)
  ∧ (win0_2.index t (0 : Fin 2) = t.val ∧ win0_2.index t (1 : Fin 2) = 0)

/-- The windows' places at every point. -/
theorem place_all : ∀ t : Fin cfg0.N, placeAt t := by decide +kernel

/-- The blocks written back fill the array. -/
theorem covers : (cfg0.win 2).Covers := by decide +kernel

/-- The place in the array of a place in a block. -/
abbrev at4 (t : Fin cfg0.N) (p : Fin 1024) : Fin 4096 := ⟨t.val * 1024 + p.val, by have := t.isLt; have h : cfg0.N = 4 := rfl; omega⟩

variable (t : Fin cfg0.N)

/-- The activation's block at an index. -/
theorem blk0 (k : Fin 4096) (p : Fin 1024) : (iblk m c 0 t : S4096x1024.Idx → EReal) (ix2 k p) = (V m c main_arg0 : S4096x1024.Idx → EReal) (ix2 k p) := by
  obtain ⟨⟨e0, e1⟩, -⟩ := place_all t
  unfold iblk
  refine congrArg (V m c main_arg0 : S4096x1024.Idx → EReal) ?_
  funext a
  apply Fin.ext
  fin_cases a
  · refine (Pipeline.Window.rect_emb_val win0_0 t (ix2 k p) (0 : Fin 2)).trans ?_
    rw [e0]
    show 0 * 4096 + k.val = k.val
    omega
  · refine (Pipeline.Window.rect_emb_val win0_0 t (ix2 k p) (1 : Fin 2)).trans ?_
    rw [e1]
    show 0 * 1024 + p.val = p.val
    omega

/-- The incoming gradient's block at an index. -/
theorem blk1 (k : Fin 4096) (p : Fin 1024) : (iblk m c 1 t : S4096x1024.Idx → EReal) (ix2 k p) = (V m c main_arg1 : S4096x4096.Idx → EReal) (ix2 k (at4 t p)) := by
  obtain ⟨-, ⟨e0, e1⟩, -⟩ := place_all t
  unfold iblk
  refine congrArg (V m c main_arg1 : S4096x4096.Idx → EReal) ?_
  funext a
  apply Fin.ext
  fin_cases a
  · refine (Pipeline.Window.rect_emb_val win0_1 t (ix2 k p) (0 : Fin 2)).trans ?_
    rw [e0]
    show 0 * 4096 + k.val = k.val
    omega
  · refine (Pipeline.Window.rect_emb_val win0_1 t (ix2 k p) (1 : Fin 2)).trans ?_
    rw [e1]
    rfl

/-- The gradient at a place of a block. -/
theorem grad_at (a : S4096x1024.Idx → EReal) (d : S4096x4096.Idx → EReal) (p q : Fin 1024) :
    grad a d (at4 t p) q = ∑ k : Fin 4096, a (ix2 k p) * d (ix2 k (at4 t q)) := by
  have h : (⟨(at4 t p).val % 1024, by omega⟩ : Fin 1024) = p :=
    Fin.ext (show (t.val * 1024 + p.val) % 1024 = p.val by omega)
  have h' : (⟨(at4 t p).val / 1024 * 1024 + q.val, by have := (at4 t p).isLt; omega⟩ : Fin 4096) = at4 t q :=
    Fin.ext (show (t.val * 1024 + p.val) / 1024 * 1024 + q.val = t.val * 1024 + q.val by omega)
  unfold grad
  rw [h, h']

/-- The array after the call. -/
theorem final : ((dats m 0 c).arrAt 2 cfg0.N : S4096x1024.Idx → EReal)
    = fun i => grad (m ((c.tc : Thread nD τ).loc main_arg0)) (m ((c.tc : Thread nD τ).loc main_arg1)) (i 0) (i 1) := by
  refine (dats m 0 c).arrAt_eq_of_covers 2 _ covers fun t hf y => ?_
  obtain ⟨-, -, ⟨e0, e1⟩⟩ := place_all t
  obtain ⟨p, q, hy⟩ : ∃ (p : Fin 1024) (q : Fin 1024), (cfg0.win 2).xinj (cfg0.grid.coords t) y = ix2 p q :=
    ⟨_, _, funext fun a => by fin_cases a <;> rfl⟩
  have y0 : (y (0 : Fin 2)).val = p.val := congrArg (fun z : S1024x1024.Idx => (z (0 : Fin 2)).val) hy
  have y1 : (y (1 : Fin 2)).val = q.val := congrArg (fun z : S1024x1024.Idx => (z (1 : Fin 2)).val) hy
  have i0 : (((cfg0.win 2).blk t).view.emb y (0 : Fin 2)) = at4 t p := by
    apply Fin.ext
    refine (Pipeline.Window.rect_emb_val win0_2 t y (0 : Fin 2)).trans ?_
    rw [e0, y0]
    rfl
  have i1 : (((cfg0.win 2).blk t).view.emb y (1 : Fin 2)) = q := by
    apply Fin.ext
    refine (Pipeline.Window.rect_emb_val win0_2 t y (1 : Fin 2)).trans ?_
    rw [e1, y1]
    show 0 * 1024 + q.val = q.val
    omega
  refine (show _ = grad (m ((c.tc : Thread nD τ).loc main_arg0)) (m ((c.tc : Thread nD τ).loc main_arg1)) (at4 t p) q from ?_).trans ?_
  · show ((dats m 0 c).after 2 t : S1024x1024.Idx → EReal) ((cfg0.win 2).xinj (cfg0.grid.coords t) y) = _
    rw [hy, after0_2]
    unfold outsAt0
    frame_out
    rw [pay_at]
    simp only [blk0, blk1]
    rw [V_main_arg0, V_main_arg1]
    exact (grad_at t _ _ p q).symm
  · exact (congr (congrArg _ i0) i1).symm

end Cert.Kernel8Ideal.Hgrn

/-! ### The reference -/

namespace Cert.Reference8Ideal.Hgrn

open Cert.Reference8Ideal Cert.Reference8Ideal.Gen
open Idealize.ShloMosaic
open Cert.Hgrn.InDw (grad)

/-- The reference's product. -/
def prod (a : FVec Ideal S4096x1024 .bf16) (d : FVec Ideal S4096x4096 .bf16) : FVec Ideal S1024x4096 .bf16 :=
  truncf .bf16 (transpose S1024x4096 [1, 0] (Host.dotGeneral dot_S4096x4096_S4096x1024_S4096x1024_0_0_1_1_n_n none (extf .f32 d bitsLt_bf16_f32) (extf .f32 a bitsLt_bf16_f32)) transposes_S4096x1024_S1024x4096_1_0) bitsLt_bf16_f32

/-- The reference's product at an index. -/
theorem prod_at (a : FVec Ideal S4096x1024 .bf16) (d : FVec Ideal S4096x4096 .bf16) (i : Fin 1024) (j : Fin 4096) :
    (prod a d (ix2 i j) : EReal) = ∑ k : Fin 4096, (d (ix2 k j) : EReal) * a (ix2 k i) := by
  pointwise [prod]

/-- Column blocks laid one below the other. -/
def pack (x : FVec Ideal S1024x4096 .bf16) : FVec Ideal S4096x1024 .bf16 :=
  shapeCast _ (transpose S4x1024x1024 [1, 0, 2] (shapeCast _ x shapeCasts_S1024x4096_S1024x4x1024) transposes_S1024x4x1024_S4x1024x1024_1_0_2) shapeCasts_S4x1024x1024_S4096x1024

/-- Column blocks laid one below the other, at an index. -/
theorem pack_at (x : FVec Ideal S1024x4096 .bf16) (i : Fin 4096) (j : Fin 1024) :
    (pack x (ix2 i j) : EReal) = x (ix2 (⟨i.val % 1024, by omega⟩ : Fin 1024) (⟨i.val / 1024 * 1024 + j.val, by omega⟩ : Fin 4096)) := by
  pointwise [pack]

end Cert.Reference8Ideal.Hgrn

/-! ### The two together -/

namespace Cert.Hgrn.InDw

open Idealize.ShloMosaic Idealize.SL.Sem
open Idealize.ShloMosaic.TcCoe

set_option maxHeartbeats 1600000 in
/-- The call's result and the reference's are equal. -/
theorem results_equal : Cert.algebraic_Kernel8Ideal_Reference8Ideal := by
  intro m g m' g' _ harg
  refine ⟨fun c => ((fun i => grad (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (i 0) (i 1)) : Cert.Kernel8Ideal.S4096x1024.Idx → EReal), ?_, ?_⟩
  · refine (θ_run Cert.Kernel8Ideal.defs _ _).mono (fun r h c => ?_) (Cert.Kernel8Ideal.Value.run_blocks (F := Ideal) m g)
    obtain ⟨h1, hrest⟩ := h c
    exact ⟨h1.trans (Cert.Kernel8Ideal.Hgrn.final m c), hrest⟩
  · refine (θ_run Cert.Reference8Ideal.defs _ _).mono (fun r h c => ?_) (Cert.Reference8Ideal.Value.run (F := Ideal) m' g')
    obtain ⟨h1, hrest⟩ := h c
    refine ⟨h1.trans ?_, hrest⟩
    rw [(harg c).1, (harg c).2.1]
    funext i
    obtain ⟨p, q, rfl⟩ : ∃ (p : Fin 4096) (q : Fin 1024), i = ix2 p q := ⟨i 0, i 1, by funext a; fin_cases a <;> rfl⟩
    refine (Cert.Reference8Ideal.Hgrn.pack_at (Cert.Reference8Ideal.Hgrn.prod _ _) p q).trans ?_
    rw [Cert.Reference8Ideal.Hgrn.prod_at]
    refine Finset.sum_congr rfl fun k _ => ?_
    exact mul_comm _ _

end Cert.Hgrn.InDw

end
-- ==== Proof.Hgrn.InDx.lean ====
/- The gradient that goes back through the recurrent mixer's first product: the call and its reference leave the same array. -/
module

public import proofs.«01_k».proof.Defs
public import proofs.«01_k».proof.Proof.Gen.Kernel9Ideal.Value
public import proofs.«01_k».proof.Proof.Gen.Reference9Ideal.Run
public import Idealize.ShloMosaic.Lib.Pointwise
public import Idealize.ShloMosaic.Lib.Tactic.CleanTypes
public import Idealize.ShloMosaic.Lib.IdealHost
public import Idealize.ShloMosaic.Lib.Pipeline.ValueKit.Geometry
public import Idealize.ShloMosaic.Lib.Pipeline.ValueKit.Point
public import Idealize.ShloMosaic.Lib.Pipeline.ValueKit.Acc

@[expose] public section

set_option maxRecDepth 16384

noncomputable section

/-! ### The mathematics -/

namespace Cert.Hgrn.InDx

open Idealize.ShloMosaic

/-- The gradient: the incoming gradient's row `i` with the weight's row `j`. -/
def grad (d : (⟨2, ![4096, 4096]⟩ : Shape).Idx → EReal) (w : (⟨2, ![1024, 4096]⟩ : Shape).Idx → EReal) (i : Fin 4096) (j : Fin 1024) : EReal :=
  ∑ k : Fin 4096, d (ix2 i k) * w (ix2 j k)

/-- The part of it that one of the four column blocks gives. -/
def part (d : (⟨2, ![4096, 4096]⟩ : Shape).Idx → EReal) (w : (⟨2, ![1024, 4096]⟩ : Shape).Idx → EReal) (i : Fin 4096) (j : Fin 1024) (s : Fin 4) : EReal :=
  ∑ k : Fin 1024, d (ix2 i (⟨s.val * 1024 + k.val, by omega⟩ : Fin 4096)) * w (ix2 j (⟨s.val * 1024 + k.val, by omega⟩ : Fin 4096))

/-- The four parts make the whole. -/
theorem parts_sum (d : (⟨2, ![4096, 4096]⟩ : Shape).Idx → EReal) (w : (⟨2, ![1024, 4096]⟩ : Shape).Idx → EReal) (i : Fin 4096) (j : Fin 1024) :
    ((part d w i j 0 + part d w i j 1) + part d w i j 2) + part d w i j 3 = grad d w i j := by
  refine (Fin.sum_univ_four (part d w i j)).symm.trans ?_
  unfold part grad
  exact Fin.sum_mul_add_fin 4 1024 (fun l : Fin 4096 => d (ix2 i l) * w (ix2 j l))

end Cert.Hgrn.InDx

/-! ### The kernel -/

namespace Cert.Kernel9Ideal.Hgrn

open Cert.Kernel9Ideal Cert.Kernel9Ideal.Gen
open Idealize.ShloMosaic Idealize.ShloMosaic.TcCoe
open Cert.Hgrn.InDx (grad part parts_sum)

/-- The product of two blocks, at an index. -/
def blockDot (x0 : S2048x1024.Idx → EReal) (x1 : S1024x1024.Idx → EReal) (p : Fin 2048) (q : Fin 1024) : EReal := ∑ k : Fin 1024, x0 (ix2 p k) * x1 (ix2 q k)

/-- What the first of the four points stores, at an index. -/
theorem first_at (x0 : S2048x1024.Idx → EReal) (x1 : S1024x1024.Idx → EReal) (p : Fin 2048) (q : Fin 1024) :
    (k0_pay2 (F := Ideal) x0 x1 (ix2 p q) : EReal) = blockDot x0 x1 p q := by
  unfold blockDot
  pointwise [k0_pay2, k0_pay1]

/-- What the two middle points store, at an index. -/
theorem middle_at (x0 : S2048x1024.Idx → EReal) (x1 : S1024x1024.Idx → EReal) (s : S2048x1024.Idx → EReal) (p : Fin 2048) (q : Fin 1024) :
    (k0_pay3 (F := Ideal) x0 x1 s (ix2 p q) : EReal) = s (ix2 p q) + blockDot x0 x1 p q := by
  unfold blockDot
  pointwise [k0_pay3, k0_pay1]

/-- What the last of the four points stores, at an index. -/
theorem last_at (x0 : S2048x1024.Idx → EReal) (x1 : S1024x1024.Idx → EReal) (s : S2048x1024.Idx → EReal) (p : Fin 2048) (q : Fin 1024) :
    (k0_pay4 (F := Ideal) x0 x1 s (ix2 p q) : EReal) = s (ix2 p q) + blockDot x0 x1 p q := by
  unfold blockDot
  pointwise [k0_pay4, k0_pay1]

variable (m : (ℓ : Loc nD τ sig) → Buf (Elt Ideal) ℓ) (c : Dev nD)

/-- The weight's column blocks laid one below the other. -/
def pack (x : FVec Ideal S1024x4096 .bf16) : FVec Ideal S4096x1024 .bf16 :=
  shapeCast _ (transpose S4x1024x1024 [1, 0, 2] (shapeCast _ x shapeCasts_S1024x4096_S1024x4x1024) transposes_S1024x4x1024_S4x1024x1024_1_0_2) shapeCasts_S4x1024x1024_S4096x1024

/-- The weight's column blocks laid one below the other, at an index. -/
theorem pack_at (x : FVec Ideal S1024x4096 .bf16) (i : Fin 4096) (j : Fin 1024) :
    (pack x (ix2 i j) : EReal) = x (ix2 (⟨i.val % 1024, by omega⟩ : Fin 1024) (⟨i.val / 1024 * 1024 + j.val, by omega⟩ : Fin 4096)) := by
  pointwise [pack]

/-- The call reads the weight's column blocks. -/
theorem host_pack : (V m c main_v2 : S4096x1024.Idx → EReal) = pack (m ((c.tc : Thread nD τ).loc main_arg1)) := by
  simp only [V, hostOps0]
  after_results_simp <;> rfl

/-- Where the windows lie at a point. -/
abbrev placeAt (t : Fin cfg0.N) : Prop :=
  (win0_0.index t (0 : Fin 2) = t.val / 4 ∧ win0_0.index t (1 : Fin 2) = t.val % 4)
  ∧ (win0_1.index t (0 : Fin 2) = t.val % 4 ∧ win0_1.index t (1 : Fin 2) = 0)
  ∧ (win0_2.index t (0 : Fin 2) = t.val / 4 ∧ win0_2.index t (1 : Fin 2) = 0)

/-- The windows' places at every point. -/
theorem place_all : ∀ t : Fin cfg0.N, placeAt t := by decide +kernel

/-- The blocks written back fill the array. -/
theorem covers : (cfg0.win 2).Covers := by decide +kernel

/-- A row of the array, of a row block. -/
abbrev row (t : Fin cfg0.N) (p : Fin 2048) : Fin 4096 := ⟨t.val / 4 * 2048 + p.val, by have := t.isLt; have h : cfg0.N = 8 := rfl; omega⟩
/-- A column of the incoming gradient, of a column block. -/
abbrev col (t : Fin cfg0.N) (k : Fin 1024) : Fin 4096 := ⟨t.val % 4 * 1024 + k.val, by omega⟩

variable (t : Fin cfg0.N)

/-- The incoming gradient's block at an index. -/
theorem blk0 (p : Fin 2048) (k : Fin 1024) : (iblk m c 0 t : S2048x1024.Idx → EReal) (ix2 p k) = (V m c main_arg0 : S4096x4096.Idx → EReal) (ix2 (row t p) (col t k)) := by
  obtain ⟨⟨e0, e1⟩, -⟩ := place_all t
  unfold iblk
  refine congrArg (V m c main_arg0 : S4096x4096.Idx → EReal) ?_
  funext a
  apply Fin.ext
  fin_cases a
  · refine (Pipeline.Window.rect_emb_val win0_0 t (ix2 p k) (0 : Fin 2)).trans ?_
    rw [e0]
    rfl
  · refine (Pipeline.Window.rect_emb_val win0_0 t (ix2 p k) (1 : Fin 2)).trans ?_
    rw [e1]
    rfl

/-- The weight's block at an index. -/
theorem blk1 (q : Fin 1024) (k : Fin 1024) : (iblk m c 1 t : S1024x1024.Idx → EReal) (ix2 q k) = (V m c main_v2 : S4096x1024.Idx → EReal) (ix2 (col t q) k) := by
  obtain ⟨-, ⟨e0, e1⟩, -⟩ := place_all t
  unfold iblk
  refine congrArg (V m c main_v2 : S4096x1024.Idx → EReal) ?_
  funext a
  apply Fin.ext
  fin_cases a
  · refine (Pipeline.Window.rect_emb_val win0_1 t (ix2 q k) (0 : Fin 2)).trans ?_
    rw [e0]
    rfl
  · refine (Pipeline.Window.rect_emb_val win0_1 t (ix2 q k) (1 : Fin 2)).trans ?_
    rw [e1]
    show 0 * 1024 + k.val = k.val
    omega

/-- The product of a point's blocks is a part of the gradient. -/
theorem blockDot_part (p : Fin 2048) (q : Fin 1024) :
    blockDot (iblk m c 0 t) (iblk m c 1 t) p q = part (m ((c.tc : Thread nD τ).loc main_arg0)) (m ((c.tc : Thread nD τ).loc main_arg1)) (row t p) q ⟨t.val % 4, by omega⟩ := by
  unfold blockDot part
  refine Finset.sum_congr rfl fun k _ => ?_
  rw [blk0, blk1, V_main_arg0, host_pack, pack_at]
  have h : (⟨(col t q).val % 1024, by omega⟩ : Fin 1024) = q :=
    Fin.ext (show (t.val % 4 * 1024 + q.val) % 1024 = q.val by omega)
  have h' : (⟨(col t q).val / 1024 * 1024 + k.val, by have := (col t q).isLt; omega⟩ : Fin 4096) = col t k :=
    Fin.ext (show (t.val % 4 * 1024 + q.val) / 1024 * 1024 + k.val = t.val % 4 * 1024 + k.val by omega)
  rw [h, h']

/-- The running sum after the first of the four points. -/
theorem run_first (h0 : t.val % 4 = 0) (p : Fin 2048) (q : Fin 1024) :
    ((outsAt0 m c t.val t.isLt).2 (ix2 p q) : EReal) = blockDot (iblk m c 0 t) (iblk m c 1 t) p q := by
  rw [outsAt0_A m c t h0 (by omega) (by omega)]
  frame_out
  rw [first_at]

/-- The running sum after a middle point. -/
theorem run_middle (h1 : 1 ≤ t.val % 4 ∧ t.val % 4 ≤ 2) (p : Fin 2048) (q : Fin 1024) :
    ((outsAt0 m c t.val t.isLt).2 (ix2 p q) : EReal)
      = (outsAt0 m c (t.val - 1) (Nat.lt_of_le_of_lt (Nat.sub_le _ _) t.isLt)).2 (ix2 p q) + blockDot (iblk m c 0 t) (iblk m c 1 t) p q := by
  rw [outsAt0_B m c t (by omega) h1 (by omega)]
  frame_out
  rw [middle_at]
  exact congrArg (fun z : EReal => z + _) (congrFun ((Memref.isWhole_whole cc0_scratch0).read_unread _) _)

/-- The block after the last of the four points. -/
theorem run_last (h2 : t.val % 4 = 3) (p : Fin 2048) (q : Fin 1024) :
    ((outsAt0 m c t.val t.isLt).1 (ix2 p q) : EReal)
      = (outsAt0 m c (t.val - 1) (Nat.lt_of_le_of_lt (Nat.sub_le _ _) t.isLt)).2 (ix2 p q) + blockDot (iblk m c 0 t) (iblk m c 1 t) p q := by
  rw [outsAt0_C m c t (by omega) (by omega) h2]
  frame_out
  rw [last_at]
  exact congrArg (fun z : EReal => z + _) (congrFun ((Memref.isWhole_whole cc0_scratch0).read_unread _) _)

/-- The block that the last of the four points of a row block leaves. -/
theorem run_block (b : ℕ) (hb : 4 * b + 3 < cfg0.N) (p : Fin 2048) (q : Fin 1024) :
    ((outsAt0 m c (4 * b + 3) hb).1 (ix2 p q) : EReal)
      = grad (m ((c.tc : Thread nD τ).loc main_arg0)) (m ((c.tc : Thread nD τ).loc main_arg1)) (row ⟨4 * b + 3, hb⟩ p) q := by
  have hd : ∀ s (hs : s < 4), row (⟨4 * b + s, by omega⟩ : Fin cfg0.N) p = row ⟨4 * b + 3, hb⟩ p := fun s hs =>
    Fin.ext (show (4 * b + s) / 4 * 2048 + p.val = (4 * b + 3) / 4 * 2048 + p.val by omega)
  have hm : ∀ s (hs : s < 4), (⟨(4 * b + s) % 4, by omega⟩ : Fin 4) = ⟨s, hs⟩ := fun s hs => Fin.ext (show (4 * b + s) % 4 = s by omega)
  have e3 := run_last m c ⟨4 * b + 3, hb⟩ (show (4 * b + 3) % 4 = 3 by omega) p q
  have e2 := run_middle m c ⟨4 * b + 2, by omega⟩ (show 1 ≤ (4 * b + 2) % 4 ∧ (4 * b + 2) % 4 ≤ 2 by omega) p q
  have e1 := run_middle m c ⟨4 * b + 1, by omega⟩ (show 1 ≤ (4 * b + 1) % 4 ∧ (4 * b + 1) % 4 ≤ 2 by omega) p q
  have e0 := run_first m c ⟨4 * b + 0, by omega⟩ (show (4 * b + 0) % 4 = 0 by omega) p q
  rw [blockDot_part] at e0 e1 e2 e3
  rw [hd 0 (by omega)] at e0
  rw [hd 1 (by omega)] at e1
  rw [hd 2 (by omega)] at e2
  refine e3.trans (Eq.trans ?_ (parts_sum _ _ (row ⟨4 * b + 3, hb⟩ p) q))
  refine congr (congrArg HAdd.hAdd (e2.trans (congr (congrArg HAdd.hAdd (e1.trans (congr (congrArg HAdd.hAdd (e0.trans (congrArg _ (hm 0 (by omega))))) (congrArg _ (hm 1 (by omega)))))) (congrArg _ (hm 2 (by omega)))))) (congrArg _ (hm 3 (by omega)))

/-- The array after the call. -/
theorem final : ((dats m 0 c).arrAt 2 cfg0.N : S4096x1024.Idx → EReal)
    = fun i => grad (m ((c.tc : Thread nD τ).loc main_arg0)) (m ((c.tc : Thread nD τ).loc main_arg1)) (i 0) (i 1) := by
  refine (dats m 0 c).arrAt_eq_of_covers 2 _ covers fun t hf y => ?_
  have hm : t.val % 4 = 3 := (flush0_2 t).mp hf
  obtain ⟨-, -, ⟨e0, e1⟩⟩ := place_all t
  obtain ⟨p, q, hy⟩ : ∃ (p : Fin 2048) (q : Fin 1024), (cfg0.win 2).xinj (cfg0.grid.coords t) y = ix2 p q :=
    ⟨_, _, funext fun a => by fin_cases a <;> rfl⟩
  have y0 : (y (0 : Fin 2)).val = p.val := congrArg (fun z : S2048x1024.Idx => (z (0 : Fin 2)).val) hy
  have y1 : (y (1 : Fin 2)).val = q.val := congrArg (fun z : S2048x1024.Idx => (z (1 : Fin 2)).val) hy
  have i0 : (((cfg0.win 2).blk t).view.emb y (0 : Fin 2)) = row t p := by
    apply Fin.ext
    refine (Pipeline.Window.rect_emb_val win0_2 t y (0 : Fin 2)).trans ?_
    rw [e0, y0]
    rfl
  have i1 : (((cfg0.win 2).blk t).view.emb y (1 : Fin 2)) = q := by
    apply Fin.ext
    refine (Pipeline.Window.rect_emb_val win0_2 t y (1 : Fin 2)).trans ?_
    rw [e1, y1]
    show 0 * 1024 + q.val = q.val
    omega
  refine (show _ = grad (m ((c.tc : Thread nD τ).loc main_arg0)) (m ((c.tc : Thread nD τ).loc main_arg1)) (row t p) q from ?_).trans ?_
  · show ((dats m 0 c).after 2 t : S2048x1024.Idx → EReal) ((cfg0.win 2).xinj (cfg0.grid.coords t) y) = _
    rw [hy, after0_2]
    obtain ⟨b, hb⟩ : ∃ b, t.val = 4 * b + 3 := ⟨t.val / 4, by omega⟩
    obtain ⟨n, hn⟩ := t
    obtain rfl : n = 4 * b + 3 := hb
    exact run_block m c b hn p q
  · exact (congr (congrArg _ i0) i1).symm

end Cert.Kernel9Ideal.Hgrn

/-! ### The reference -/

namespace Cert.Reference9Ideal.Hgrn

open Cert.Reference9Ideal Cert.Reference9Ideal.Gen
open Idealize.ShloMosaic
open Cert.Hgrn.InDx (grad)

/-- The reference's result. -/
def res (d : FVec Ideal S4096x4096 .bf16) (w : FVec Ideal S1024x4096 .bf16) : FVec Ideal S4096x1024 .f32 :=
  Host.dotGeneral dot_S4096x4096_S1024x4096_S4096x1024_1_1_0_0_n_n none (extf .f32 d bitsLt_bf16_f32) (extf .f32 w bitsLt_bf16_f32)

/-- The reference's result at an index. -/
theorem res_at (d : FVec Ideal S4096x4096 .bf16) (w : FVec Ideal S1024x4096 .bf16) (i : Fin 4096) (j : Fin 1024) :
    (res d w (ix2 i j) : EReal) = grad d w i j := by
  unfold grad
  pointwise [res]

end Cert.Reference9Ideal.Hgrn

/-! ### The two together -/

namespace Cert.Hgrn.InDx

open Idealize.ShloMosaic Idealize.SL.Sem
open Idealize.ShloMosaic.TcCoe

set_option maxHeartbeats 1600000 in
/-- The call's result and the reference's are equal. -/
theorem results_equal : Cert.algebraic_Kernel9Ideal_Reference9Ideal := by
  intro m g m' g' _ harg
  refine ⟨fun c => ((fun i => grad (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (i 0) (i 1)) : Cert.Kernel9Ideal.S4096x1024.Idx → EReal), ?_, ?_⟩
  · refine (θ_run Cert.Kernel9Ideal.defs _ _).mono (fun r h c => ?_) (Cert.Kernel9Ideal.Value.run_blocks (F := Ideal) m g)
    obtain ⟨h1, hrest⟩ := h c
    exact ⟨h1.trans (Cert.Kernel9Ideal.Hgrn.final m c), hrest⟩
  · refine (θ_run Cert.Reference9Ideal.defs _ _).mono (fun r h c => ?_) (Cert.Reference9Ideal.Value.run (F := Ideal) m' g')
    obtain ⟨h1, hrest⟩ := h c
    refine ⟨h1.trans ?_, hrest⟩
    rw [(harg c).1, (harg c).2]
    funext i
    obtain ⟨p, q, rfl⟩ : ∃ (p : Fin 4096) (q : Fin 1024), i = ix2 p q := ⟨i 0, i 1, by funext a; fin_cases a <;> rfl⟩
    exact Cert.Reference9Ideal.Hgrn.res_at _ _ p q

end Cert.Hgrn.InDx

end
-- ==== Proof.lean ====
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import Idealize.ShloMosaic.Adequacy
public import Idealize.ShloMosaic.Init
public import Idealize.ShloMosaic.Lib.Quiescent
public import proofs.«01_k».proof.Proof.Attn.Frames
public import proofs.«01_k».proof.Proof.Attn.Value
public import proofs.«01_k».proof.Proof.Mlp.DownDx
public import proofs.«01_k».proof.Proof.Mlp.DownDw
public import proofs.«01_k».proof.Proof.Mlp.UpDw
public import proofs.«01_k».proof.Proof.Mlp.UpDx
public import proofs.«01_k».proof.Proof.Mlp.Up
public import proofs.«01_k».proof.Proof.Hgrn.In
public import proofs.«01_k».proof.Proof.Hgrn.InDw
public import proofs.«01_k».proof.Proof.Hgrn.InDx

@[expose] public section

noncomputable section

set_option maxRecDepth 16384

namespace Cert.Proof

open Idealize.ShloMosaic Idealize.SL.Sem
open Idealize.ShloMosaic.TcCoe

/-- The kernel runs and keeps its arguments. -/
theorem frame_kernel : Cert.quiescent_Kernel := fun m ρ _ => kernel_args m ρ

/-- The idealized kernel runs and keeps its arguments. -/
theorem frame_ideal : Cert.quiescent_KernelIdeal := fun m ρ _ => run_args (F := Ideal) m ρ

/-- The idealized reference runs and keeps its arguments. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The shapes and widths the precondition's operations ask for. -/
theorem preFacts : Cert.Pre_finite.Facts where
  bitsLt_bf16_f32 := by decide
  bcast_S_S4096x2048 := by decide
  reducesTo_S4096x2048_S_d0_1 := by decide
  h_S_ := by decide
  bcast_S_S4096x1024 := by decide
  reducesTo_S4096x1024_S_d0_1 := by decide

/-- The idealized kernel runs and keeps its arguments, of finite arguments. -/
theorem frame_ideal_finite [hPre_finite : Cert.Pre_finite.Facts] : Cert.quiescent_KernelIdeal_pre_finite := fun m ρ _ => run_args (F := Ideal) m ρ

/-- The idealized reference runs and keeps its arguments, of finite arguments. -/
theorem frame_reference_finite [hPre_finite : Cert.Pre_finite.Facts] : Cert.quiescent_ReferenceIdeal_pre_finite := fun m ρ _ => frame_reference m ρ trivial

/-- The reference for the gradient of the second product's input runs and keeps its arguments. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The reference for the gradient of the second product's weight runs and keeps its arguments. -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The reference for the gradient of the first product's weight runs and keeps its arguments. -/
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The reference for the gradient of the first product's input runs and keeps its arguments. -/
theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The reference for the perceptron's first product runs and keeps its arguments. -/
theorem frame_reference6 : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- The reference for the recurrent mixer's first product runs and keeps its arguments. -/
theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The reference for the gradient of the recurrent mixer's first weight runs and keeps its arguments. -/
theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The reference for the gradient of the recurrent mixer's input runs and keeps its arguments. -/
theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- Everything claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  preFacts, frame_kernel, frame_ideal,
  frame_ideal_finite (hPre_finite := preFacts), frame_reference, frame_reference_finite (hPre_finite := preFacts),
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  trivial, results_equal (hPre_finite := preFacts),
  trivial, Cert.Mlp.DownDx.results_equal,
  trivial, Cert.Mlp.DownDw.results_equal,
  trivial, Cert.Mlp.UpDw.results_equal,
  trivial, Cert.Mlp.UpDx.results_equal,
  trivial, Cert.Mlp.Up.results_equal,
  trivial, Cert.Hgrn.In.results_equal,
  trivial, Cert.Hgrn.InDw.results_equal,
  trivial, Cert.Hgrn.InDx.results_equal⟩

end Cert.Proof

end
